-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v239) = v1 c
          ∧ r.2.mem ((c.tc : Thread Cert.ReferenceIdeal.nD Cert.ReferenceIdeal.τ).loc Cert.ReferenceIdeal.main_v283) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2048x128 : Shape := ⟨2, ![2048, 128]⟩
abbrev S6144x128 : Shape := ⟨2, ![6144, 128]⟩
abbrev S4096x128 : Shape := ⟨2, ![4096, 128]⟩
abbrev S128 : Shape := ⟨1, ![128]⟩
abbrev S2048x6144 : Shape := ⟨2, ![2048, 6144]⟩
abbrev S6144x4096 : Shape := ⟨2, ![6144, 4096]⟩
abbrev S128x128 : Shape := ⟨2, ![128, 128]⟩
abbrev S2x3x128x128 : Shape := ⟨4, ![2, 3, 128, 128]⟩
abbrev S2x128x128 : Shape := ⟨3, ![2, 128, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S6144x128 : S_.BroadcastsInDim S6144x128 (![] : Fin 0 → Fin S6144x128.rank)
  reducesTo_S6144x128_S_d0_1 : S6144x128.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_
  bcast_S_S2048x6144 : S_.BroadcastsInDim S2048x6144 (![] : Fin 0 → Fin S2048x6144.rank)
  reducesTo_S2048x6144_S_d0_1 : S2048x6144.ReducesTo [0, 1] S_
  bcast_S_S6144x4096 : S_.BroadcastsInDim S6144x4096 (![] : Fin 0 → Fin S6144x4096.rank)
  reducesTo_S6144x4096_S_d0_1 : S6144x4096.ReducesTo [0, 1] S_
  bcast_S_S128x128 : S_.BroadcastsInDim S128x128 (![] : Fin 0 → Fin S128x128.rank)
  reducesTo_S128x128_S_d0_1 : S128x128.ReducesTo [0, 1] S_
  bcast_S_S2x3x128x128 : S_.BroadcastsInDim S2x3x128x128 (![] : Fin 0 → Fin S2x3x128x128.rank)
  reducesTo_S2x3x128x128_S_d0_1_2_3 : S2x3x128x128.ReducesTo [0, 1, 2, 3] S_
  bcast_S_S2x128x128 : S_.BroadcastsInDim S2x128x128 (![] : Fin 0 → Fin S2x128x128.rank)
  reducesTo_S2x128x128_S_d0_1_2 : S2x128x128.ReducesTo [0, 1, 2] S_

variable [Facts]

def fn_part6 {F : FTy → Type} [FloatOps F] (main_arg21 : FVec F S2x128x128 .f32) (main_arg22 : FVec F S2x128x128 .f32) (main_arg23 : FVec F S2x128x128 .f32) (main_v98 : IVec S_ 1) (main_v101 : IVec S2x128x128 1) (main_c_39 : IVec S_ 1) : IVec S_ 1 :=
  let main_v102 : IVec S_ 1 := (fun x v => Host.reduce IntOp.andi x v reducesTo_S2x128x128_S_d0_1_2 h_S_) main_v101 main_c_39
  let main_v103 : IVec S_ 1 := andi main_v98 main_v102
  let main_v104 : FVec F S2x128x128 .f32 := subf main_arg21 main_arg21
  let main_cst_40 : FVec F S_ .f32 := constant S_ .f32 0x00000000#32
  let main_v105 : FVec F S2x128x128 .f32 := broadcastInDim S2x128x128 ![] bcast_S_S2x128x128 main_cst_40
  let main_v106 : IVec S2x128x128 1 := cmpf .oeq main_v104 main_v105
  let main_c_41 : IVec S_ 1 := constantI S_ 1 1#1
  let main_v107 : IVec S_ 1 := (fun x v => Host.reduce IntOp.andi x v reducesTo_S2x128x128_S_d0_1_2 h_S_) main_v106 main_c_41
  let main_v108 : IVec S_ 1 := andi main_v103 main_v107
  let main_v109 : FVec F S2x128x128 .f32 := subf main_arg22 main_arg22
  let main_cst_42 : FVec F S_ .f32 := constant S_ .f32 0x00000000#32
  let main_v110 : FVec F S2x128x128 .f32 := broadcastInDim S2x128x128 ![] bcast_S_S2x128x128 main_cst_42
  let main_v111 : IVec S2x128x128 1 := cmpf .oeq main_v109 main_v110
  let main_c_43 : IVec S_ 1 := constantI S_ 1 1#1
  let main_v112 : IVec S_ 1 := (fun x v => Host.reduce IntOp.andi x v reducesTo_S2x128x128_S_d0_1_2 h_S_) main_v111 main_c_43
  let main_v113 : IVec S_ 1 := andi main_v108 main_v112
  let main_v114 : FVec F S2x128x128 .f32 := subf main_arg23 main_arg23
  let main_cst_44 : FVec F S_ .f32 := constant S_ .f32 0x00000000#32
  let main_v115 : FVec F S2x128x128 .f32 := broadcastInDim S2x128x128 ![] bcast_S_S2x128x128 main_cst_44
  let main_v116 : IVec S2x128x128 1 := cmpf .oeq main_v114 main_v115
  let main_c_45 : IVec S_ 1 := constantI S_ 1 1#1
  let main_v117 : IVec S_ 1 := (fun x v => Host.reduce IntOp.andi x v reducesTo_S2x128x128_S_d0_1_2 h_S_) main_v116 main_c_45
  let main_v118 : IVec S_ 1 := andi main_v113 main_v117
  main_v118

def fn_part5 {F : FTy → Type} [FloatOps F] (main_arg18 : FVec F S2x3x128x128 .f32) (main_arg19 : FVec F S2x3x128x128 .f32) (main_arg20 : FVec F S2x128x128 .f32) (main_arg21 : FVec F S2x128x128 .f32) (main_arg22 : FVec F S2x128x128 .f32) (main_arg23 : FVec F S2x128x128 .f32) (main_v83 : IVec S_ 1) (main_v84 : FVec F S2x3x128x128 .f32) (main_cst_32 : FVec F S_ .f32) : IVec S_ 1 :=
  let main_v85 : FVec F S2x3x128x128 .f32 := broadcastInDim S2x3x128x128 ![] bcast_S_S2x3x128x128 main_cst_32
  let main_v86 : IVec S2x3x128x128 1 := cmpf .oeq main_v84 main_v85
  let main_c_33 : IVec S_ 1 := constantI S_ 1 1#1
  let main_v87 : IVec S_ 1 := (fun x v => Host.reduce IntOp.andi x v reducesTo_S2x3x128x128_S_d0_1_2_3 h_S_) main_v86 main_c_33
  let main_v88 : IVec S_ 1 := andi main_v83 main_v87
  let main_v89 : FVec F S2x3x128x128 .f32 := subf main_arg18 main_arg18
  let main_cst_34 : FVec F S_ .f32 := constant S_ .f32 0x00000000#32
  let main_v90 : FVec F S2x3x128x128 .f32 := broadcastInDim S2x3x128x128 ![] bcast_S_S2x3x128x128 main_cst_34
  let main_v91 : IVec S2x3x128x128 1 := cmpf .oeq main_v89 main_v90
  let main_c_35 : IVec S_ 1 := constantI S_ 1 1#1
  let main_v92 : IVec S_ 1 := (fun x v => Host.reduce IntOp.andi x v reducesTo_S2x3x128x128_S_d0_1_2_3 h_S_) main_v91 main_c_35
  let main_v93 : IVec S_ 1 := andi main_v88 main_v92
  let main_v94 : FVec F S2x3x128x128 .f32 := subf main_arg19 main_arg19
  let main_cst_36 : FVec F S_ .f32 := constant S_ .f32 0x00000000#32
  let main_v95 : FVec F S2x3x128x128 .f32 := broadcastInDim S2x3x128x128 ![] bcast_S_S2x3x128x128 main_cst_36
  let main_v96 : IVec S2x3x128x128 1 := cmpf .oeq main_v94 main_v95
  let main_c_37 : IVec S_ 1 := constantI S_ 1 1#1
  let main_v97 : IVec S_ 1 := (fun x v => Host.reduce IntOp.andi x v reducesTo_S2x3x128x128_S_d0_1_2_3 h_S_) main_v96 main_c_37
  let main_v98 : IVec S_ 1 := andi main_v93 main_v97
  let main_v99 : FVec F S2x128x128 .f32 := subf main_arg20 main_arg20
  let main_cst_38 : FVec F S_ .f32 := constant S_ .f32 0x00000000#32
  let main_v100 : FVec F S2x128x128 .f32 := broadcastInDim S2x128x128 ![] bcast_S_S2x128x128 main_cst_38
  let main_v101 : IVec S2x128x128 1 := cmpf .oeq main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S128 .f32) (main_arg15 : FVec F S128x128 .f32) (main_arg16 : FVec F S128 .f32) (main_arg17 : FVec F S2x3x128x128 .f32) (main_arg18 : FVec F S2x3x128x128 .f32) (main_arg19 : FVec F S2x3x128x128 .f32) (main_arg20 : FVec F S2x128x128 .f32) (main_arg21 : FVec F S2x128x128 .f32) (main_arg22 : FVec F S2x128x128 .f32) (main_arg23 : FVec F S2x128x128 .f32) (main_v63 : IVec S_ 1) (main_v67 : IVec S_ 1) : IVec S_ 1 :=
  let main_v68 : IVec S_ 1 := andi main_v63 main_v67
  let main_v69 : FVec F S128 .f32 := subf main_arg14 main_arg14
  let main_cst_26 : FVec F S_ .f32 := constant S_ .f32 0x00000000#32
  let main_v70 : FVec F S128 .f32 := broadcastInDim S128 ![] bcast_S_S128 main_cst_26
  let main_v71 : IVec S128 1 := cmpf .oeq main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := subf main_arg15 main_arg15
  let main_cst_28 : FVec F S_ .f32 := constant S_ .f32 0x00000000#32
  let main_v75 : FVec F S128x128 .f32 := broadcastInDim S128x128 ![] bcast_S_S128x128 main_cst_28
  let main_v76 : IVec S128x128 1 := cmpf .oeq main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := subf main_arg16 main_arg16
  let main_cst_30 : FVec F S_ .f32 := constant S_ .f32 0x00000000#32
  let main_v80 : FVec F S128 .f32 := broadcastInDim S128 ![] bcast_S_S128 main_cst_30
  let main_v81 : IVec S128 1 := cmpf .oeq main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S2x3x128x128 .f32 := subf main_arg17 main_arg17
  let main_cst_32 : FVec F S_ .f32 := constant S_ .f32 0x00000000#32
  fn_part5 (F := F) main_arg18 main_arg19 main_arg20 main_arg21 main_arg22 main_arg23 main_v83 main_v84 main_cst_32

def fn_part3 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S2x3x128x128 .f32) (main_arg18 : FVec F S2x3x128x128 .f32) (main_arg19 : FVec F S2x3x128x128 .f32) (main_arg20 : FVec F S2x128x128 .f32) (main_arg21 : FVec F S2x128x128 .f32) (main_arg22 : FVec F S2x128x128 .f32) (main_arg23 : FVec F S2x128x128 .f32) (main_v48 : IVec S_ 1) (main_v49 : FVec F S6144x4096 .f32) (main_v50 : FVec F S6144x4096 .f32) : IVec S_ 1 :=
  let main_v51 : IVec S6144x4096 1 := cmpf .oeq main_v49 main_v50
  let main_c_19 : IVec S_ 1 := constantI S_ 1 1#1
  let main_v52 : IVec S_ 1 := (fun x v => Host.reduce IntOp.andi x v reducesTo_S6144x4096_S_d0_1 h_S_) main_v51 main_c_19
  let main_v53 : IVec S_ 1 := andi main_v48 main_v52
  let main_v54 : FVec F S128x128 .f32 := subf main_arg11 main_arg11
  let main_cst_20 : FVec F S_ .f32 := constant S_ .f32 0x00000000#32
  let main_v55 : FVec F S128x128 .f32 := broadcastInDim S128x128 ![] bcast_S_S128x128 main_cst_20
  let main_v56 : IVec S128x128 1 := cmpf .oeq main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := subf main_arg12 main_arg12
  let main_cst_22 : FVec F S_ .f32 := constant S_ .f32 0x00000000#32
  let main_v60 : FVec F S128 .f32 := broadcastInDim S128 ![] bcast_S_S128 main_cst_22
  let main_v61 : IVec S128 1 := cmpf .oeq main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := subf main_arg13 main_arg13
  let main_cst_24 : FVec F S_ .f32 := constant S_ .f32 0x00000000#32
  let main_v65 : FVec F S128x128 .f32 := broadcastInDim S128x128 ![] bcast_S_S128x128 main_cst_24
  let main_v66 : IVec S128x128 1 := cmpf .oeq main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S128 .f32) (main_arg8 : FVec F S4096x128 .f32) (main_arg9 : FVec F S2048x6144 .f32) (main_arg10 : FVec F S6144x4096 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S2x3x128x128 .f32) (main_arg18 : FVec F S2x3x128x128 .f32) (main_arg19 : FVec F S2x3x128x128 .f32) (main_arg20 : FVec F S2x128x128 .f32) (main_arg21 : FVec F S2x128x128 .f32) (main_arg22 : FVec F S2x128x128 .f32) (main_arg23 : FVec F S2x128x128 .f32) (main_v33 : IVec S_ 1) : IVec S_ 1 :=
  let main_v34 : FVec F S128 .f32 := subf main_arg7 main_arg7
  let main_cst_12 : FVec F S_ .f32 := constant S_ .f32 0x00000000#32
  let main_v35 : FVec F S128 .f32 := broadcastInDim S128 ![] bcast_S_S128 main_cst_12
  let main_v36 : IVec S128 1 := cmpf .oeq main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S4096x128 .f32 := subf main_arg8 main_arg8
  let main_cst_14 : FVec F S_ .f32 := constant S_ .f32 0x00000000#32
  let main_v40 : FVec F S4096x128 .f32 := broadcastInDim S4096x128 ![] bcast_S_S4096x128 main_cst_14
  let main_v41 : IVec S4096x128 1 := cmpf .oeq main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S2048x6144 .f32 := subf main_arg9 main_arg9
  let main_cst_16 : FVec F S_ .f32 := constant S_ .f32 0x00000000#32
  let main_v45 : FVec F S2048x6144 .f32 := broadcastInDim S2048x6144 ![] bcast_S_S2048x6144 main_cst_16
  let main_v46 : IVec S2048x6144 1 := cmpf .oeq main_v44 main_v45
  let main_c_17 : IVec S_ 1 := constantI S_ 1 1#1
  let main_v47 : IVec S_ 1 := (fun x v => Host.reduce IntOp.andi x v reducesTo_S2048x6144_S_d0_1 h_S_) main_v46 main_c_17
  let main_v48 : IVec S_ 1 := andi main_v43 main_v47
  let main_v49 : FVec F S6144x4096 .f32 := subf main_arg10 main_arg10
  let main_cst_18 : FVec F S_ .f32 := constant S_ .f32 0x00000000#32
  let main_v50 : FVec F S6144x4096 .f32 := broadcastInDim S6144x4096 ![] bcast_S_S6144x4096 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S2048x128 .f32) (main_arg5 : FVec F S128 .f32) (main_arg6 : FVec F S6144x128 .f32) (main_arg7 : FVec F S128 .f32) (main_arg8 : FVec F S4096x128 .f32) (main_arg9 : FVec F S2048x6144 .f32) (main_arg10 : FVec F S6144x4096 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S2x3x128x128 .f32) (main_arg18 : FVec F S2x3x128x128 .f32) (main_arg19 : FVec F S2x3x128x128 .f32) (main_arg20 : FVec F S2x128x128 .f32) (main_arg21 : FVec F S2x128x128 .f32) (main_arg22 : FVec F S2x128x128 .f32) (main_arg23 : FVec F S2x128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2048x128 .f32 := subf main_arg4 main_arg4
  let main_cst_6 : FVec F S_ .f32 := constant S_ .f32 0x00000000#32
  let main_v20 : FVec F S2048x128 .f32 := broadcastInDim S2048x128 ![] bcast_S_S2048x128 main_cst_6
  let main_v21 : IVec S2048x128 1 := cmpf .oeq main_v19 main_v20
  let main_c_7 : IVec S_ 1 := constantI S_ 1 1#1
  let main_v22 : IVec S_ 1 := (fun x v => Host.reduce IntOp.andi x v reducesTo_S2048x128_S_d0_1 h_S_) main_v21 main_c_7
  let main_v23 : IVec S_ 1 := andi main_v18 main_v22
  let main_v24 : FVec F S128 .f32 := subf main_arg5 main_arg5
  let main_cst_8 : FVec F S_ .f32 := constant S_ .f32 0x00000000#32
  let main_v25 : FVec F S128 .f32 := broadcastInDim S128 ![] bcast_S_S128 main_cst_8
  let main_v26 : IVec S128 1 := cmpf .oeq main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S6144x128 .f32 := subf main_arg6 main_arg6
  let main_cst_10 : FVec F S_ .f32 := constant S_ .f32 0x00000000#32
  let main_v30 : FVec F S6144x128 .f32 := broadcastInDim S6144x128 ![] bcast_S_S6144x128 main_cst_10
  let main_v31 : IVec S6144x128 1 := cmpf .oeq main_v29 main_v30
  let main_c_11 : IVec S_ 1 := constantI S_ 1 1#1
  let main_v32 : IVec S_ 1 := (fun x v => Host.reduce IntOp.andi x v reducesTo_S6144x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S2048x128 .f32) (main_arg1 : FVec F S6144x128 .f32) (main_arg2 : FVec F S4096x128 .f32) (main_arg3 : FVec F S128 .f32) (main_arg4 : FVec F S2048x128 .f32) (main_arg5 : FVec F S128 .f32) (main_arg6 : FVec F S6144x128 .f32) (main_arg7 : FVec F S128 .f32) (main_arg8 : FVec F S4096x128 .f32) (main_arg9 : FVec F S2048x6144 .f32) (main_arg10 : FVec F S6144x4096 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S2x3x128x128 .f32) (main_arg18 : FVec F S2x3x128x128 .f32) (main_arg19 : FVec F S2x3x128x128 .f32) (main_arg20 : FVec F S2x128x128 .f32) (main_arg21 : FVec F S2x128x128 .f32) (main_arg22 : FVec F S2x128x128 .f32) (main_arg23 : FVec F S2x128x128 .f32) : IVec S_ 1 :=
  let main_v0 : FVec F S2048x128 .f32 := subf main_arg0 main_arg0
  let main_cst : FVec F S_ .f32 := constant S_ .f32 0x00000000#32
  let main_v1 : FVec F S2048x128 .f32 := broadcastInDim S2048x128 ![] bcast_S_S2048x128 main_cst
  let main_v2 : IVec S2048x128 1 := cmpf .oeq main_v0 main_v1
  let main_c : IVec S_ 1 := constantI S_ 1 1#1
  let main_v3 : IVec S_ 1 := (fun x v => Host.reduce IntOp.andi x v reducesTo_S2048x128_S_d0_1 h_S_) main_v2 main_c
  let main_v4 : FVec F S6144x128 .f32 := subf main_arg1 main_arg1
  let main_cst_0 : FVec F S_ .f32 := constant S_ .f32 0x00000000#32
  let main_v5 : FVec F S6144x128 .f32 := broadcastInDim S6144x128 ![] bcast_S_S6144x128 main_cst_0
  let main_v6 : IVec S6144x128 1 := cmpf .oeq main_v4 main_v5
  let main_c_1 : IVec S_ 1 := constantI S_ 1 1#1
  let main_v7 : IVec S_ 1 := (fun x v => Host.reduce IntOp.andi x v reducesTo_S6144x128_S_d0_1 h_S_) main_v6 main_c_1
  let main_v8 : IVec S_ 1 := andi main_v3 main_v7
  let main_v9 : FVec F S4096x128 .f32 := subf main_arg2 main_arg2
  let main_cst_2 : FVec F S_ .f32 := constant S_ .f32 0x00000000#32
  let main_v10 : FVec F S4096x128 .f32 := broadcastInDim S4096x128 ![] bcast_S_S4096x128 main_cst_2
  let main_v11 : IVec S4096x128 1 := cmpf .oeq main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S128 .f32 := subf main_arg3 main_arg3
  let main_cst_4 : FVec F S_ .f32 := constant S_ .f32 0x00000000#32
  let main_v15 : FVec F S128 .f32 := broadcastInDim S128 ![] bcast_S_S128 main_cst_4
  let main_v16 : IVec S128 1 := cmpf .oeq main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S2048x128 : Shape := ⟨2, ![2048, 128]⟩
abbrev S6144x128 : Shape := ⟨2, ![6144, 128]⟩
abbrev S4096x128 : Shape := ⟨2, ![4096, 128]⟩
abbrev S128 : Shape := ⟨1, ![128]⟩
abbrev S2048x6144 : Shape := ⟨2, ![2048, 6144]⟩
abbrev S6144x4096 : Shape := ⟨2, ![6144, 4096]⟩
abbrev S128x128 : Shape := ⟨2, ![128, 128]⟩
abbrev S2x3x128x128 : Shape := ⟨4, ![2, 3, 128, 128]⟩
abbrev S2x128x128 : Shape := ⟨3, ![2, 128, 128]⟩
abbrev S1x128 : Shape := ⟨2, ![1, 128]⟩
abbrev S12288x128 : Shape := ⟨2, ![12288, 128]⟩
abbrev S792x128 : Shape := ⟨2, ![792, 128]⟩
abbrev S3712x128 : Shape := ⟨2, ![3712, 128]⟩
abbrev S768x128 : Shape := ⟨2, ![768, 128]⟩
abbrev S256x128 : Shape := ⟨2, ![256, 128]⟩
abbrev S2048x512 : Shape := ⟨2, ![2048, 512]⟩
abbrev S6144x256 : Shape := ⟨2, ![6144, 256]⟩
abbrev S128x2048 : Shape := ⟨2, ![128, 2048]⟩
abbrev S128x6144 : Shape := ⟨2, ![128, 6144]⟩
abbrev S128x4096 : Shape := ⟨2, ![128, 4096]⟩
abbrev S4x2048x512 : Shape := ⟨3, ![4, 2048, 512]⟩
abbrev S1x2048x512 : Shape := ⟨3, ![1, 2048, 512]⟩
abbrev S512x128 : Shape := ⟨2, ![512, 128]⟩
abbrev S128x512 : Shape := ⟨2, ![128, 512]⟩
abbrev S128x256 : Shape := ⟨2, ![128, 256]⟩

abbrev nBuf : Space → Nat
  | .hbm => 37
  | .vmem => 47
  | .smem => 0
  | _ => 0

abbrev bufTy : (tb : Table) → Fin (tcTables nBuf tb) → BufTy
  | .hbm, ⟨0, _⟩ => ⟨S2048x128, .f32⟩
  | .hbm, ⟨1, _⟩ => ⟨S6144x128, .f32⟩
  | .hbm, ⟨2, _⟩ => ⟨S4096x128, .f32⟩
  | .hbm, ⟨3, _⟩ => ⟨S128, .f32⟩
  | .hbm, ⟨4, _⟩ => ⟨S2048x128, .f32⟩
  | .hbm, ⟨5, _⟩ => ⟨S128, .f32⟩
  | .hbm, ⟨6, _⟩ => ⟨S6144x128, .f32⟩
  | .hbm, ⟨7, _⟩ => ⟨S128, .f32⟩
  | .hbm, ⟨8, _⟩ => ⟨S4096x128, .f32⟩
  | .hbm, ⟨9, _⟩ => ⟨S2048x6144, .f32⟩
  | .hbm, ⟨10, _⟩ => ⟨S6144x4096, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S2x3x128x128, .f32⟩
  | .hbm, ⟨18, _⟩ => ⟨S2x3x128x128, .f32⟩
  | .hbm, ⟨19, _⟩ => ⟨S2x3x128x128, .f32⟩
  | .hbm, ⟨20, _⟩ => ⟨S2x128x128, .f32⟩
  | .hbm, ⟨21, _⟩ => ⟨S2x128x128, .f32⟩
  | .hbm, ⟨22, _⟩ => ⟨S2x128x128, .f32⟩
  | .hbm, ⟨23, _⟩ => ⟨S2x128x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S12288x128, .bf16⟩
  | .hbm, ⟨31, _⟩ => ⟨S12288x128, .bf16⟩
  | .hbm, ⟨32, _⟩ => ⟨S792x128, .f32⟩
  | .hbm, ⟨33, _⟩ => ⟨S3712x128, .bf16⟩
  | .hbm, ⟨34, _⟩ => ⟨S2048x128, .f32⟩
  | .hbm, ⟨35, _⟩ => ⟨S6144x128, .f32⟩
  | .hbm, ⟨36, _⟩ => ⟨S4096x128, .f32⟩
  | .local _ .vmem, ⟨0, _⟩ => ⟨S2048x128, .f32⟩
  | .local _ .vmem, ⟨1, _⟩ => ⟨S6144x128, .f32⟩
  | .local _ .vmem, ⟨2, _⟩ => ⟨S4096x128, .f32⟩
  | .local _ .vmem, ⟨3, _⟩ => ⟨S2048x128, .f32⟩
  | .local _ .vmem, ⟨4, _⟩ => ⟨S6144x128, .f32⟩
  | .local _ .vmem, ⟨5, _⟩ => ⟨S4096x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S2x3x128x128, .f32⟩
  | .local _ .vmem, ⟨13, _⟩ => ⟨S2x3x128x128, .f32⟩
  | .local _ .vmem, ⟨14, _⟩ => ⟨S2x3x128x128, .f32⟩
  | .local _ .vmem, ⟨15, _⟩ => ⟨S2x128x128, .f32⟩
  | .local _ .vmem, ⟨16, _⟩ => ⟨S2x128x128, .f32⟩
  | .local _ .vmem, ⟨17, _⟩ => ⟨S2x128x128, .f32⟩
  | .local _ .vmem, ⟨18, _⟩ => ⟨S2x128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S12288x128, .bf16⟩
  | .local _ .vmem, ⟨23, _⟩ => ⟨S12288x128, .bf16⟩
  | .local _ .vmem, ⟨24, _⟩ => ⟨S792x128, .f32⟩
  | .local _ .vmem, ⟨25, _⟩ => ⟨S3712x128, .bf16⟩
  | .local _ .vmem, ⟨26, _⟩ => ⟨S12288x128, .bf16⟩
  | .local _ .vmem, ⟨27, _⟩ => ⟨S12288x128, .bf16⟩
  | .local _ .vmem, ⟨28, _⟩ => ⟨S792x128, .f32⟩
  | .local _ .vmem, ⟨29, _⟩ => ⟨S3712x128, .bf16⟩
  | .local _ .vmem, ⟨30, _⟩ => ⟨S2048x512, .f32⟩
  | .local _ .vmem, ⟨31, _⟩ => ⟨S2048x512, .f32⟩
  | .local _ .vmem, ⟨32, _⟩ => ⟨S6144x256, .f32⟩
  | .local _ .vmem, ⟨33, _⟩ => ⟨S6144x256, .f32⟩
  | .local _ .vmem, ⟨34, _⟩ => ⟨S2048x128, .f32⟩
  | .local _ .vmem, ⟨35, _⟩ => ⟨S6144x128, .f32⟩
  | .local _ .vmem, ⟨36, _⟩ => ⟨S4096x128, .f32⟩
  | .local _ .vmem, ⟨37, _⟩ => ⟨S2048x128, .bf16⟩
  | .local _ .vmem, ⟨38, _⟩ => ⟨S6144x128, .bf16⟩
  | .local _ .vmem, ⟨39, _⟩ => ⟨S4096x128, .bf16⟩
  | .local _ .vmem, ⟨40, _⟩ => ⟨S128x2048, .bf16⟩
  | .local _ .vmem, ⟨41, _⟩ => ⟨S128x6144, .bf16⟩
  | .local _ .vmem, ⟨42, _⟩ => ⟨S2048x128, .f32⟩
  | .local _ .vmem, ⟨43, _⟩ => ⟨S128x6144, .bf16⟩
  | .local _ .vmem, ⟨44, _⟩ => ⟨S6144x128, .f32⟩
  | .local _ .vmem, ⟨45, _⟩ => ⟨S128x4096, .bf16⟩
  | .local _ .vmem, ⟨46, _⟩ => ⟨S4x2048x512, .bf16⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6_0 : Ref sig .tc := ⟨.hbm, 30, rfl⟩
abbrev main_v6_1 : Ref sig .tc := ⟨.hbm, 31, rfl⟩
abbrev main_v6_2 : Ref sig .tc := ⟨.hbm, 32, rfl⟩
abbrev main_v6_3 : Ref sig .tc := ⟨.hbm, 33, rfl⟩
abbrev main_v7_0 : Ref sig .tc := ⟨.hbm, 34, rfl⟩
abbrev main_v7_1 : Ref sig .tc := ⟨.hbm, 35, rfl⟩
abbrev main_v7_2 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc1_stg0_0 : Ref sig .tc := ⟨.vmem, 26, rfl⟩
abbrev cc1_stg1_0 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg5_1 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_scratch0 : Ref sig .tc := ⟨.vmem, 37, rfl⟩
abbrev cc1_scratch1 : Ref sig .tc := ⟨.vmem, 38, rfl⟩
abbrev cc1_scratch2 : Ref sig .tc := ⟨.vmem, 39, rfl⟩
abbrev cc1_scratch3 : Ref sig .tc := ⟨.vmem, 40, rfl⟩
abbrev cc1_scratch4 : Ref sig .tc := ⟨.vmem, 41, rfl⟩
abbrev cc1_scratch5 : Ref sig .tc := ⟨.vmem, 42, rfl⟩
abbrev cc1_scratch6 : Ref sig .tc := ⟨.vmem, 43, rfl⟩
abbrev cc1_scratch7 : Ref sig .tc := ⟨.vmem, 44, rfl⟩
abbrev cc1_scratch8 : Ref sig .tc := ⟨.vmem, 45, rfl⟩
abbrev cc1_scratch9 : Ref sig .tc := ⟨.vmem, 46, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc1_sem0_0 : DmaSem sig := 26
abbrev cc1_sem1_0 : DmaSem sig := 27
abbrev cc1_sem2_0 : DmaSem sig := 28
abbrev cc1_sem3_0 : DmaSem sig := 29
abbrev cc1_sem4_0 : DmaSem sig := 30
abbrev cc1_sem4_1 : DmaSem sig := 31
abbrev cc1_sem5_0 : DmaSem sig := 32
abbrev cc1_sem5_1 : DmaSem sig := 33
abbrev cc1_sem6_0 : DmaSem sig := 34
abbrev cc1_sem7_0 : DmaSem sig := 35
abbrev cc1_sem8_0 : DmaSem sig := 36

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x3x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x3x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x3x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S12288x128 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S12288x128 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S792x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S3712x128 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev grid1 : Pipeline.Grid := ⟨1, ![34], ![false]⟩

def k1_cond2 (i : grid1.Coords) : BitVec 1 :=
  let arg0 : BitVec 32 := BitVec.ofNat 32 (i 0).val
  let c12_i32 : BitVec 32 := 12#32
  let v3 : BitVec 1 := Scalar.cmpi .slt arg0 c12_i32
  let v4 : BitVec 32 := Scalar.extui v3
  let c0_i32_1 : BitVec 32 := 0#32
  let v5 : BitVec 1 := Scalar.cmpi .ne v4 c0_i32_1
  v5

def k1_mult1 (i : grid1.Coords) : BitVec 32 :=
  let arg0 : BitVec 32 := BitVec.ofNat 32 (i 0).val
  let c512_i32 : BitVec 32 := 512#32
  let v24 : BitVec 32 := Scalar.muli arg0 c512_i32
  v24
def k1_cond4 (i : grid1.Coords) : BitVec 1 :=
  let arg0 : BitVec 32 := BitVec.ofNat 32 (i 0).val
  let c4_i32 : BitVec 32 := 4#32
  let v31 : BitVec 1 := Scalar.cmpi .slt arg0 c4_i32
  let v32 : BitVec 32 := Scalar.extui v31
  let c0_i32_12 : BitVec 32 := 0#32
  let v33 : BitVec 1 := Scalar.cmpi .ne v32 c0_i32_12
  v33

def k1_off1 (i : grid1.Coords) : Fin 3 → Nat :=
  let arg0 : BitVec 32 := BitVec.ofNat 32 (i 0).val
  let v49 : Index := Scalar.indexCast arg0
  let c0_22 : Index := 0#32
  let c0_23 : Index := 0#32
  ![v49.toNat, 0, 0]
def k1_off2 (i : grid1.Coords) : Fin 2 → Nat :=
  let arg0 : BitVec 32 := BitVec.ofNat 32 (i 0).val
  let c512_i32 : BitVec 32 := 512#32
  let v24 : BitVec 32 := Scalar.muli arg0 c512_i32
  let v25 : BitVec 32 := v24
  let v35 : Index := Scalar.indexCast v25
  let c0_15 : Index := 0#32
  ![v35.toNat, 0]
def k1_off3 (i : grid1.Coords) : Fin 2 → Nat :=
  let c0_21 : Index := 0#32
  let arg0 : BitVec 32 := BitVec.ofNat 32 (i 0).val
  let c512_i32 : BitVec 32 := 512#32
  let v24 : BitVec 32 := Scalar.muli arg0 c512_i32
  let v25 : BitVec 32 := v24
  let v45 : Index := Scalar.indexCast v25
  ![0, v45.toNat]
def k1_cond5 (i : grid1.Coords) : BitVec 1 :=
  let arg0 : BitVec 32 := BitVec.ofNat 32 (i 0).val
  let c17_i32 : BitVec 32 := 17#32
  let v6 : BitVec 1 := Scalar.cmpi .sge arg0 c17_i32
  let c29_i32 : BitVec 32 := 29#32
  let v7 : BitVec 1 := Scalar.cmpi .slt arg0 c29_i32
  let v8 : BitVec 1 := Scalar.andi v6 v7
  let v9 : BitVec 32 := Scalar.extui v8
  let c0_i32_2 : BitVec 32 := 0#32
  let v10 : BitVec 1 := Scalar.cmpi .ne v9 c0_i32_2
  v10

def k1_mult2 (i : grid1.Coords) : BitVec 32 :=
  let arg0 : BitVec 32 := BitVec.ofNat 32 (i 0).val
  let c17_i32_9 : BitVec 32 := 17#32
  let v24 : BitVec 32 := Scalar.subi arg0 c17_i32_9
  let c512_i32 : BitVec 32 := 512#32
  let v25 : BitVec 32 := Scalar.muli v24 c512_i32
  v25
def k1_cond7 (i : grid1.Coords) : BitVec 1 :=
  let arg0 : BitVec 32 := BitVec.ofNat 32 (i 0).val
  let c17_i32_9 : BitVec 32 := 17#32
  let v24 : BitVec 32 := Scalar.subi arg0 c17_i32_9
  let c4_i32 : BitVec 32 := 4#32
  let v30 : BitVec 1 := Scalar.cmpi .slt v24 c4_i32
  let v31 : BitVec 32 := Scalar.extui v30
  let c0_i32_12 : BitVec 32 := 0#32
  let v32 : BitVec 1 := Scalar.cmpi .ne v31 c0_i32_12
  v32

def k1_off4 (i : grid1.Coords) : Fin 3 → Nat :=
  let arg0 : BitVec 32 := BitVec.ofNat 32 (i 0).val
  let c17_i32_9 : BitVec 32 := 17#32
  let v24 : BitVec 32 := Scalar.subi arg0 c17_i32_9
  let v36 : Index := Scalar.indexCast v24
  let c0 : Index := 0#32
  let c0_15 : Index := 0#32
  ![v36.toNat, 0, 0]
def k1_off5 (i : grid1.Coords) : Fin 2 → Nat :=
  let arg0 : BitVec 32 := BitVec.ofNat 32 (i 0).val
  let c17_i32_9 : BitVec 32 := 17#32
  let v24 : BitVec 32 := Scalar.subi arg0 c17_i32_9
  let c512_i32 : BitVec 32 := 512#32
  let v25 : BitVec 32 := Scalar.muli v24 c512_i32
  let v26 : BitVec 32 := v25
  let v40 : Index := Scalar.indexCast v26
  let c0_18 : Index := 0#32
  ![v40.toNat, 0]
def k1_off6 (i : grid1.Coords) : Fin 2 → Nat :=
  let c0_24 : Index := 0#32
  let arg0 : BitVec 32 := BitVec.ofNat 32 (i 0).val
  let c17_i32_9 : BitVec 32 := 17#32
  let v24 : BitVec 32 := Scalar.subi arg0 c17_i32_9
  let c512_i32 : BitVec 32 := 512#32
  let v25 : BitVec 32 := Scalar.muli v24 c512_i32
  let v26 : BitVec 32 := v25
  let v50 : Index := Scalar.indexCast v26
  ![0, v50.toNat]
def k1_cond8 (i : grid1.Coords) : BitVec 1 :=
  let arg0 : BitVec 32 := BitVec.ofNat 32 (i 0).val
  let c17_i32_9 : BitVec 32 := 17#32
  let v24 : BitVec 32 := Scalar.subi arg0 c17_i32_9
  let c4_i32_13 : BitVec 32 := 4#32
  let v33 : BitVec 1 := Scalar.cmpi .sge v24 c4_i32_13
  let v34 : BitVec 32 := Scalar.extui v33
  let c0_i32_14 : BitVec 32 := 0#32
  let v35 : BitVec 1 := Scalar.cmpi .ne v34 c0_i32_14
  v35

def k1_off7 (i : grid1.Coords) : Fin 2 → Nat :=
  let arg0 : BitVec 32 := BitVec.ofNat 32 (i 0).val
  let c17_i32_9 : BitVec 32 := 17#32
  let v24 : BitVec 32 := Scalar.subi arg0 c17_i32_9
  let c512_i32 : BitVec 32 := 512#32
  let v25 : BitVec 32 := Scalar.muli v24 c512_i32
  let v26 : BitVec 32 := v25
  let v39 : Index := Scalar.indexCast v26
  let c0_18 : Index := 0#32
  ![v39.toNat, 0]
def k1_off8 (i : grid1.Coords) : Fin 2 → Nat :=
  let c0_24 : Index := 0#32
  let arg0 : BitVec 32 := BitVec.ofNat 32 (i 0).val
  let c17_i32_9 : BitVec 32 := 17#32
  let v24 : BitVec 32 := Scalar.subi arg0 c17_i32_9
  let c512_i32 : BitVec 32 := 512#32
  let v25 : BitVec 32 := Scalar.muli v24 c512_i32
  let v26 : BitVec 32 := v25
  let v49 : Index := Scalar.indexCast v26
  ![0, v49.toNat]
def k1_cond9 (i : grid1.Coords) : BitVec 1 :=
  let arg0 : BitVec 32 := BitVec.ofNat 32 (i 0).val
  let c16_i32 : BitVec 32 := 16#32
  let v11 : BitVec 1 := Scalar.cmpi .slt arg0 c16_i32
  let c17_i32_3 : BitVec 32 := 17#32
  let v12 : BitVec 1 := Scalar.cmpi .sge arg0 c17_i32_3
  let c33_i32 : BitVec 32 := 33#32
  let v13 : BitVec 1 := Scalar.cmpi .slt arg0 c33_i32
  let v14 : BitVec 1 := Scalar.andi v12 v13
  let v15 : BitVec 1 := Scalar.ori v11 v14
  let v16 : BitVec 32 := Scalar.extui v15
  let c0_i32_4 : BitVec 32 := 0#32
  let v17 : BitVec 1 := Scalar.cmpi .ne v16 c0_i32_4
  v17

def k1_mult3 (i : grid1.Coords) : BitVec 32 :=
  let arg0 : BitVec 32 := BitVec.ofNat 32 (i 0).val
  let c16_i32_9 : BitVec 32 := 16#32
  let v24 : BitVec 1 := Scalar.cmpi .slt arg0 c16_i32_9
  let c17_i32_10 : BitVec 32 := 17#32
  let v25 : BitVec 32 := Scalar.subi arg0 c17_i32_10
  let v26 : BitVec 32 := Scalar.select v24 arg0 v25
  let c256_i32 : BitVec 32 := 256#32
  let v27 : BitVec 32 := Scalar.muli v26 c256_i32
  v27
def k1_off9 (i : grid1.Coords) : Fin 2 → Nat :=
  let arg0 : BitVec 32 := BitVec.ofNat 32 (i 0).val
  let c16_i32_9 : BitVec 32 := 16#32
  let v24 : BitVec 1 := Scalar.cmpi .slt arg0 c16_i32_9
  let c17_i32_10 : BitVec 32 := 17#32
  let v25 : BitVec 32 := Scalar.subi arg0 c17_i32_10
  let v26 : BitVec 32 := Scalar.select v24 arg0 v25
  let c256_i32 : BitVec 32 := 256#32
  let v27 : BitVec 32 := Scalar.muli v26 c256_i32
  let v28 : BitVec 32 := v27
  let v37 : Index := Scalar.indexCast v28
  let c0_17 : Index := 0#32
  ![v37.toNat, 0]
def k1_off10 (i : grid1.Coords) : Fin 2 → Nat :=
  let c0_23 : Index := 0#32
  let arg0 : BitVec 32 := BitVec.ofNat 32 (i 0).val
  let c16_i32_9 : BitVec 32 := 16#32
  let v24 : BitVec 1 := Scalar.cmpi .slt arg0 c16_i32_9
  let c17_i32_10 : BitVec 32 := 17#32
  let v25 : BitVec 32 := Scalar.subi arg0 c17_i32_10
  let v26 : BitVec 32 := Scalar.select v24 arg0 v25
  let c256_i32 : BitVec 32 := 256#32
  let v27 : BitVec 32 := Scalar.muli v26 c256_i32
  let v28 : BitVec 32 := v27
  let v47 : Index := Scalar.indexCast v28
  ![0, v47.toNat]
def k1_cond12 (i : grid1.Coords) : BitVec 1 :=
  let arg0 : BitVec 32 := BitVec.ofNat 32 (i 0).val
  let c33_i32_7 : BitVec 32 := 33#32
  let v21 : BitVec 1 := Scalar.cmpi .eq arg0 c33_i32_7
  let v22 : BitVec 32 := Scalar.extui v21
  let c0_i32_8 : BitVec 32 := 0#32
  let v23 : BitVec 1 := Scalar.cmpi .ne v22 c0_i32_8
  v23

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c16_i32 : BitVec 32 := 16#32
  let v0 : BitVec 1 := Scalar.cmpi .slt arg0 c16_i32
  let c0_i32 : BitVec 32 := 0#32
  let c11_i32 : BitVec 32 := 11#32
  let v1 : BitVec 32 := Scalar.maxsi c0_i32 arg0
  let v2 : BitVec 32 := Scalar.minsi c11_i32 v1
  let c17_i32 : BitVec 32 := 17#32
  let v3 : BitVec 32 := Scalar.subi arg0 c17_i32
  let c4_i32 : BitVec 32 := 4#32
  let c11_i32_0 : BitVec 32 := 11#32
  let v4 : BitVec 32 := Scalar.maxsi c4_i32 v3
  let v5 : BitVec 32 := Scalar.minsi c11_i32_0 v4
  let v6 : BitVec 32 := Scalar.select v0 v2 v5
  let c0_i32_1 : BitVec 32 := 0#32
  let c0_i32_2 : BitVec 32 := 0#32
  ![c0_i32_1.toNat, v6.toNat]

def cc1_transform_5 (i : grid1.Coords) : Fin 2 → Nat :=
  let arg0 : BitVec 32 := BitVec.ofNat 32 (i 0).val
  let c16_i32 : BitVec 32 := 16#32
  let v0 : BitVec 1 := Scalar.cmpi .slt arg0 c16_i32
  let c0_i32 : BitVec 32 := 0#32
  let c15_i32 : BitVec 32 := 15#32
  let v1 : BitVec 32 := Scalar.maxsi c0_i32 arg0
  let v2 : BitVec 32 := Scalar.minsi c15_i32 v1
  let c17_i32 : BitVec 32 := 17#32
  let v3 : BitVec 32 := Scalar.subi arg0 c17_i32
  let c0_i32_0 : BitVec 32 := 0#32
  let c15_i32_1 : BitVec 32 := 15#32
  let v4 : BitVec 32 := Scalar.maxsi c0_i32_0 v3
  let v5 : BitVec 32 := Scalar.minsi c15_i32_1 v4
  let v6 : BitVec 32 := Scalar.select v0 v2 v5
  let c0_i32_2 : BitVec 32 := 0#32
  let c0_i32_3 : BitVec 32 := 0#32
  ![c0_i32_2.toNat, v6.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S12288x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S12288x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S792x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3712x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S6144x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2048x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S6144x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4096x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== ReferenceIdeal.lean ====
abbrev S2048x128 : Shape := ⟨2, ![2048, 128]⟩
abbrev S6144x128 : Shape := ⟨2, ![6144, 128]⟩
abbrev S4096x128 : Shape := ⟨2, ![4096, 128]⟩
abbrev S128 : Shape := ⟨1, ![128]⟩
abbrev S2048x6144 : Shape := ⟨2, ![2048, 6144]⟩
abbrev S6144x4096 : Shape := ⟨2, ![6144, 4096]⟩
abbrev S128x128 : Shape := ⟨2, ![128, 128]⟩
abbrev S2x3x128x128 : Shape := ⟨4, ![2, 3, 128, 128]⟩
abbrev S2x128x128 : Shape := ⟨3, ![2, 128, 128]⟩
abbrev S1x128 : Shape := ⟨2, ![1, 128]⟩
abbrev S1x3x128x128 : Shape := ⟨4, ![1, 3, 128, 128]⟩
abbrev S3x128x128 : Shape := ⟨3, ![3, 128, 128]⟩
abbrev S128x2048 : Shape := ⟨2, ![128, 2048]⟩
abbrev S_ : Shape := ⟨0, ![]⟩
abbrev S128x1 : Shape := ⟨2, ![128, 1]⟩
abbrev S1x128x128 : Shape := ⟨3, ![1, 128, 128]⟩
abbrev S128x6144 : Shape := ⟨2, ![128, 6144]⟩
abbrev S6144x2048 : Shape := ⟨2, ![6144, 2048]⟩
abbrev S128x4096 : Shape := ⟨2, ![128, 4096]⟩
abbrev S4096x6144 : Shape := ⟨2, ![4096, 6144]⟩

abbrev nBuf : Space → Nat
  | .hbm => 332
  | .vmem => 0
  | .smem => 0
  | _ => 0

abbrev hbmTy0_0 (i : Nat) : BufTy := match i % 128 with
  | 0 => ⟨S2048x128, .f32⟩
  | 1 => ⟨S6144x128, .f32⟩
  | 2 => ⟨S4096x128, .f32⟩
  | 3 => ⟨S128, .f32⟩
  | 4 => ⟨S2048x128, .f32⟩
  | 5 => ⟨S128, .f32⟩
  | 6 => ⟨S6144x128, .f32⟩
  | 7 => ⟨S128, .f32⟩
  | 8 => ⟨S4096x128, .f32⟩
  | 9 => ⟨S2048x6144, .f32⟩
  | 10 => ⟨S6144x4096, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S2x3x128x128, .f32⟩
  | 18 => ⟨S2x3x128x128, .f32⟩
  | 19 => ⟨S2x3x128x128, .f32⟩
  | 20 => ⟨S2x128x128, .f32⟩
  | 21 => ⟨S2x128x128, .f32⟩
  | 22 => ⟨S2x128x128, .f32⟩
  | 23 => ⟨S2x128x128, .f32⟩
  | 24 => ⟨S2048x128, .f32⟩
  | 25 => ⟨S1x128, .f32⟩
  | 26 => ⟨S2048x128, .f32⟩
  | 27 => ⟨S2048x128, .f32⟩
  | 28 => ⟨S6144x128, .f32⟩
  | 29 => ⟨S1x128, .f32⟩
  | 30 => ⟨S6144x128, .f32⟩
  | 31 => ⟨S6144x128, .f32⟩
  | 32 => ⟨S4096x128, .f32⟩
  | 33 => ⟨S1x128, .f32⟩
  | 34 => ⟨S4096x128, .f32⟩
  | 35 => ⟨S4096x128, .f32⟩
  | 36 => ⟨S1x3x128x128, .f32⟩
  | 37 => ⟨S3x128x128, .f32⟩
  | 38 => ⟨S128x2048, .f32⟩
  | 39 => ⟨S128x128, .f32⟩
  | 40 => ⟨S_, .f32⟩
  | 41 => ⟨S2048x128, .f32⟩
  | 42 => ⟨S_, .f32⟩
  | 43 => ⟨S128, .f32⟩
  | 44 => ⟨S128, .f32⟩
  | 45 => ⟨S128, .f32⟩
  | 46 => ⟨S128x1, .f32⟩
  | 47 => ⟨S128x128, .f32⟩
  | 48 => ⟨S128x128, .f32⟩
  | 49 => ⟨S2048x128, .f32⟩
  | 50 => ⟨S1x128x128, .f32⟩
  | 51 => ⟨S128x128, .f32⟩
  | 52 => ⟨S2048x128, .f32⟩
  | 53 => ⟨S2048x128, .f32⟩
  | 54 => ⟨S_, .f32⟩
  | 55 => ⟨S128, .f32⟩
  | 56 => ⟨S128, .f32⟩
  | 57 => ⟨S128, .f32⟩
  | 58 => ⟨S128x1, .f32⟩
  | 59 => ⟨S128x128, .f32⟩
  | 60 => ⟨S128x128, .f32⟩
  | 61 => ⟨S2048x128, .f32⟩
  | 62 => ⟨S1x128x128, .f32⟩
  | 63 => ⟨S128x128, .f32⟩
  | 64 => ⟨S2048x128, .f32⟩
  | 65 => ⟨S2048x128, .f32⟩
  | 66 => ⟨S_, .f32⟩
  | 67 => ⟨S128, .f32⟩
  | 68 => ⟨S128, .f32⟩
  | 69 => ⟨S128, .f32⟩
  | 70 => ⟨S128x1, .f32⟩
  | 71 => ⟨S128x128, .f32⟩
  | 72 => ⟨S128x128, .f32⟩
  | 73 => ⟨S2048x128, .f32⟩
  | 74 => ⟨S1x128x128, .f32⟩
  | 75 => ⟨S128x128, .f32⟩
  | 76 => ⟨S2048x128, .f32⟩
  | 77 => ⟨S2048x128, .f32⟩
  | 78 => ⟨S2048x128, .f32⟩
  | 79 => ⟨S1x128x128, .f32⟩
  | 80 => ⟨S128x128, .f32⟩
  | 81 => ⟨S2048x128, .f32⟩
  | 82 => ⟨S2048x128, .f32⟩
  | 83 => ⟨S1x3x128x128, .f32⟩
  | 84 => ⟨S3x128x128, .f32⟩
  | 85 => ⟨S128x6144, .f32⟩
  | 86 => ⟨S128x128, .f32⟩
  | 87 => ⟨S_, .f32⟩
  | 88 => ⟨S6144x128, .f32⟩
  | 89 => ⟨S_, .f32⟩
  | 90 => ⟨S128, .f32⟩
  | 91 => ⟨S128, .f32⟩
  | 92 => ⟨S128, .f32⟩
  | 93 => ⟨S128x1, .f32⟩
  | 94 => ⟨S128x128, .f32⟩
  | 95 => ⟨S128x128, .f32⟩
  | 96 => ⟨S6144x128, .f32⟩
  | 97 => ⟨S1x128x128, .f32⟩
  | 98 => ⟨S128x128, .f32⟩
  | 99 => ⟨S6144x128, .f32⟩
  | 100 => ⟨S6144x128, .f32⟩
  | 101 => ⟨S_, .f32⟩
  | 102 => ⟨S128, .f32⟩
  | 103 => ⟨S128, .f32⟩
  | 104 => ⟨S128, .f32⟩
  | 105 => ⟨S128x1, .f32⟩
  | 106 => ⟨S128x128, .f32⟩
  | 107 => ⟨S128x128, .f32⟩
  | 108 => ⟨S6144x128, .f32⟩
  | 109 => ⟨S1x128x128, .f32⟩
  | 110 => ⟨S128x128, .f32⟩
  | 111 => ⟨S6144x128, .f32⟩
  | 112 => ⟨S6144x128, .f32⟩
  | 113 => ⟨S_, .f32⟩
  | 114 => ⟨S128, .f32⟩
  | 115 => ⟨S128, .f32⟩
  | 116 => ⟨S128, .f32⟩
  | 117 => ⟨S128x1, .f32⟩
  | 118 => ⟨S128x128, .f32⟩
  | 119 => ⟨S128x128, .f32⟩
  | 120 => ⟨S6144x128, .f32⟩
  | 121 => ⟨S1x128x128, .f32⟩
  | 122 => ⟨S128x128, .f32⟩
  | 123 => ⟨S6144x128, .f32⟩
  | 124 => ⟨S6144x128, .f32⟩
  | 125 => ⟨S6144x2048, .f32⟩
  | 126 => ⟨S6144x128, .f32⟩
  | 127 => ⟨S1x128x128, .f32⟩
  | _ => ⟨S2048x128, .f32⟩

abbrev hbmTy0_1 (i : Nat) : BufTy := match i % 128 with
  | 0 => ⟨S128x128, .f32⟩
  | 1 => ⟨S6144x128, .f32⟩
  | 2 => ⟨S6144x128, .f32⟩
  | 3 => ⟨S6144x128, .f32⟩
  | 4 => ⟨S1x128x128, .f32⟩
  | 5 => ⟨S128x128, .f32⟩
  | 6 => ⟨S6144x128, .f32⟩
  | 7 => ⟨S6144x128, .f32⟩
  | 8 => ⟨S1x3x128x128, .f32⟩
  | 9 => ⟨S3x128x128, .f32⟩
  | 10 => ⟨S128x4096, .f32⟩
  | 11 => ⟨S128x128, .f32⟩
  | 12 => ⟨S_, .f32⟩
  | 13 => ⟨S4096x128, .f32⟩
  | 14 => ⟨S_, .f32⟩
  | 15 => ⟨S128, .f32⟩
  | 16 => ⟨S128, .f32⟩
  | 17 => ⟨S128, .f32⟩
  | 18 => ⟨S128x1, .f32⟩
  | 19 => ⟨S128x128, .f32⟩
  | 20 => ⟨S128x128, .f32⟩
  | 21 => ⟨S4096x128, .f32⟩
  | 22 => ⟨S1x128x128, .f32⟩
  | 23 => ⟨S128x128, .f32⟩
  | 24 => ⟨S4096x128, .f32⟩
  | 25 => ⟨S4096x128, .f32⟩
  | 26 => ⟨S_, .f32⟩
  | 27 => ⟨S128, .f32⟩
  | 28 => ⟨S128, .f32⟩
  | 29 => ⟨S128, .f32⟩
  | 30 => ⟨S128x1, .f32⟩
  | 31 => ⟨S128x128, .f32⟩
  | 32 => ⟨S128x128, .f32⟩
  | 33 => ⟨S4096x128, .f32⟩
  | 34 => ⟨S1x128x128, .f32⟩
  | 35 => ⟨S128x128, .f32⟩
  | 36 => ⟨S4096x128, .f32⟩
  | 37 => ⟨S4096x128, .f32⟩
  | 38 => ⟨S_, .f32⟩
  | 39 => ⟨S128, .f32⟩
  | 40 => ⟨S128, .f32⟩
  | 41 => ⟨S128, .f32⟩
  | 42 => ⟨S128x1, .f32⟩
  | 43 => ⟨S128x128, .f32⟩
  | 44 => ⟨S128x128, .f32⟩
  | 45 => ⟨S4096x128, .f32⟩
  | 46 => ⟨S1x128x128, .f32⟩
  | 47 => ⟨S128x128, .f32⟩
  | 48 => ⟨S4096x128, .f32⟩
  | 49 => ⟨S4096x128, .f32⟩
  | 50 => ⟨S4096x6144, .f32⟩
  | 51 => ⟨S4096x128, .f32⟩
  | 52 => ⟨S1x128x128, .f32⟩
  | 53 => ⟨S128x128, .f32⟩
  | 54 => ⟨S4096x128, .f32⟩
  | 55 => ⟨S4096x128, .f32⟩
  | 56 => ⟨S1x3x128x128, .f32⟩
  | 57 => ⟨S3x128x128, .f32⟩
  | 58 => ⟨S128x2048, .f32⟩
  | 59 => ⟨S128x128, .f32⟩
  | 60 => ⟨S_, .f32⟩
  | 61 => ⟨S2048x128, .f32⟩
  | 62 => ⟨S_, .f32⟩
  | 63 => ⟨S128, .f32⟩
  | 64 => ⟨S128, .f32⟩
  | 65 => ⟨S128, .f32⟩
  | 66 => ⟨S128x1, .f32⟩
  | 67 => ⟨S128x128, .f32⟩
  | 68 => ⟨S128x128, .f32⟩
  | 69 => ⟨S2048x128, .f32⟩
  | 70 => ⟨S1x128x128, .f32⟩
  | 71 => ⟨S128x128, .f32⟩
  | 72 => ⟨S2048x128, .f32⟩
  | 73 => ⟨S2048x128, .f32⟩
  | 74 => ⟨S_, .f32⟩
  | 75 => ⟨S128, .f32⟩
  | 76 => ⟨S128, .f32⟩
  | 77 => ⟨S128, .f32⟩
  | 78 => ⟨S128x1, .f32⟩
  | 79 => ⟨S128x128, .f32⟩
  | 80 => ⟨S128x128, .f32⟩
  | 81 => ⟨S2048x128, .f32⟩
  | 82 => ⟨S1x128x128, .f32⟩
  | 83 => ⟨S128x128, .f32⟩
  | 84 => ⟨S2048x128, .f32⟩
  | 85 => ⟨S2048x128, .f32⟩
  | 86 => ⟨S_, .f32⟩
  | 87 => ⟨S128, .f32⟩
  | 88 => ⟨S128, .f32⟩
  | 89 => ⟨S128, .f32⟩
  | 90 => ⟨S128x1, .f32⟩
  | 91 => ⟨S128x128, .f32⟩
  | 92 => ⟨S128x128, .f32⟩
  | 93 => ⟨S2048x128, .f32⟩
  | 94 => ⟨S1x128x128, .f32⟩
  | 95 => ⟨S128x128, .f32⟩
  | 96 => ⟨S2048x128, .f32⟩
  | 97 => ⟨S2048x128, .f32⟩
  | 98 => ⟨S2048x128, .f32⟩
  | 99 => ⟨S1x128x128, .f32⟩
  | 100 => ⟨S128x128, .f32⟩
  | 101 => ⟨S2048x128, .f32⟩
  | 102 => ⟨S2048x128, .f32⟩
  | 103 => ⟨S1x3x128x128, .f32⟩
  | 104 => ⟨S3x128x128, .f32⟩
  | 105 => ⟨S128x6144, .f32⟩
  | 106 => ⟨S128x128, .f32⟩
  | 107 => ⟨S_, .f32⟩
  | 108 => ⟨S6144x128, .f32⟩
  | 109 => ⟨S_, .f32⟩
  | 110 => ⟨S128, .f32⟩
  | 111 => ⟨S128, .f32⟩
  | 112 => ⟨S128, .f32⟩
  | 113 => ⟨S128x1, .f32⟩
  | 114 => ⟨S128x128, .f32⟩
  | 115 => ⟨S128x128, .f32⟩
  | 116 => ⟨S6144x128, .f32⟩
  | 117 => ⟨S1x128x128, .f32⟩
  | 118 => ⟨S128x128, .f32⟩
  | 119 => ⟨S6144x128, .f32⟩
  | 120 => ⟨S6144x128, .f32⟩
  | 121 => ⟨S_, .f32⟩
  | 122 => ⟨S128, .f32⟩
  | 123 => ⟨S128, .f32⟩
  | 124 => ⟨S128, .f32⟩
  | 125 => ⟨S128x1, .f32⟩
  | 126 => ⟨S128x128, .f32⟩
  | 127 => ⟨S128x128, .f32⟩
  | _ => ⟨S2048x128, .f32⟩

abbrev hbmTy0_2 (i : Nat) : BufTy := match i % 128 with
  | 0 => ⟨S6144x128, .f32⟩
  | 1 => ⟨S1x128x128, .f32⟩
  | 2 => ⟨S128x128, .f32⟩
  | 3 => ⟨S6144x128, .f32⟩
  | 4 => ⟨S6144x128, .f32⟩
  | 5 => ⟨S_, .f32⟩
  | 6 => ⟨S128, .f32⟩
  | 7 => ⟨S128, .f32⟩
  | 8 => ⟨S128, .f32⟩
  | 9 => ⟨S128x1, .f32⟩
  | 10 => ⟨S128x128, .f32⟩
  | 11 => ⟨S128x128, .f32⟩
  | 12 => ⟨S6144x128, .f32⟩
  | 13 => ⟨S1x128x128, .f32⟩
  | 14 => ⟨S128x128, .f32⟩
  | 15 => ⟨S6144x128, .f32⟩
  | 16 => ⟨S6144x128, .f32⟩
  | 17 => ⟨S6144x2048, .f32⟩
  | 18 => ⟨S6144x128, .f32⟩
  | 19 => ⟨S1x128x128, .f32⟩
  | 20 => ⟨S128x128, .f32⟩
  | 21 => ⟨S6144x128, .f32⟩
  | 22 => ⟨S6144x128, .f32⟩
  | 23 => ⟨S6144x128, .f32⟩
  | 24 => ⟨S1x128x128, .f32⟩
  | 25 => ⟨S128x128, .f32⟩
  | 26 => ⟨S6144x128, .f32⟩
  | 27 => ⟨S6144x128, .f32⟩
  | 28 => ⟨S1x3x128x128, .f32⟩
  | 29 => ⟨S3x128x128, .f32⟩
  | 30 => ⟨S128x4096, .f32⟩
  | 31 => ⟨S128x128, .f32⟩
  | 32 => ⟨S_, .f32⟩
  | 33 => ⟨S4096x128, .f32⟩
  | 34 => ⟨S_, .f32⟩
  | 35 => ⟨S128, .f32⟩
  | 36 => ⟨S128, .f32⟩
  | 37 => ⟨S128, .f32⟩
  | 38 => ⟨S128x1, .f32⟩
  | 39 => ⟨S128x128, .f32⟩
  | 40 => ⟨S128x128, .f32⟩
  | 41 => ⟨S4096x128, .f32⟩
  | 42 => ⟨S1x128x128, .f32⟩
  | 43 => ⟨S128x128, .f32⟩
  | 44 => ⟨S4096x128, .f32⟩
  | 45 => ⟨S4096x128, .f32⟩
  | 46 => ⟨S_, .f32⟩
  | 47 => ⟨S128, .f32⟩
  | 48 => ⟨S128, .f32⟩
  | 49 => ⟨S128, .f32⟩
  | 50 => ⟨S128x1, .f32⟩
  | 51 => ⟨S128x128, .f32⟩
  | 52 => ⟨S128x128, .f32⟩
  | 53 => ⟨S4096x128, .f32⟩
  | 54 => ⟨S1x128x128, .f32⟩
  | 55 => ⟨S128x128, .f32⟩
  | 56 => ⟨S4096x128, .f32⟩
  | 57 => ⟨S4096x128, .f32⟩
  | 58 => ⟨S_, .f32⟩
  | 59 => ⟨S128, .f32⟩
  | 60 => ⟨S128, .f32⟩
  | 61 => ⟨S128, .f32⟩
  | 62 => ⟨S128x1, .f32⟩
  | 63 => ⟨S128x128, .f32⟩
  | 64 => ⟨S128x128, .f32⟩
  | 65 => ⟨S4096x128, .f32⟩
  | 66 => ⟨S1x128x128, .f32⟩
  | 67 => ⟨S128x128, .f32⟩
  | 68 => ⟨S4096x128, .f32⟩
  | 69 => ⟨S4096x128, .f32⟩
  | 70 => ⟨S4096x6144, .f32⟩
  | 71 => ⟨S4096x128, .f32⟩
  | 72 => ⟨S1x128x128, .f32⟩
  | 73 => ⟨S128x128, .f32⟩
  | 74 => ⟨S4096x128, .f32⟩
  | 75 => ⟨S4096x128, .f32⟩
  | _ => ⟨S2048x128, .f32⟩

abbrev hbmTy (i : Nat) : BufTy := match i / 128 with
  | 0 => hbmTy0_0 i
  | 1 => hbmTy0_1 i
  | 2 => hbmTy0_2 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst : Ref sig .tc := ⟨.hbm, 40, rfl⟩
abbrev main_v16 : Ref sig .tc := ⟨.hbm, 41, rfl⟩
abbrev main_cst_0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_1 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_2 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_3 : Ref sig .tc := ⟨.hbm, 87, rfl⟩
abbrev main_v59 : Ref sig .tc := ⟨.hbm, 88, rfl⟩
abbrev main_cst_4 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_5 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_6 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_7 : Ref sig .tc := ⟨.hbm, 140, rfl⟩
abbrev main_v108 : Ref sig .tc := ⟨.hbm, 141, rfl⟩
abbrev main_cst_8 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_9 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_10 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_11 : Ref sig .tc := ⟨.hbm, 188, rfl⟩
abbrev main_v152 : Ref sig .tc := ⟨.hbm, 189, rfl⟩
abbrev main_cst_12 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_cst_13 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_cst_14 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_cst_15 : Ref sig .tc := ⟨.hbm, 235, rfl⟩
abbrev main_v195 : Ref sig .tc := ⟨.hbm, 236, rfl⟩
abbrev main_cst_16 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_cst_17 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_cst_18 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_cst_19 : Ref sig .tc := ⟨.hbm, 288, rfl⟩
abbrev main_v244 : Ref sig .tc := ⟨.hbm, 289, rfl⟩
abbrev main_cst_20 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_cst_21 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_cst_22 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_v283 : Ref sig .tc := ⟨.hbm, 331, rfl⟩

abbrev nD : Nat := 1
abbrev τ : Topo := Topo.v7x

variable {F : FTy → Type} [FloatOps F]
-- ==== Proof.KernelIdealBase.lean ====
/-
  What the two calls share: the user algebra of the launch, and a buffer held at contents that read as given.
-/
module

public import proofs.«01_k».proof.Proof.Gen.KernelIdeal.Points
public import proofs.«01_k».proof.Proof.Gen.KernelIdeal.Skeleton
public import Idealize.ShloMosaic.Lib.Pipeline.RegionArraysS
public import Idealize.ShloMosaic.Lib.Tactic

@[expose] public section

set_option maxRecDepth 16384

noncomputable section

namespace Cert.KernelIdeal.Main

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: one copy of the pipelines' rounds for the preparation, one for the main call. -/
abbrev UU : Type := UR sig nD τ × UR sig nD τ

local notation "𝕄" => MT nD τ sig Unit (Elt F) ℕ UU ℕ

/-- The contents a memref's buffer may have. -/
abbrev Bf (c : Dev nD) {sp : Space} {S : Shape} {e : EltTy} (M : Memref sig .tc sp S e) : Type := Buf (Elt F) (M.view.loc (c : Thread nD τ))

/-- The memref's buffer is held at contents `f`. -/
abbrev pt (c : Dev nD) {sp : Space} {S : Shape} {e : EltTy} (M : Memref sig .tc sp S e) (f : Bf (F := F) c M) : sProp 𝕄 :=
  M.view.loc (c : Thread nD τ) ↦{fullShare} f

/-- The memref's buffer is held at contents that read `x`. -/
abbrev at_v (c : Dev nD) {sp : Space} {S : Shape} {e : EltTy} (M : Memref sig .tc sp S e) (x : Vec F S e) : sProp 𝕄 :=
  iprop(∃ f : Bf (F := F) c M, ⌜M.view.read (Elt F) f = x⌝ ∗ pt c M f)

/-- A whole memref owned at `X` is its buffer held at contents that read `X`. -/
theorem owns_open (c : Dev nD) {sp : Space} {S : Shape} {e : EltTy} (M : Memref sig .tc sp S e) (hM : M.IsWhole) {X x : Vec F S e} (hX : X = x) :
    (owns (c : Thread nD τ) M fullShare X : sProp 𝕄) ⊢ at_v c M x := by
  subst hX
  unfold owns
  rw [hM.set_eq_univ]

/-- A whole memref's buffer held at contents that read `x` is the memref owned at `x`. -/
theorem owns_close (c : Dev nD) {sp : Space} {S : Shape} {e : EltTy} (M : Memref sig .tc sp S e) (hM : M.IsWhole) {x X : Vec F S e} (hX : x = X) :
    at_v c M x ⊢ (owns (c : Thread nD τ) M fullShare X : sProp 𝕄) := by
  subst hX
  unfold owns
  rw [hM.set_eq_univ]

end Cert.KernelIdeal.Main
-- ==== Proof.KernelIdealPrep.lean ====
/-
  The body of the preparation call: from the twenty-two arrays that it reads it leaves the four packed arrays, each the contents that were
  there with every part written over by its payload. Seven rows of the packed spectra are never written and keep what was there.
-/
module

public import proofs.«01_k».proof.Proof.KernelIdealBase
public import Idealize.ShloMosaic.Lib.VecWindow

@[expose] public section

set_option maxRecDepth 16384

noncomputable section

namespace Cert.KernelIdeal.Main

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The arrays that the preparation reads. -/
structure PIn (F : FTy → Type) where
  x0 : Vec F S2048x128 .f32
  x1 : Vec F S6144x128 .f32
  x2 : Vec F S4096x128 .f32
  u0 : Vec F S2048x128 .f32
  u1 : Vec F S6144x128 .f32
  u2 : Vec F S4096x128 .f32
  l0 : Vec F S1x128 .f32
  l1 : Vec F S1x128 .f32
  l2 : Vec F S1x128 .f32
  wi0 : Vec F S128x128 .f32
  wi1 : Vec F S128x128 .f32
  wi2 : Vec F S128x128 .f32
  ws0 : Vec F S2x3x128x128 .f32
  ws1 : Vec F S2x3x128x128 .f32
  ws2 : Vec F S2x3x128x128 .f32
  w01 : Vec F S2x128x128 .f32
  w10 : Vec F S2x128x128 .f32
  w12 : Vec F S2x128x128 .f32
  w21 : Vec F S2x128x128 .f32
  b0 : Vec F S1x128 .f32
  b1 : Vec F S1x128 .f32
  b2 : Vec F S1x128 .f32

/-- The packed features, over the contents `y`. -/
def xpOut (P : PIn F) (y : Vec F S12288x128 .bf16) : Vec F S12288x128 .bf16 :=
  VecWindow.put (VecWindow.put (VecWindow.put y ![0, 0] S2048x128.size (k0_pay14 P.x0)) ![2048, 0] S6144x128.size (k0_pay15 P.x1)) ![8192, 0] S4096x128.size (k0_pay16 P.x2)

/-- The packed eigenvectors, over the contents `y`. -/
def upOut (P : PIn F) (y : Vec F S12288x128 .bf16) : Vec F S12288x128 .bf16 :=
  VecWindow.put (VecWindow.put (VecWindow.put y ![0, 0] S2048x128.size (k0_pay17 P.u0)) ![2048, 0] S6144x128.size (k0_pay18 P.u1)) ![8192, 0] S4096x128.size (k0_pay19 P.u2)

/-- The packed spectra and biases, over the contents `y`. -/
def spOut (P : PIn F) (y : Vec F S792x128 .f32) : Vec F S792x128 .f32 :=
  VecWindow.put (VecWindow.put (VecWindow.put (VecWindow.put (VecWindow.put (VecWindow.put (VecWindow.put (VecWindow.put (VecWindow.put y ![0, 0] S128x128.size (k0_pay3 P.l0)) ![128, 0] S128x128.size (k0_pay4 P.l0)) ![256, 0] S128x128.size (k0_pay6 P.l1)) ![384, 0] S128x128.size (k0_pay7 P.l1)) ![512, 0] S128x128.size (k0_pay9 P.l2)) ![640, 0] S128x128.size (k0_pay10 (k0_pay8 P.l2))) ![768, 0] S1x128.size (k0_pay11 P.b0)) ![776, 0] S1x128.size (k0_pay12 P.b1)) ![784, 0] S1x128.size (k0_pay13 P.b2)

/-- The packed weights, over the contents `y`. -/
def wpOut (P : PIn F) (y : Vec F S3712x128 .bf16) : Vec F S3712x128 .bf16 :=
  VecWindow.put (VecWindow.put (VecWindow.put (VecWindow.put (VecWindow.put (VecWindow.put (VecWindow.put (VecWindow.put (VecWindow.put (VecWindow.put y ![0, 0] S128x128.size (k0_pay20 P.wi0)) ![128, 0] S128x128.size (k0_pay21 P.wi1)) ![256, 0] S128x128.size (k0_pay22 P.wi2)) ![384, 0] S768x128.size (k0_pay23 P.ws0)) ![1152, 0] S768x128.size (k0_pay24 P.ws1)) ![1920, 0] S768x128.size (k0_pay25 P.ws2)) ![2688, 0] S256x128.size (k0_pay26 P.w01)) ![2944, 0] S256x128.size (k0_pay27 P.w10)) ![3200, 0] S256x128.size (k0_pay28 P.w12)) ![3456, 0] S256x128.size (k0_pay29 P.w21)

/-- The twenty-two read blocks are held. -/
def pblocks (c : Dev nD) (P : PIn F)
    (M0 : Memref sig .tc .vmem S2048x128 .f32)
    (M1 : Memref sig .tc .vmem S6144x128 .f32)
    (M2 : Memref sig .tc .vmem S4096x128 .f32)
    (M3 : Memref sig .tc .vmem S2048x128 .f32)
    (M4 : Memref sig .tc .vmem S6144x128 .f32)
    (M5 : Memref sig .tc .vmem S4096x128 .f32)
    (M6 : Memref sig .tc .vmem S1x128 .f32)
    (M7 : Memref sig .tc .vmem S1x128 .f32)
    (M8 : Memref sig .tc .vmem S1x128 .f32)
    (M9 : Memref sig .tc .vmem S128x128 .f32)
    (M10 : Memref sig .tc .vmem S128x128 .f32)
    (M11 : Memref sig .tc .vmem S128x128 .f32)
    (M12 : Memref sig .tc .vmem S2x3x128x128 .f32)
    (M13 : Memref sig .tc .vmem S2x3x128x128 .f32)
    (M14 : Memref sig .tc .vmem S2x3x128x128 .f32)
    (M15 : Memref sig .tc .vmem S2x128x128 .f32)
    (M16 : Memref sig .tc .vmem S2x128x128 .f32)
    (M17 : Memref sig .tc .vmem S2x128x128 .f32)
    (M18 : Memref sig .tc .vmem S2x128x128 .f32)
    (M19 : Memref sig .tc .vmem S1x128 .f32)
    (M20 : Memref sig .tc .vmem S1x128 .f32)
    (M21 : Memref sig .tc .vmem S1x128 .f32)
    : sProp 𝕄 :=
  iprop(at_v c M0 P.x0 ∗ at_v c M1 P.x1 ∗ at_v c M2 P.x2 ∗ at_v c M3 P.u0 ∗ at_v c M4 P.u1 ∗ at_v c M5 P.u2 ∗ at_v c M6 P.l0 ∗ at_v c M7 P.l1 ∗ at_v c M8 P.l2 ∗ at_v c M9 P.wi0 ∗ at_v c M10 P.wi1 ∗ at_v c M11 P.wi2 ∗ at_v c M12 P.ws0 ∗ at_v c M13 P.ws1 ∗ at_v c M14 P.ws2 ∗ at_v c M15 P.w01 ∗ at_v c M16 P.w10 ∗ at_v c M17 P.w12 ∗ at_v c M18 P.w21 ∗ at_v c M19 P.b0 ∗ at_v c M20 P.b1 ∗ at_v c M21 P.b2)

variable (c : Dev nD) (P : PIn F)
  (M0 : Memref sig .tc .vmem S2048x128 .f32) (hM0 : M0.IsWhole)
  (M1 : Memref sig .tc .vmem S6144x128 .f32) (hM1 : M1.IsWhole)
  (M2 : Memref sig .tc .vmem S4096x128 .f32) (hM2 : M2.IsWhole)
  (M3 : Memref sig .tc .vmem S2048x128 .f32) (hM3 : M3.IsWhole)
  (M4 : Memref sig .tc .vmem S6144x128 .f32) (hM4 : M4.IsWhole)
  (M5 : Memref sig .tc .vmem S4096x128 .f32) (hM5 : M5.IsWhole)
  (M6 : Memref sig .tc .vmem S1x128 .f32) (hM6 : M6.IsWhole)
  (M7 : Memref sig .tc .vmem S1x128 .f32) (hM7 : M7.IsWhole)
  (M8 : Memref sig .tc .vmem S1x128 .f32) (hM8 : M8.IsWhole)
  (M9 : Memref sig .tc .vmem S128x128 .f32) (hM9 : M9.IsWhole)
  (M10 : Memref sig .tc .vmem S128x128 .f32) (hM10 : M10.IsWhole)
  (M11 : Memref sig .tc .vmem S128x128 .f32) (hM11 : M11.IsWhole)
  (M12 : Memref sig .tc .vmem S2x3x128x128 .f32) (hM12 : M12.IsWhole)
  (M13 : Memref sig .tc .vmem S2x3x128x128 .f32) (hM13 : M13.IsWhole)
  (M14 : Memref sig .tc .vmem S2x3x128x128 .f32) (hM14 : M14.IsWhole)
  (M15 : Memref sig .tc .vmem S2x128x128 .f32) (hM15 : M15.IsWhole)
  (M16 : Memref sig .tc .vmem S2x128x128 .f32) (hM16 : M16.IsWhole)
  (M17 : Memref sig .tc .vmem S2x128x128 .f32) (hM17 : M17.IsWhole)
  (M18 : Memref sig .tc .vmem S2x128x128 .f32) (hM18 : M18.IsWhole)
  (M19 : Memref sig .tc .vmem S1x128 .f32) (hM19 : M19.IsWhole)
  (M20 : Memref sig .tc .vmem S1x128 .f32) (hM20 : M20.IsWhole)
  (M21 : Memref sig .tc .vmem S1x128 .f32) (hM21 : M21.IsWhole)
  (M22 : Memref sig .tc .vmem S12288x128 .bf16) (hM22 : M22.IsWhole) (y22 : Vec F S12288x128 .bf16)
  (M23 : Memref sig .tc .vmem S12288x128 .bf16) (hM23 : M23.IsWhole) (y23 : Vec F S12288x128 .bf16)
  (M24 : Memref sig .tc .vmem S792x128 .f32) (hM24 : M24.IsWhole) (y24 : Vec F S792x128 .f32)
  (M25 : Memref sig .tc .vmem S3712x128 .bf16) (hM25 : M25.IsWhole) (y25 : Vec F S3712x128 .bf16)

set_option maxHeartbeats 1600000 in
/-- The body of the preparation. -/
theorem prep_body (E : Set ℕ) (Q : PUnit → sProp 𝕄) :
    iprop(pblocks c P M0 M1 M2 M3 M4 M5 M6 M7 M8 M9 M10 M11 M12 M13 M14 M15 M16 M17 M18 M19 M20 M21 ∗ at_v c M22 y22 ∗ at_v c M23 y23 ∗ at_v c M24 y24 ∗ at_v c M25 y25
    ∗ (iprop(pblocks c P M0 M1 M2 M3 M4 M5 M6 M7 M8 M9 M10 M11 M12 M13 M14 M15 M16 M17 M18 M19 M20 M21 ∗ at_v c M22 (xpOut P y22) ∗ at_v c M23 (upOut P y23) ∗ at_v c M24 (spOut P y24) ∗ at_v c M25 (wpOut P y25)) -∗ Q ⟨⟩))
      ⊢ wp frame (wpE (defs₀ (F := F)) Variants.none c none) E (cc0__prep_body M0 hM0 M1 hM1 M2 hM2 M3 hM3 M4 hM4 M5 hM5 M6 hM6 M7 hM7 M8 hM8 M9 hM9 M10 hM10 M11 hM11 M12 hM12 M13 hM13 M14 hM14 M15 hM15 M16 hM16 M17 hM17 M18 hM18 M19 hM19 M20 hM20 M21 hM21 M22 hM22 M23 hM23 M24 hM24 M25 hM25) Q := by
  unfold pblocks
  iintro ⟨⟨⟨%g0, %m0, G0⟩, ⟨%g1, %m1, G1⟩, ⟨%g2, %m2, G2⟩, ⟨%g3, %m3, G3⟩, ⟨%g4, %m4, G4⟩, ⟨%g5, %m5, G5⟩, ⟨%g6, %m6, G6⟩, ⟨%g7, %m7, G7⟩, ⟨%g8, %m8, G8⟩, ⟨%g9, %m9, G9⟩, ⟨%g10, %m10, G10⟩, ⟨%g11, %m11, G11⟩, ⟨%g12, %m12, G12⟩, ⟨%g13, %m13, G13⟩, ⟨%g14, %m14, G14⟩, ⟨%g15, %m15, G15⟩, ⟨%g16, %m16, G16⟩, ⟨%g17, %m17, G17⟩, ⟨%g18, %m18, G18⟩, ⟨%g19, %m19, G19⟩, ⟨%g20, %m20, G20⟩, ⟨%g21, %m21, G21⟩⟩, ⟨%f22, %e22, H22⟩, ⟨%f23, %e23, H23⟩, ⟨%f24, %e24, H24⟩, ⟨%f25, %e25, H25⟩, Hk⟩
  sl_unfold [cc0__prep_body]
  sl_exec
  sl_step
  iapply Hk
  isplitl [G0 G1 G2 G3 G4 G5 G6 G7 G8 G9 G10 G11 G12 G13 G14 G15 G16 G17 G18 G19 G20 G21]
  · isplitl [G0]
    · iexists _; isplitr; swap; · iexact G0
      ipureintro; exact m0
    isplitl [G1]
    · iexists _; isplitr; swap; · iexact G1
      ipureintro; exact m1
    isplitl [G2]
    · iexists _; isplitr; swap; · iexact G2
      ipureintro; exact m2
    isplitl [G3]
    · iexists _; isplitr; swap; · iexact G3
      ipureintro; exact m3
    isplitl [G4]
    · iexists _; isplitr; swap; · iexact G4
      ipureintro; exact m4
    isplitl [G5]
    · iexists _; isplitr; swap; · iexact G5
      ipureintro; exact m5
    isplitl [G6]
    · iexists _; isplitr; swap; · iexact G6
      ipureintro; exact m6
    isplitl [G7]
    · iexists _; isplitr; swap; · iexact G7
      ipureintro; exact m7
    isplitl [G8]
    · iexists _; isplitr; swap; · iexact G8
      ipureintro; exact m8
    isplitl [G9]
    · iexists _; isplitr; swap; · iexact G9
      ipureintro; exact m9
    isplitl [G10]
    · iexists _; isplitr; swap; · iexact G10
      ipureintro; exact m10
    isplitl [G11]
    · iexists _; isplitr; swap; · iexact G11
      ipureintro; exact m11
    isplitl [G12]
    · iexists _; isplitr; swap; · iexact G12
      ipureintro; exact m12
    isplitl [G13]
    · iexists _; isplitr; swap; · iexact G13
      ipureintro; exact m13
    isplitl [G14]
    · iexists _; isplitr; swap; · iexact G14
      ipureintro; exact m14
    isplitl [G15]
    · iexists _; isplitr; swap; · iexact G15
      ipureintro; exact m15
    isplitl [G16]
    · iexists _; isplitr; swap; · iexact G16
      ipureintro; exact m16
    isplitl [G17]
    · iexists _; isplitr; swap; · iexact G17
      ipureintro; exact m17
    isplitl [G18]
    · iexists _; isplitr; swap; · iexact G18
      ipureintro; exact m18
    isplitl [G19]
    · iexists _; isplitr; swap; · iexact G19
      ipureintro; exact m19
    isplitl [G20]
    · iexists _; isplitr; swap; · iexact G20
      ipureintro; exact m20
    · iexists _; isplitr; swap; · iexact G21
      ipureintro; exact m21
  isplitl [H22]
  · iexists _; isplitr; swap; · iexact H22
    ipureintro
    sl_unfold_run_names
    rw [View.read_writes_cons_put _ _ _ _ _ rfl, View.read_writes_cons_put _ _ _ _ _ rfl, View.read_writes_cons_put _ _ _ _ _ rfl, View.writes_nil]
    repeat rw [View.readAt_full]
    simp only [m0, m1, m2, m3, m4, m5, m6, m7, m8, m9, m10, m11, m12, m13, m14, m15, m16, m17, m18, m19, m20, m21, e22]
    rfl
  isplitl [H23]
  · iexists _; isplitr; swap; · iexact H23
    ipureintro
    sl_unfold_run_names
    rw [View.read_writes_cons_put _ _ _ _ _ rfl, View.read_writes_cons_put _ _ _ _ _ rfl, View.read_writes_cons_put _ _ _ _ _ rfl, View.writes_nil]
    repeat rw [View.readAt_full]
    simp only [m0, m1, m2, m3, m4, m5, m6, m7, m8, m9, m10, m11, m12, m13, m14, m15, m16, m17, m18, m19, m20, m21, e23]
    rfl
  isplitl [H24]
  · iexists _; isplitr; swap; · iexact H24
    ipureintro
    sl_unfold_run_names
    rw [View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.writes_nil]
    repeat rw [View.readAt_full]
    simp only [m0, m1, m2, m3, m4, m5, m6, m7, m8, m9, m10, m11, m12, m13, m14, m15, m16, m17, m18, m19, m20, m21, e24]
    rfl
  · iexists _; isplitr; swap; · iexact H25
    ipureintro
    sl_unfold_run_names
    rw [View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.read_writes_cons_put _ _ _ _ _ rfl, View.writes_nil]
    repeat rw [View.readAt_full]
    simp only [m0, m1, m2, m3, m4, m5, m6, m7, m8, m9, m10, m11, m12, m13, m14, m15, m16, m17, m18, m19, m20, m21, e25]
    rfl

end Cert.KernelIdeal.Main
-- ==== Proof.KernelIdealPrepFinds.lean ====
/-
  The preparation as a region: what it finds in each array, what it may leave in each.
-/
module

public import proofs.«01_k».proof.Proof.KernelIdealPrep
public import proofs.«01_k».proof.Proof.Gen.KernelIdeal.Launch
public import Idealize.ShloMosaic.Lib.Pipeline.ArrRel
public import Idealize.ShloMosaic.Lib.Pipeline.ValueKit

@[expose] public section

set_option maxRecDepth 16384

noncomputable section

namespace Cert.KernelIdeal.Main

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ UU ℕ

/-- The arrays that the preparation reads, at the contents `V`. -/
def pinp (V : Valuation τ sig (Elt F)) : PIn F where
  x0 := V (Proc.devRef .tc main_arg0)
  x1 := V (Proc.devRef .tc main_arg1)
  x2 := V (Proc.devRef .tc main_arg2)
  u0 := V (Proc.devRef .tc main_arg4)
  u1 := V (Proc.devRef .tc main_arg6)
  u2 := V (Proc.devRef .tc main_arg8)
  l0 := V (Proc.devRef .tc main_v0)
  l1 := V (Proc.devRef .tc main_v1)
  l2 := V (Proc.devRef .tc main_v2)
  wi0 := V (Proc.devRef .tc main_arg11)
  wi1 := V (Proc.devRef .tc main_arg13)
  wi2 := V (Proc.devRef .tc main_arg15)
  ws0 := V (Proc.devRef .tc main_arg17)
  ws1 := V (Proc.devRef .tc main_arg18)
  ws2 := V (Proc.devRef .tc main_arg19)
  w01 := V (Proc.devRef .tc main_arg20)
  w10 := V (Proc.devRef .tc main_arg21)
  w12 := V (Proc.devRef .tc main_arg22)
  w21 := V (Proc.devRef .tc main_arg23)
  b0 := V (Proc.devRef .tc main_v3)
  b1 := V (Proc.devRef .tc main_v4)
  b2 := V (Proc.devRef .tc main_v5)

/-- What the preparation leaves in each window that held `Y`. -/
def left0 (P : PIn F) (w : Fin cfg0.W) (Y : (cfg0.win w).block.Idx → Elt F (cfg0.win w).elt) : (cfg0.win w).block.Idx → Elt F (cfg0.win w).elt :=
  match w, Y with
  | ⟨0, _⟩, Y => Y
  | ⟨1, _⟩, Y => Y
  | ⟨2, _⟩, Y => Y
  | ⟨3, _⟩, Y => Y
  | ⟨4, _⟩, Y => Y
  | ⟨5, _⟩, Y => Y
  | ⟨6, _⟩, Y => Y
  | ⟨7, _⟩, Y => Y
  | ⟨8, _⟩, Y => Y
  | ⟨9, _⟩, Y => Y
  | ⟨10, _⟩, Y => Y
  | ⟨11, _⟩, Y => Y
  | ⟨12, _⟩, Y => Y
  | ⟨13, _⟩, Y => Y
  | ⟨14, _⟩, Y => Y
  | ⟨15, _⟩, Y => Y
  | ⟨16, _⟩, Y => Y
  | ⟨17, _⟩, Y => Y
  | ⟨18, _⟩, Y => Y
  | ⟨19, _⟩, Y => Y
  | ⟨20, _⟩, Y => Y
  | ⟨21, _⟩, Y => Y
  | ⟨22, _⟩, Y => xpOut P Y
  | ⟨23, _⟩, Y => upOut P Y
  | ⟨24, _⟩, Y => spOut P Y
  | ⟨25, _⟩, Y => wpOut P Y
  | ⟨_ + 26, _⟩, Y => Y

variable (V : Dev nD → Valuation τ sig (Elt F))

/-- The scoped buffers that the preparation does not use. -/
abbrev others0 (c : Dev nD) : sProp 𝕄 :=
  Pipeline.scopedRest (Ix := Unit) (Name := ℕ) (U := UU) (Lvl := ℕ) (Val := Elt F) spec0 c

/-- The arrays at the contents `V`; the read windows as found; each packed array written over in what was found. -/
def rdat0 (c : Dev nD) : RDat τ (Elt F) Unit ℕ UU ℕ cfg0 c where
  A w := V c (Proc.devRef .tc (Pipeline.arrRef spec0 w))
  after w _ Y X := X = left0 (pinp (V c)) w Y
  Φ _ := others0 c
  q _ := fullShare
  owed _ := 0

theorem finds0_0 (c : Dev nD) (t : Fin cfg0.N) (X : (cfg0.win 0).block.Idx → Elt F (cfg0.win 0).elt) (h : (rdat0 V c).Finds 0 t X) : X = (pinp (V c)).x0 := by
  obtain ⟨d, rfl⟩ := ((rdat0 V c).finds_of_fetch (fetch0_0 t) X).1 h
  funext y
  have e := (by decide +kernel : ∀ t : Fin grid0.N, win0_0.index t = ![0, 0]) t
  show V c (Proc.devRef .tc main_arg0) _ = V c (Proc.devRef .tc main_arg0) _
  blk_ext [e]

theorem finds0_1 (c : Dev nD) (t : Fin cfg0.N) (X : (cfg0.win 1).block.Idx → Elt F (cfg0.win 1).elt) (h : (rdat0 V c).Finds 1 t X) : X = (pinp (V c)).x1 := by
  obtain ⟨d, rfl⟩ := ((rdat0 V c).finds_of_fetch (fetch0_1 t) X).1 h
  funext y
  have e := (by decide +kernel : ∀ t : Fin grid0.N, win0_1.index t = ![0, 0]) t
  show V c (Proc.devRef .tc main_arg1) _ = V c (Proc.devRef .tc main_arg1) _
  blk_ext [e]

theorem finds0_2 (c : Dev nD) (t : Fin cfg0.N) (X : (cfg0.win 2).block.Idx → Elt F (cfg0.win 2).elt) (h : (rdat0 V c).Finds 2 t X) : X = (pinp (V c)).x2 := by
  obtain ⟨d, rfl⟩ := ((rdat0 V c).finds_of_fetch (fetch0_2 t) X).1 h
  funext y
  have e := (by decide +kernel : ∀ t : Fin grid0.N, win0_2.index t = ![0, 0]) t
  show V c (Proc.devRef .tc main_arg2) _ = V c (Proc.devRef .tc main_arg2) _
  blk_ext [e]

theorem finds0_3 (c : Dev nD) (t : Fin cfg0.N) (X : (cfg0.win 3).block.Idx → Elt F (cfg0.win 3).elt) (h : (rdat0 V c).Finds 3 t X) : X = (pinp (V c)).u0 := by
  obtain ⟨d, rfl⟩ := ((rdat0 V c).finds_of_fetch (fetch0_3 t) X).1 h
  funext y
  have e := (by decide +kernel : ∀ t : Fin grid0.N, win0_3.index t = ![0, 0]) t
  show V c (Proc.devRef .tc main_arg4) _ = V c (Proc.devRef .tc main_arg4) _
  blk_ext [e]

theorem finds0_4 (c : Dev nD) (t : Fin cfg0.N) (X : (cfg0.win 4).block.Idx → Elt F (cfg0.win 4).elt) (h : (rdat0 V c).Finds 4 t X) : X = (pinp (V c)).u1 := by
  obtain ⟨d, rfl⟩ := ((rdat0 V c).finds_of_fetch (fetch0_4 t) X).1 h
  funext y
  have e := (by decide +kernel : ∀ t : Fin grid0.N, win0_4.index t = ![0, 0]) t
  show V c (Proc.devRef .tc main_arg6) _ = V c (Proc.devRef .tc main_arg6) _
  blk_ext [e]

theorem finds0_5 (c : Dev nD) (t : Fin cfg0.N) (X : (cfg0.win 5).block.Idx → Elt F (cfg0.win 5).elt) (h : (rdat0 V c).Finds 5 t X) : X = (pinp (V c)).u2 := by
  obtain ⟨d, rfl⟩ := ((rdat0 V c).finds_of_fetch (fetch0_5 t) X).1 h
  funext y
  have e := (by decide +kernel : ∀ t : Fin grid0.N, win0_5.index t = ![0, 0]) t
  show V c (Proc.devRef .tc main_arg8) _ = V c (Proc.devRef .tc main_arg8) _
  blk_ext [e]

theorem finds0_6 (c : Dev nD) (t : Fin cfg0.N) (X : (cfg0.win 6).block.Idx → Elt F (cfg0.win 6).elt) (h : (rdat0 V c).Finds 6 t X) : X = (pinp (V c)).l0 := by
  obtain ⟨d, rfl⟩ := ((rdat0 V c).finds_of_fetch (fetch0_6 t) X).1 h
  funext y
  have e := (by decide +kernel : ∀ t : Fin grid0.N, win0_6.index t = ![0, 0]) t
  show V c (Proc.devRef .tc main_v0) _ = V c (Proc.devRef .tc main_v0) _
  blk_ext [e]

theorem finds0_7 (c : Dev nD) (t : Fin cfg0.N) (X : (cfg0.win 7).block.Idx → Elt F (cfg0.win 7).elt) (h : (rdat0 V c).Finds 7 t X) : X = (pinp (V c)).l1 := by
  obtain ⟨d, rfl⟩ := ((rdat0 V c).finds_of_fetch (fetch0_7 t) X).1 h
  funext y
  have e := (by decide +kernel : ∀ t : Fin grid0.N, win0_7.index t = ![0, 0]) t
  show V c (Proc.devRef .tc main_v1) _ = V c (Proc.devRef .tc main_v1) _
  blk_ext [e]

theorem finds0_8 (c : Dev nD) (t : Fin cfg0.N) (X : (cfg0.win 8).block.Idx → Elt F (cfg0.win 8).elt) (h : (rdat0 V c).Finds 8 t X) : X = (pinp (V c)).l2 := by
  obtain ⟨d, rfl⟩ := ((rdat0 V c).finds_of_fetch (fetch0_8 t) X).1 h
  funext y
  have e := (by decide +kernel : ∀ t : Fin grid0.N, win0_8.index t = ![0, 0]) t
  show V c (Proc.devRef .tc main_v2) _ = V c (Proc.devRef .tc main_v2) _
  blk_ext [e]

theorem finds0_9 (c : Dev nD) (t : Fin cfg0.N) (X : (cfg0.win 9).block.Idx → Elt F (cfg0.win 9).elt) (h : (rdat0 V c).Finds 9 t X) : X = (pinp (V c)).wi0 := by
  obtain ⟨d, rfl⟩ := ((rdat0 V c).finds_of_fetch (fetch0_9 t) X).1 h
  funext y
  have e := (by decide +kernel : ∀ t : Fin grid0.N, win0_9.index t = ![0, 0]) t
  show V c (Proc.devRef .tc main_arg11) _ = V c (Proc.devRef .tc main_arg11) _
  blk_ext [e]

theorem finds0_10 (c : Dev nD) (t : Fin cfg0.N) (X : (cfg0.win 10).block.Idx → Elt F (cfg0.win 10).elt) (h : (rdat0 V c).Finds 10 t X) : X = (pinp (V c)).wi1 := by
  obtain ⟨d, rfl⟩ := ((rdat0 V c).finds_of_fetch (fetch0_10 t) X).1 h
  funext y
  have e := (by decide +kernel : ∀ t : Fin grid0.N, win0_10.index t = ![0, 0]) t
  show V c (Proc.devRef .tc main_arg13) _ = V c (Proc.devRef .tc main_arg13) _
  blk_ext [e]

theorem finds0_11 (c : Dev nD) (t : Fin cfg0.N) (X : (cfg0.win 11).block.Idx → Elt F (cfg0.win 11).elt) (h : (rdat0 V c).Finds 11 t X) : X = (pinp (V c)).wi2 := by
  obtain ⟨d, rfl⟩ := ((rdat0 V c).finds_of_fetch (fetch0_11 t) X).1 h
  funext y
  have e := (by decide +kernel : ∀ t : Fin grid0.N, win0_11.index t = ![0, 0]) t
  show V c (Proc.devRef .tc main_arg15) _ = V c (Proc.devRef .tc main_arg15) _
  blk_ext [e]

theorem finds0_12 (c : Dev nD) (t : Fin cfg0.N) (X : (cfg0.win 12).block.Idx → Elt F (cfg0.win 12).elt) (h : (rdat0 V c).Finds 12 t X) : X = (pinp (V c)).ws0 := by
  obtain ⟨d, rfl⟩ := ((rdat0 V c).finds_of_fetch (fetch0_12 t) X).1 h
  funext y
  have e := (by decide +kernel : ∀ t : Fin grid0.N, win0_12.index t = ![0, 0, 0, 0]) t
  show V c (Proc.devRef .tc main_arg17) _ = V c (Proc.devRef .tc main_arg17) _
  blk_ext [e]

theorem finds0_13 (c : Dev nD) (t : Fin cfg0.N) (X : (cfg0.win 13).block.Idx → Elt F (cfg0.win 13).elt) (h : (rdat0 V c).Finds 13 t X) : X = (pinp (V c)).ws1 := by
  obtain ⟨d, rfl⟩ := ((rdat0 V c).finds_of_fetch (fetch0_13 t) X).1 h
  funext y
  have e := (by decide +kernel : ∀ t : Fin grid0.N, win0_13.index t = ![0, 0, 0, 0]) t
  show V c (Proc.devRef .tc main_arg18) _ = V c (Proc.devRef .tc main_arg18) _
  blk_ext [e]

theorem finds0_14 (c : Dev nD) (t : Fin cfg0.N) (X : (cfg0.win 14).block.Idx → Elt F (cfg0.win 14).elt) (h : (rdat0 V c).Finds 14 t X) : X = (pinp (V c)).ws2 := by
  obtain ⟨d, rfl⟩ := ((rdat0 V c).finds_of_fetch (fetch0_14 t) X).1 h
  funext y
  have e := (by decide +kernel : ∀ t : Fin grid0.N, win0_14.index t = ![0, 0, 0, 0]) t
  show V c (Proc.devRef .tc main_arg19) _ = V c (Proc.devRef .tc main_arg19) _
  blk_ext [e]

theorem finds0_15 (c : Dev nD) (t : Fin cfg0.N) (X : (cfg0.win 15).block.Idx → Elt F (cfg0.win 15).elt) (h : (rdat0 V c).Finds 15 t X) : X = (pinp (V c)).w01 := by
  obtain ⟨d, rfl⟩ := ((rdat0 V c).finds_of_fetch (fetch0_15 t) X).1 h
  funext y
  have e := (by decide +kernel : ∀ t : Fin grid0.N, win0_15.index t = ![0, 0, 0]) t
  show V c (Proc.devRef .tc main_arg20) _ = V c (Proc.devRef .tc main_arg20) _
  blk_ext [e]

theorem finds0_16 (c : Dev nD) (t : Fin cfg0.N) (X : (cfg0.win 16).block.Idx → Elt F (cfg0.win 16).elt) (h : (rdat0 V c).Finds 16 t X) : X = (pinp (V c)).w10 := by
  obtain ⟨d, rfl⟩ := ((rdat0 V c).finds_of_fetch (fetch0_16 t) X).1 h
  funext y
  have e := (by decide +kernel : ∀ t : Fin grid0.N, win0_16.index t = ![0, 0, 0]) t
  show V c (Proc.devRef .tc main_arg21) _ = V c (Proc.devRef .tc main_arg21) _
  blk_ext [e]

theorem finds0_17 (c : Dev nD) (t : Fin cfg0.N) (X : (cfg0.win 17).block.Idx → Elt F (cfg0.win 17).elt) (h : (rdat0 V c).Finds 17 t X) : X = (pinp (V c)).w12 := by
  obtain ⟨d, rfl⟩ := ((rdat0 V c).finds_of_fetch (fetch0_17 t) X).1 h
  funext y
  have e := (by decide +kernel : ∀ t : Fin grid0.N, win0_17.index t = ![0, 0, 0]) t
  show V c (Proc.devRef .tc main_arg22) _ = V c (Proc.devRef .tc main_arg22) _
  blk_ext [e]

theorem finds0_18 (c : Dev nD) (t : Fin cfg0.N) (X : (cfg0.win 18).block.Idx → Elt F (cfg0.win 18).elt) (h : (rdat0 V c).Finds 18 t X) : X = (pinp (V c)).w21 := by
  obtain ⟨d, rfl⟩ := ((rdat0 V c).finds_of_fetch (fetch0_18 t) X).1 h
  funext y
  have e := (by decide +kernel : ∀ t : Fin grid0.N, win0_18.index t = ![0, 0, 0]) t
  show V c (Proc.devRef .tc main_arg23) _ = V c (Proc.devRef .tc main_arg23) _
  blk_ext [e]

theorem finds0_19 (c : Dev nD) (t : Fin cfg0.N) (X : (cfg0.win 19).block.Idx → Elt F (cfg0.win 19).elt) (h : (rdat0 V c).Finds 19 t X) : X = (pinp (V c)).b0 := by
  obtain ⟨d, rfl⟩ := ((rdat0 V c).finds_of_fetch (fetch0_19 t) X).1 h
  funext y
  have e := (by decide +kernel : ∀ t : Fin grid0.N, win0_19.index t = ![0, 0]) t
  show V c (Proc.devRef .tc main_v3) _ = V c (Proc.devRef .tc main_v3) _
  blk_ext [e]

theorem finds0_20 (c : Dev nD) (t : Fin cfg0.N) (X : (cfg0.win 20).block.Idx → Elt F (cfg0.win 20).elt) (h : (rdat0 V c).Finds 20 t X) : X = (pinp (V c)).b1 := by
  obtain ⟨d, rfl⟩ := ((rdat0 V c).finds_of_fetch (fetch0_20 t) X).1 h
  funext y
  have e := (by decide +kernel : ∀ t : Fin grid0.N, win0_20.index t = ![0, 0]) t
  show V c (Proc.devRef .tc main_v4) _ = V c (Proc.devRef .tc main_v4) _
  blk_ext [e]

theorem finds0_21 (c : Dev nD) (t : Fin cfg0.N) (X : (cfg0.win 21).block.Idx → Elt F (cfg0.win 21).elt) (h : (rdat0 V c).Finds 21 t X) : X = (pinp (V c)).b2 := by
  obtain ⟨d, rfl⟩ := ((rdat0 V c).finds_of_fetch (fetch0_21 t) X).1 h
  funext y
  have e := (by decide +kernel : ∀ t : Fin grid0.N, win0_21.index t = ![0, 0]) t
  show V c (Proc.devRef .tc main_v5) _ = V c (Proc.devRef .tc main_v5) _
  blk_ext [e]

/-- The packed features as the region leaves them. -/
theorem result0_22 (c : Dev nD) (after : (w' : Fin cfg0.W) → Fin cfg0.N → (cfg0.win w').block.Idx → Elt F (cfg0.win w').elt) :
    ((rdat0 V c).withAfter after).arrAt 22 cfg0.N = after 22 ⟨0, by decide⟩ := by
  refine ((rdat0 V c).withAfter after).arrAt_eq_of_after_last 22 (⟨0, by decide⟩ : Fin grid0.N) (by decide +kernel) _ fun j => ?_
  rfl

/-- The packed eigenvectors as the region leaves them. -/
theorem result0_23 (c : Dev nD) (after : (w' : Fin cfg0.W) → Fin cfg0.N → (cfg0.win w').block.Idx → Elt F (cfg0.win w').elt) :
    ((rdat0 V c).withAfter after).arrAt 23 cfg0.N = after 23 ⟨0, by decide⟩ := by
  refine ((rdat0 V c).withAfter after).arrAt_eq_of_after_last 23 (⟨0, by decide⟩ : Fin grid0.N) (by decide +kernel) _ fun j => ?_
  rfl

/-- The packed spectra and biases as the region leaves them. -/
theorem result0_24 (c : Dev nD) (after : (w' : Fin cfg0.W) → Fin cfg0.N → (cfg0.win w').block.Idx → Elt F (cfg0.win w').elt) :
    ((rdat0 V c).withAfter after).arrAt 24 cfg0.N = after 24 ⟨0, by decide⟩ := by
  refine ((rdat0 V c).withAfter after).arrAt_eq_of_after_last 24 (⟨0, by decide⟩ : Fin grid0.N) (by decide +kernel) _ fun j => ?_
  rfl

/-- The packed weights as the region leaves them. -/
theorem result0_25 (c : Dev nD) (after : (w' : Fin cfg0.W) → Fin cfg0.N → (cfg0.win w').block.Idx → Elt F (cfg0.win w').elt) :
    ((rdat0 V c).withAfter after).arrAt 25 cfg0.N = after 25 ⟨0, by decide⟩ := by
  refine ((rdat0 V c).withAfter after).arrAt_eq_of_after_last 25 (⟨0, by decide⟩ : Fin grid0.N) (by decide +kernel) _ fun j => ?_
  rfl

end Cert.KernelIdeal.Main
-- ==== Proof.KernelIdealLayers.lean ====
/-
  The arrays that the main call of the kernel goes through, named in the operations the kernel itself applies: the projected
  features, the products with the two incidence matrices accumulated block by block, the features that a layer leaves, and the
  contents of the ten scratch arrays.
-/
module

public import proofs.«01_k».proof.Proof.Gen.KernelIdeal.Skeleton
public import Idealize.ShloMosaic.Lib.VecWindow
public import Idealize.ShloMosaic.Lib.Pipeline.FrameBody
public import Idealize.ShloMosaic.Lib.Pointwise

@[expose] public section

set_option maxRecDepth 16384

noncomputable section

namespace Cert.KernelIdeal.Main

open Cert.KernelIdeal Cert.KernelIdeal.Gen
open Idealize.ShloMosaic

variable {F : FTy → Type} [FloatOps F]

/-- The six arrays that the main call reads: packed features, packed eigenvectors, packed scales and biases, packed weights, and
    the two incidence matrices. -/
structure In (F : FTy → Type) where
  xp : Vec F S12288x128 .bf16
  up : Vec F S12288x128 .bf16
  sp : Vec F S792x128 .f32
  wp : Vec F S3712x128 .bf16
  B1 : Vec F S2048x6144 .f32
  B2 : Vec F S6144x4096 .f32

/-- The features of the three ranks, and the first two of them transposed. -/
structure Feat (F : FTy → Type) where
  h0 : Vec F S2048x128 .bf16
  h1 : Vec F S6144x128 .bf16
  h2 : Vec F S4096x128 .bf16
  h0t : Vec F S128x2048 .bf16
  h1t : Vec F S128x6144 .bf16

/-- The contents of the ten scratch arrays. -/
structure Scr (F : FTy → Type) where
  h : Feat F
  a0 : Vec F S2048x128 .f32
  a1t : Vec F S128x6144 .bf16
  a2 : Vec F S6144x128 .f32
  a3t : Vec F S128x4096 .bf16
  b1c : Vec F S4x2048x512 .bf16

/-- Columns `512 n …` of the first incidence matrix. -/
def b1 (I : In F) (n : ℕ) : Vec F S2048x512 .f32 :=
  fun y => I.B1 (ix2 (y 0 : Fin 2048) (⟨(512 * n + (y 1).val) % 6144, Nat.mod_lt _ (by decide)⟩ : Fin 6144))

/-- Columns `256 n …` of the second incidence matrix. -/
def b2 (I : In F) (n : ℕ) : Vec F S6144x256 .f32 :=
  fun y => I.B2 (ix2 (y 0 : Fin 6144) (⟨(256 * n + (y 1).val) % 4096, Nat.mod_lt _ (by decide)⟩ : Fin 4096))

/-- Rows `512 n …` of the features of rank one. -/
def rows1 (x : Vec F S6144x128 .bf16) (n : ℕ) : Vec F S512x128 .bf16 :=
  fun y => x (ix2 (⟨(512 * n + (y 0).val) % 6144, Nat.mod_lt _ (by decide)⟩ : Fin 6144) (y 1 : Fin 128))

/-- Rows `256 n …` of the features of rank two. -/
def rows2 (x : Vec F S4096x128 .bf16) (n : ℕ) : Vec F S256x128 .bf16 :=
  fun y => x (ix2 (⟨(256 * n + (y 0).val) % 4096, Nat.mod_lt _ (by decide)⟩ : Fin 4096) (y 1 : Fin 128))

/-- The product of the first incidence matrix with the rank-one features, over the first `n` blocks. -/
def acc0 (I : In F) (h1 : Vec F S6144x128 .bf16) : ℕ → Vec F S2048x128 .f32
  | 0 => k1_pay3
  | n + 1 => k1_pay5 (b1 I n) (acc0 I h1 n) (rows1 h1 n)

/-- The product of the second incidence matrix with the rank-two features, over the first `n` blocks. -/
def acc2 (I : In F) (h2 : Vec F S4096x128 .bf16) : ℕ → Vec F S6144x128 .f32
  | 0 => k1_pay15
  | n + 1 => k1_pay16 (b2 I n) (acc2 I h2 n) (rows2 h2 n)

/-- Block `n` of the transposed product of the first incidence matrix, transposed, with the rank-zero features. -/
def blk1t (I : In F) (h0t : Vec F S128x2048 .bf16) (n : ℕ) : Vec F S128x512 .bf16 := k1_pay6 (b1 I n) h0t

/-- Block `n` of the transposed product of the second incidence matrix, transposed, with the rank-one features. -/
def blk3t (I : In F) (h1t : Vec F S128x6144 .bf16) (n : ℕ) : Vec F S128x256 .bf16 := k1_pay17 (b2 I n) h1t

/-- The twelve blocks side by side. -/
def all1t (I : In F) (h0t : Vec F S128x2048 .bf16) : Vec F S128x6144 .bf16 :=
  fun y => blk1t I h0t ((y 1).val / 512) (ix2 (y 0 : Fin 128) (⟨(y 1).val % 512, Nat.mod_lt _ (by decide)⟩ : Fin 512))

/-- The sixteen blocks side by side. -/
def all3t (I : In F) (h1t : Vec F S128x6144 .bf16) : Vec F S128x4096 .bf16 :=
  fun y => blk3t I h1t ((y 1).val / 256) (ix2 (y 0 : Fin 128) (⟨(y 1).val % 256, Nat.mod_lt _ (by decide)⟩ : Fin 256))

/-- The projected features: the input features times the input weights plus the biases. -/
def feat0 (I : In F) : Feat F where
  h0 := k1_pay24 (View.ld (Val := Elt F) I.xp (Rect.unit (s := S12288x128) ![0, 0] S2048x128.size inb_S12288x128_S2048x128_0_0)) (View.ld (Val := Elt F) I.wp (Rect.unit (s := S3712x128) ![0, 0] S128x128.size inb_S3712x128_S128x128_0_0)) (View.ld (Val := Elt F) I.sp (Rect.unit (s := S792x128) ![768, 0] S1x128.size inb_S792x128_S1x128_768_0))
  h1 := k1_pay27 (View.ld (Val := Elt F) I.xp (Rect.unit (s := S12288x128) ![2048, 0] S6144x128.size inb_S12288x128_S6144x128_2048_0)) (View.ld (Val := Elt F) I.wp (Rect.unit (s := S3712x128) ![128, 0] S128x128.size inb_S3712x128_S128x128_128_0)) (View.ld (Val := Elt F) I.sp (Rect.unit (s := S792x128) ![776, 0] S1x128.size inb_S792x128_S1x128_776_0))
  h2 := k1_pay1 (View.ld (Val := Elt F) I.xp (Rect.unit (s := S12288x128) ![8192, 0] S4096x128.size inb_S12288x128_S4096x128_8192_0)) (View.ld (Val := Elt F) I.wp (Rect.unit (s := S3712x128) ![256, 0] S128x128.size inb_S3712x128_S128x128_256_0)) (View.ld (Val := Elt F) I.sp (Rect.unit (s := S792x128) ![784, 0] S1x128.size inb_S792x128_S1x128_784_0))
  h0t := k1_pay25 (View.ld (Val := Elt F) I.xp (Rect.unit (s := S12288x128) ![0, 0] S2048x128.size inb_S12288x128_S2048x128_0_0)) (View.ld (Val := Elt F) I.wp (Rect.unit (s := S3712x128) ![0, 0] S128x128.size inb_S3712x128_S128x128_0_0)) (View.ld (Val := Elt F) I.sp (Rect.unit (s := S792x128) ![768, 0] S1x128.size inb_S792x128_S1x128_768_0))
  h1t := k1_pay28 (View.ld (Val := Elt F) I.xp (Rect.unit (s := S12288x128) ![2048, 0] S6144x128.size inb_S12288x128_S6144x128_2048_0)) (View.ld (Val := Elt F) I.wp (Rect.unit (s := S3712x128) ![128, 0] S128x128.size inb_S3712x128_S128x128_128_0)) (View.ld (Val := Elt F) I.sp (Rect.unit (s := S792x128) ![776, 0] S1x128.size inb_S792x128_S1x128_776_0))

/-- What the first layer computes for rank zero, from the scratch contents. -/
def out00 (I : In F) (s : Scr F) : Vec F S2048x128 .f32 :=
  k1_pay29 (View.ld (Val := Elt F) I.up (Rect.unit (s := S12288x128) ![0, 0] S2048x128.size inb_S12288x128_S2048x128_0_0)) s.h.h0 (View.ld (Val := Elt F) I.wp (Rect.unit (s := S3712x128) ![384, 0] S128x128.size inb_S3712x128_S128x128_384_0)) (View.ld (Val := Elt F) I.sp (Rect.unit (s := S792x128) ![0, 0] S128x128.size inb_S792x128_S128x128_0_0)) (View.ld (Val := Elt F) I.wp (Rect.unit (s := S3712x128) ![512, 0] S128x128.size inb_S3712x128_S128x128_512_0)) (View.ld (Val := Elt F) I.sp (Rect.unit (s := S792x128) ![128, 0] S128x128.size inb_S792x128_S128x128_128_0)) (View.ld (Val := Elt F) I.wp (Rect.unit (s := S3712x128) ![640, 0] S128x128.size inb_S3712x128_S128x128_640_0)) s.a0 (View.ld (Val := Elt F) I.wp (Rect.unit (s := S3712x128) ![2688, 0] S128x128.size inb_S3712x128_S128x128_2688_0))

/-- What the first layer computes for rank one. -/
def out01 (I : In F) (s : Scr F) : Vec F S6144x128 .f32 :=
  k1_pay34 (k1_pay31 (k1_pay30 (View.ld (Val := Elt F) I.up (Rect.unit (s := S12288x128) ![2048, 0] S6144x128.size inb_S12288x128_S6144x128_2048_0))) s.h.h1 (View.ld (Val := Elt F) I.wp (Rect.unit (s := S3712x128) ![1152, 0] S128x128.size inb_S3712x128_S128x128_1152_0)) (View.ld (Val := Elt F) I.sp (Rect.unit (s := S792x128) ![256, 0] S128x128.size inb_S792x128_S128x128_256_0)) (View.ld (Val := Elt F) I.wp (Rect.unit (s := S3712x128) ![1280, 0] S128x128.size inb_S3712x128_S128x128_1280_0)) (View.ld (Val := Elt F) I.sp (Rect.unit (s := S792x128) ![384, 0] S128x128.size inb_S792x128_S128x128_384_0)) (View.ld (Val := Elt F) I.wp (Rect.unit (s := S3712x128) ![1408, 0] S128x128.size inb_S3712x128_S128x128_1408_0)) s.a1t (View.ld (Val := Elt F) I.wp (Rect.unit (s := S3712x128) ![2944, 0] S128x128.size inb_S3712x128_S128x128_2944_0)))
    (k1_pay32 s.a2) (k1_pay33 (View.ld (Val := Elt F) I.wp (Rect.unit (s := S3712x128) ![3200, 0] S128x128.size inb_S3712x128_S128x128_3200_0))) (constant S6144x128 .f32 0x00000000#32)

/-- What the first layer computes for rank two. -/
def out02 (I : In F) (s : Scr F) : Vec F S4096x128 .f32 :=
  k1_pay35 (View.ld (Val := Elt F) I.up (Rect.unit (s := S12288x128) ![8192, 0] S4096x128.size inb_S12288x128_S4096x128_8192_0)) s.h.h2 (View.ld (Val := Elt F) I.wp (Rect.unit (s := S3712x128) ![1920, 0] S128x128.size inb_S3712x128_S128x128_1920_0)) (View.ld (Val := Elt F) I.sp (Rect.unit (s := S792x128) ![512, 0] S128x128.size inb_S792x128_S128x128_512_0)) (View.ld (Val := Elt F) I.wp (Rect.unit (s := S3712x128) ![2048, 0] S128x128.size inb_S3712x128_S128x128_2048_0)) (View.ld (Val := Elt F) I.sp (Rect.unit (s := S792x128) ![640, 0] S128x128.size inb_S792x128_S128x128_640_0)) (View.ld (Val := Elt F) I.wp (Rect.unit (s := S3712x128) ![2176, 0] S128x128.size inb_S3712x128_S128x128_2176_0)) s.a3t (View.ld (Val := Elt F) I.wp (Rect.unit (s := S3712x128) ![3456, 0] S128x128.size inb_S3712x128_S128x128_3456_0))

/-- What the second layer computes for rank zero, from the scratch contents. -/
def out10 (I : In F) (s : Scr F) : Vec F S2048x128 .f32 :=
  k1_pay37 (View.ld (Val := Elt F) I.up (Rect.unit (s := S12288x128) ![0, 0] S2048x128.size inb_S12288x128_S2048x128_0_0)) s.h.h0 (View.ld (Val := Elt F) I.wp (Rect.unit (s := S3712x128) ![768, 0] S128x128.size inb_S3712x128_S128x128_768_0)) (View.ld (Val := Elt F) I.sp (Rect.unit (s := S792x128) ![0, 0] S128x128.size inb_S792x128_S128x128_0_0)) (View.ld (Val := Elt F) I.wp (Rect.unit (s := S3712x128) ![896, 0] S128x128.size inb_S3712x128_S128x128_896_0)) (View.ld (Val := Elt F) I.sp (Rect.unit (s := S792x128) ![128, 0] S128x128.size inb_S792x128_S128x128_128_0)) (View.ld (Val := Elt F) I.wp (Rect.unit (s := S3712x128) ![1024, 0] S128x128.size inb_S3712x128_S128x128_1024_0)) s.a0 (View.ld (Val := Elt F) I.wp (Rect.unit (s := S3712x128) ![2816, 0] S128x128.size inb_S3712x128_S128x128_2816_0))

/-- What the second layer computes for rank one. -/
def out11 (I : In F) (s : Scr F) : Vec F S6144x128 .f32 :=
  k1_pay42 (k1_pay39 (k1_pay38 (View.ld (Val := Elt F) I.up (Rect.unit (s := S12288x128) ![2048, 0] S6144x128.size inb_S12288x128_S6144x128_2048_0))) s.h.h1 (View.ld (Val := Elt F) I.wp (Rect.unit (s := S3712x128) ![1536, 0] S128x128.size inb_S3712x128_S128x128_1536_0)) (View.ld (Val := Elt F) I.sp (Rect.unit (s := S792x128) ![256, 0] S128x128.size inb_S792x128_S128x128_256_0)) (View.ld (Val := Elt F) I.wp (Rect.unit (s := S3712x128) ![1664, 0] S128x128.size inb_S3712x128_S128x128_1664_0)) (View.ld (Val := Elt F) I.sp (Rect.unit (s := S792x128) ![384, 0] S128x128.size inb_S792x128_S128x128_384_0)) (View.ld (Val := Elt F) I.wp (Rect.unit (s := S3712x128) ![1792, 0] S128x128.size inb_S3712x128_S128x128_1792_0)) s.a1t (View.ld (Val := Elt F) I.wp (Rect.unit (s := S3712x128) ![3072, 0] S128x128.size inb_S3712x128_S128x128_3072_0)))
    (k1_pay40 s.a2) (k1_pay41 (View.ld (Val := Elt F) I.wp (Rect.unit (s := S3712x128) ![3328, 0] S128x128.size inb_S3712x128_S128x128_3328_0))) (constant S6144x128 .f32 0x00000000#32)

/-- What the second layer computes for rank two. -/
def out12 (I : In F) (s : Scr F) : Vec F S4096x128 .f32 :=
  k1_pay43 (View.ld (Val := Elt F) I.up (Rect.unit (s := S12288x128) ![8192, 0] S4096x128.size inb_S12288x128_S4096x128_8192_0)) s.h.h2 (View.ld (Val := Elt F) I.wp (Rect.unit (s := S3712x128) ![2304, 0] S128x128.size inb_S3712x128_S128x128_2304_0)) (View.ld (Val := Elt F) I.sp (Rect.unit (s := S792x128) ![512, 0] S128x128.size inb_S792x128_S128x128_512_0)) (View.ld (Val := Elt F) I.wp (Rect.unit (s := S3712x128) ![2432, 0] S128x128.size inb_S3712x128_S128x128_2432_0)) (View.ld (Val := Elt F) I.sp (Rect.unit (s := S792x128) ![640, 0] S128x128.size inb_S792x128_S128x128_640_0)) (View.ld (Val := Elt F) I.wp (Rect.unit (s := S3712x128) ![2560, 0] S128x128.size inb_S3712x128_S128x128_2560_0)) s.a3t (View.ld (Val := Elt F) I.wp (Rect.unit (s := S3712x128) ![3584, 0] S128x128.size inb_S3712x128_S128x128_3584_0))

/-- The features after the first layer, from the scratch contents before its last step. -/
def next (I : In F) (s : Scr F) : Feat F where
  h0 := k1_pay18 (k1_pay36 (out00 I s))
  h1 := k1_pay19 (out01 I s)
  h2 := k1_pay20 (out02 I s)
  h0t := k1_pay21 (out00 I s)
  h1t := k1_pay22 (out01 I s)

/-- The scratch contents once all blocks of a layer with features `h` are in. -/
def full (I : In F) (h : Feat F) (b1c : Vec F S4x2048x512 .bf16) : Scr F :=
  ⟨h, acc0 I h.h1 12, all1t I h.h0t, acc2 I h.h2 16, all3t I h.h1t, b1c⟩

/-- The combination reads nothing of the cached blocks. -/
theorem next_congr (I : In F) (s : Scr F) (x : Vec F S4x2048x512 .bf16) : next I { s with b1c := x } = next I s := rfl

/-- The features that the second layer starts from. -/
def feat1 (I : In F) : Feat F := next I (full I (feat0 I) fun _ => Scalar.ofBits .bf16 0#16)

/-- The scratch contents that the second layer's last step reads. -/
def last (I : In F) : Scr F := full I (feat1 I) fun _ => Scalar.ofBits .bf16 0#16

end Cert.KernelIdeal.Main

end
-- ==== Proof.KernelIdealBlocks.lean ====
/-
  The blocks that the main call reads at each grid point, as parts of the six arrays it reads: four arrays whole, and the column
  blocks of the two incidence matrices.
-/
module

public import proofs.«01_k».proof.Proof.KernelIdealLayers
public import proofs.«01_k».proof.Proof.Gen.KernelIdeal.Launch
public import proofs.«01_k».proof.Proof.Gen.KernelIdeal.Points
public import Idealize.ShloMosaic.Lib.Pipeline.ValueKit

@[expose] public section

set_option maxRecDepth 16384

noncomputable section

namespace Cert.KernelIdeal.Main

open Cert.KernelIdeal Cert.KernelIdeal.Gen
open Idealize.ShloMosaic Idealize.ShloMosaic.TcCoe

variable {F : FTy → Type} [FloatOps F]

/-- The six arrays that the main call reads, at the contents `V`. -/
def inp (V : Valuation τ sig (Elt F)) : In F where
  xp := V (Proc.devRef .tc main_v6_0)
  up := V (Proc.devRef .tc main_v6_1)
  sp := V (Proc.devRef .tc main_v6_2)
  wp := V (Proc.devRef .tc main_v6_3)
  B1 := V (Proc.devRef .tc main_arg9)
  B2 := V (Proc.devRef .tc main_arg10)

/-- The column block of the first incidence matrix that point `t` reads. -/
def n1 (t : ℕ) : ℕ := if t < 16 then min t 11 else max 4 (min (t - 17) 11)

/-- The column block of the second incidence matrix that point `t` reads. -/
def n2 (t : ℕ) : ℕ := if t < 16 then t else min (t - 17) 15

theorem index4 : ∀ t : Fin cfg1.N, win1_4.index t = ![0, n1 t.val] := (by decide +kernel : ∀ t : Fin grid1.N, _)
theorem index5 : ∀ t : Fin cfg1.N, win1_5.index t = ![0, n2 t.val] := (by decide +kernel : ∀ t : Fin grid1.N, _)

theorem n1_lt (t : ℕ) : n1 t < 12 := by unfold n1; split <;> omega
theorem n2_lt (t : ℕ) : n2 t < 16 := by unfold n2; split <;> omega

theorem index0 : ∀ t : Fin cfg1.N, win1_0.index t = ![0, 0] := (by decide +kernel : ∀ t : Fin grid1.N, _)
theorem index1 : ∀ t : Fin cfg1.N, win1_1.index t = ![0, 0] := (by decide +kernel : ∀ t : Fin grid1.N, _)
theorem index2 : ∀ t : Fin cfg1.N, win1_2.index t = ![0, 0] := (by decide +kernel : ∀ t : Fin grid1.N, _)
theorem index3 : ∀ t : Fin cfg1.N, win1_3.index t = ![0, 0] := (by decide +kernel : ∀ t : Fin grid1.N, _)

theorem block0 (V : Valuation τ sig (Elt F)) (t : Fin cfg1.N) :
    ((cfg1.win 0).blk t).view.read (Elt F) (V (Proc.devRef .tc main_v6_0)) = (inp V).xp := by
  funext y
  have e := index0 t
  show V (Proc.devRef .tc main_v6_0) _ = V (Proc.devRef .tc main_v6_0) _
  blk_ext [e]

theorem block1 (V : Valuation τ sig (Elt F)) (t : Fin cfg1.N) :
    ((cfg1.win 1).blk t).view.read (Elt F) (V (Proc.devRef .tc main_v6_1)) = (inp V).up := by
  funext y
  have e := index1 t
  show V (Proc.devRef .tc main_v6_1) _ = V (Proc.devRef .tc main_v6_1) _
  blk_ext [e]

theorem block2 (V : Valuation τ sig (Elt F)) (t : Fin cfg1.N) :
    ((cfg1.win 2).blk t).view.read (Elt F) (V (Proc.devRef .tc main_v6_2)) = (inp V).sp := by
  funext y
  have e := index2 t
  show V (Proc.devRef .tc main_v6_2) _ = V (Proc.devRef .tc main_v6_2) _
  blk_ext [e]

theorem block3 (V : Valuation τ sig (Elt F)) (t : Fin cfg1.N) :
    ((cfg1.win 3).blk t).view.read (Elt F) (V (Proc.devRef .tc main_v6_3)) = (inp V).wp := by
  funext y
  have e := index3 t
  show V (Proc.devRef .tc main_v6_3) _ = V (Proc.devRef .tc main_v6_3) _
  blk_ext [e]

theorem block4 (V : Valuation τ sig (Elt F)) (t : Fin cfg1.N) :
    ((cfg1.win 4).blk t).view.read (Elt F) (V (Proc.devRef .tc main_arg9)) = b1 (inp V) (n1 t.val) := by
  have hn := n1_lt t.val
  have e := index4 t
  funext y
  show V (Proc.devRef .tc main_arg9) _ = V (Proc.devRef .tc main_arg9) _
  blk_ext [e]

theorem block5 (V : Valuation τ sig (Elt F)) (t : Fin cfg1.N) :
    ((cfg1.win 5).blk t).view.read (Elt F) (V (Proc.devRef .tc main_arg10)) = b2 (inp V) (n2 t.val) := by
  have hn := n2_lt t.val
  have e := index5 t
  funext y
  show V (Proc.devRef .tc main_arg10) _ = V (Proc.devRef .tc main_arg10) _
  blk_ext [e]

end Cert.KernelIdeal.Main
-- ==== Proof.KernelIdealSteps.lean ====
/-
  What one grid point of the main call does to the scratch arrays, and when: the point's branch conditions and block offsets in closed
  form, and the changes it makes as functions of the scratch contents.
-/
module

public import proofs.«01_k».proof.Proof.KernelIdealLayers
public import proofs.«01_k».proof.Proof.Gen.KernelIdeal.Points

@[expose] public section

set_option maxRecDepth 16384

noncomputable section

namespace Cert.KernelIdeal.Main

open Cert.KernelIdeal Cert.KernelIdeal.Gen
open Idealize.ShloMosaic

variable {F : FTy → Type} [FloatOps F]

/-! ## The branch conditions -/

/-- The test the kernel makes for one grid point. -/
abbrev at_ (i : grid1.Coords) (n : BitVec 32) : Prop :=
  Scalar.cmpi .ne ((Scalar.extui : BitVec 1 → BitVec 32) (Scalar.cmpi .eq (BitVec.ofNat 32 (i 0).val) n)) 0#32 = 1#1

/-- The test the kernel makes for the first point of either layer. -/
abbrev atStart (i : grid1.Coords) : Prop :=
  Scalar.cmpi .ne ((Scalar.extui : BitVec 1 → BitVec 32) (Scalar.ori (Scalar.cmpi .eq (BitVec.ofNat 32 (i 0).val) 0#32)
    (Scalar.cmpi .eq (BitVec.ofNat 32 (i 0).val) 17#32))) 0#32 = 1#1

/-- The first point. -/
theorem at0_iff : ∀ t : Fin grid1.N, at_ (grid1.coords t) 0#32 ↔ t.val = 0 := by decide +kernel

/-- The point that ends the first layer. -/
theorem at16_iff : ∀ t : Fin grid1.N, at_ (grid1.coords t) 16#32 ↔ t.val = 16 := by decide +kernel

/-- The point that begins the second layer. -/
theorem at17_iff : ∀ t : Fin grid1.N, at_ (grid1.coords t) 17#32 ↔ t.val = 17 := by decide +kernel

/-- The points that begin a layer. -/
theorem atStart_iff : ∀ t : Fin grid1.N, atStart (grid1.coords t) ↔ t.val = 0 ∨ t.val = 17 := by decide +kernel

/-- The points that take a block of the first incidence matrix in the first layer. -/
theorem cond2_iff : ∀ t : Fin grid1.N, k1_cond2 (grid1.coords t) = 1#1 ↔ t.val < 12 := by decide +kernel

/-- The points whose block is kept. -/
theorem cond4_iff : ∀ t : Fin grid1.N, k1_cond4 (grid1.coords t) = 1#1 ↔ t.val < 4 := by decide +kernel

/-- The points that take a block of the first incidence matrix in the second layer. -/
theorem cond5_iff : ∀ t : Fin grid1.N, k1_cond5 (grid1.coords t) = 1#1 ↔ 17 ≤ t.val ∧ t.val < 29 := by decide +kernel

/-- Of these, the points whose block was kept. -/
theorem cond7_iff : ∀ t : Fin grid1.N, 17 ≤ t.val → (k1_cond7 (grid1.coords t) = 1#1 ↔ t.val < 21) := by decide +kernel

/-- Of these, the points whose block is read again. -/
theorem cond8_iff : ∀ t : Fin grid1.N, 17 ≤ t.val → (k1_cond8 (grid1.coords t) = 1#1 ↔ 21 ≤ t.val) := by decide +kernel

/-- The points that take a block of the second incidence matrix. -/
theorem cond9_iff : ∀ t : Fin grid1.N, k1_cond9 (grid1.coords t) = 1#1 ↔ t.val < 16 ∨ (17 ≤ t.val ∧ t.val < 33) := by decide +kernel

/-- The last point. -/
theorem cond12_iff : ∀ t : Fin grid1.N, k1_cond12 (grid1.coords t) = 1#1 ↔ t.val = 33 := by decide +kernel

/-! ## The block offsets -/

/-- Where a block is kept. -/
theorem off1_eq : ∀ t : Fin grid1.N, t.val < 4 → k1_off1 (grid1.coords t) = ![t.val, 0, 0] := by decide +kernel

/-- The rows of rank one read in the first layer. -/
theorem off2_eq : ∀ t : Fin grid1.N, t.val < 12 → k1_off2 (grid1.coords t) = ![512 * t.val, 0] := by decide +kernel

/-- The columns of the transposed product written in the first layer. -/
theorem off3_eq : ∀ t : Fin grid1.N, t.val < 12 → k1_off3 (grid1.coords t) = ![0, 512 * t.val] := by decide +kernel

/-- Where a kept block is read. -/
theorem off4_eq : ∀ t : Fin grid1.N, 17 ≤ t.val → t.val < 21 → k1_off4 (grid1.coords t) = ![t.val - 17, 0, 0] := by decide +kernel

/-- The rows of rank one read with a kept block. -/
theorem off5_eq : ∀ t : Fin grid1.N, 17 ≤ t.val → t.val < 21 → k1_off5 (grid1.coords t) = ![512 * (t.val - 17), 0] := by decide +kernel

/-- The columns written with a kept block. -/
theorem off6_eq : ∀ t : Fin grid1.N, 17 ≤ t.val → t.val < 21 → k1_off6 (grid1.coords t) = ![0, 512 * (t.val - 17)] := by decide +kernel

/-- The rows of rank one read with a block read again. -/
theorem off7_eq : ∀ t : Fin grid1.N, 21 ≤ t.val → t.val < 29 → k1_off7 (grid1.coords t) = ![512 * (t.val - 17), 0] := by decide +kernel

/-- The columns written with a block read again. -/
theorem off8_eq : ∀ t : Fin grid1.N, 21 ≤ t.val → t.val < 29 → k1_off8 (grid1.coords t) = ![0, 512 * (t.val - 17)] := by decide +kernel

/-- The rows of rank two read in the first layer. -/
theorem off9_eq_first : ∀ t : Fin grid1.N, t.val < 16 → k1_off9 (grid1.coords t) = ![256 * t.val, 0] := by decide +kernel

/-- The rows of rank two read in the second layer. -/
theorem off9_eq_second : ∀ t : Fin grid1.N, 17 ≤ t.val → t.val < 33 → k1_off9 (grid1.coords t) = ![256 * (t.val - 17), 0] := by decide +kernel

/-- The columns of the second transposed product written in the first layer. -/
theorem off10_eq_first : ∀ t : Fin grid1.N, t.val < 16 → k1_off10 (grid1.coords t) = ![0, 256 * t.val] := by decide +kernel

/-- The columns of the second transposed product written in the second layer. -/
theorem off10_eq_second : ∀ t : Fin grid1.N, 17 ≤ t.val → t.val < 33 → k1_off10 (grid1.coords t) = ![0, 256 * (t.val - 17)] := by decide +kernel

/-! ## The changes -/

/-- The features are set. -/
def start (I : In F) (s : Scr F) : Scr F := { s with h := feat0 I }
/-- The first accumulator is cleared. -/
def clear0 (s : Scr F) : Scr F := { s with a0 := k1_pay3 }
/-- The second accumulator is cleared. -/
def clear2 (s : Scr F) : Scr F := { s with a2 := k1_pay15 }
/-- Block `n` of the first incidence matrix is kept. -/
def keep (I : In F) (n : ℕ) (s : Scr F) : Scr F := { s with b1c := VecWindow.put s.b1c ![n, 0, 0] S1x2048x512.size (k1_pay4 (b1 I n)) }
/-- Block `n` of the first incidence matrix is used. -/
def use1 (I : In F) (n : ℕ) (s : Scr F) : Scr F :=
  { s with
    a0 := k1_pay5 (b1 I n) s.a0 (rows1 s.h.h1 n)
    a1t := VecWindow.put s.a1t ![0, 512 * n] S128x512.size (blk1t I s.h.h0t n) }
/-- Block `n` of the second incidence matrix is used. -/
def use2 (I : In F) (n : ℕ) (s : Scr F) : Scr F :=
  { s with
    a2 := k1_pay16 (b2 I n) s.a2 (rows2 s.h.h2 n)
    a3t := VecWindow.put s.a3t ![0, 256 * n] S128x256.size (blk3t I s.h.h1t n) }
/-- The features of the next layer are set. -/
def turn (I : In F) (s : Scr F) : Scr F := { s with h := next I s }

/-- Slab `n` of the kept blocks. -/
def slab (x : Vec F S4x2048x512 .bf16) (n : ℕ) : Vec F S1x2048x512 .bf16 :=
  fun y => x (ix3 (⟨n % 4, Nat.mod_lt _ (by decide)⟩ : Fin 4) (y 1 : Fin 2048) (y 2 : Fin 512))

/-! ## Loads of these blocks -/

/-- A load of 512 rows of rank one. -/
theorem readAt_rows1 {κ : Kind} {sp : Space} (v : View sig κ sp S6144x128 .bf16) (f : v.ty.Contents (Elt F)) (n : ℕ) (hn : n < 12) {off : Fin 2 → ℕ}
    (inb : ∀ a, off a + S512x128.size a ≤ S6144x128.size a) (h : off = ![512 * n, 0]) :
    v.readAt (Elt F) (Rect.unit (s := S6144x128) off S512x128.size inb).toLoadRect f = rows1 (v.read (Elt F) f) n := by
  subst h
  funext y
  refine congrArg (v.read (Elt F) f) (funext fun a => Fin.ext ?_)
  have h0 : (y 0).val < 512 := (y 0).isLt
  match a with
  | 0 => show 512 * n + 1 * (y 0).val = (512 * n + (y 0).val) % 6144; omega
  | 1 => show 0 + 1 * (y 1).val = (y 1).val; omega

/-- A load of 256 rows of rank two. -/
theorem readAt_rows2 {κ : Kind} {sp : Space} (v : View sig κ sp S4096x128 .bf16) (f : v.ty.Contents (Elt F)) (n : ℕ) (hn : n < 16) {off : Fin 2 → ℕ}
    (inb : ∀ a, off a + S256x128.size a ≤ S4096x128.size a) (h : off = ![256 * n, 0]) :
    v.readAt (Elt F) (Rect.unit (s := S4096x128) off S256x128.size inb).toLoadRect f = rows2 (v.read (Elt F) f) n := by
  subst h
  funext y
  refine congrArg (v.read (Elt F) f) (funext fun a => Fin.ext ?_)
  have h0 : (y 0).val < 256 := (y 0).isLt
  match a with
  | 0 => show 256 * n + 1 * (y 0).val = (256 * n + (y 0).val) % 4096; omega
  | 1 => show 0 + 1 * (y 1).val = (y 1).val; omega

/-- A load of 512 rows of rank one after a store of all of them. -/
theorem readCov_rows1 {κ : Kind} {sp : Space} (v : View sig κ sp S6144x128 .bf16) (w : Vec F S6144x128 .bf16) (L : List (View.Piece (Elt F) S6144x128 .bf16))
    (n : ℕ) (hn : n < 12) {off off' : Fin 2 → ℕ} (inb' : ∀ a, off' a + S6144x128.size a ≤ S6144x128.size a)
    (inb : ∀ a, off a + S512x128.size a ≤ S6144x128.size a) (h : off = ![512 * n, 0]) :
    v.readCov (⟨Rect.unit (s := S6144x128) off' S6144x128.size inb', w⟩ :: L) (Rect.unit (s := S6144x128) off S512x128.size inb).toLoadRect = rows1 w n := by
  unfold View.readCov
  rw [readAt_rows1 v _ n hn inb h, View.read_writes_full]

/-- A load of 256 rows of rank two after a store of all of them. -/
theorem readCov_rows2 {κ : Kind} {sp : Space} (v : View sig κ sp S4096x128 .bf16) (w : Vec F S4096x128 .bf16) (L : List (View.Piece (Elt F) S4096x128 .bf16))
    (n : ℕ) (hn : n < 16) {off off' : Fin 2 → ℕ} (inb' : ∀ a, off' a + S4096x128.size a ≤ S4096x128.size a)
    (inb : ∀ a, off a + S256x128.size a ≤ S4096x128.size a) (h : off = ![256 * n, 0]) :
    v.readCov (⟨Rect.unit (s := S4096x128) off' S4096x128.size inb', w⟩ :: L) (Rect.unit (s := S4096x128) off S256x128.size inb).toLoadRect = rows2 w n := by
  unfold View.readCov
  rw [readAt_rows2 v _ n hn inb h, View.read_writes_full]

/-- A load of a kept block. -/
theorem readAt_slab {κ : Kind} {sp : Space} (v : View sig κ sp S4x2048x512 .bf16) (f : v.ty.Contents (Elt F)) (n : ℕ) (hn : n < 4) {off : Fin 3 → ℕ}
    (inb : ∀ a, off a + S1x2048x512.size a ≤ S4x2048x512.size a) (h : off = ![n, 0, 0]) :
    v.readAt (Elt F) (Rect.unit (s := S4x2048x512) off S1x2048x512.size inb).toLoadRect f = slab (v.read (Elt F) f) n := by
  subst h
  funext y
  refine congrArg (v.read (Elt F) f) (funext fun a => Fin.ext ?_)
  have h0 : (y 0).val < 1 := (y 0).isLt
  match a with
  | 0 => show n + 1 * (y 0).val = n % 4; omega
  | 1 => show 0 + 1 * (y 1).val = (y 1).val; omega
  | 2 => show 0 + 1 * (y 2).val = (y 2).val; omega

/-- A kept block used in place of the block it was kept from: the accumulator. -/
theorem pay9_kept (b : Vec F S2048x512 .f32) (a : Vec F S2048x128 .f32) (x : Vec F S512x128 .bf16) :
    k1_pay9 (k1_pay4 b) a x = k1_pay5 b a x := by
  unfold k1_pay9 k1_pay8 k1_pay4 k1_pay5
  simp only [shapeCast_shapeCast, shapeCast_self]

/-- A kept block used in place of the block it was kept from: the transposed product. -/
theorem pay10_kept (b : Vec F S2048x512 .f32) (x : Vec F S128x2048 .bf16) :
    k1_pay10 (k1_pay4 b) x = k1_pay6 b x := by
  unfold k1_pay10 k1_pay8 k1_pay4 k1_pay6
  simp only [shapeCast_shapeCast, shapeCast_self]

end Cert.KernelIdeal.Main

end
-- ==== Proof.KernelIdealBody.lean ====
/-
  The body of the main call at one grid point, in each of its ten cases: from the six read blocks and the scratch contents, it leaves the
  blocks as they are and the scratch contents changed as the case says; the last point also writes the three results.
-/
module

public import proofs.«01_k».proof.Proof.KernelIdealBase
public import proofs.«01_k».proof.Proof.KernelIdealSteps
public import Idealize.ShloMosaic.Lib.Pipeline.RegionArraysS
public import Idealize.ShloMosaic.Lib.Tactic

@[expose] public section

set_option maxRecDepth 16384

noncomputable section

namespace Cert.KernelIdeal.Main

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The ten scratch arrays are held at `s`. -/
def scr (c : Dev nD) (s : Scr F) : sProp 𝕄 :=
  iprop(at_v c (Memref.whole cc1_scratch0) s.h.h0 ∗ at_v c (Memref.whole cc1_scratch1) s.h.h1 ∗ at_v c (Memref.whole cc1_scratch2) s.h.h2
    ∗ at_v c (Memref.whole cc1_scratch3) s.h.h0t ∗ at_v c (Memref.whole cc1_scratch4) s.h.h1t ∗ at_v c (Memref.whole cc1_scratch5) s.a0
    ∗ at_v c (Memref.whole cc1_scratch6) s.a1t ∗ at_v c (Memref.whole cc1_scratch7) s.a2 ∗ at_v c (Memref.whole cc1_scratch8) s.a3t
    ∗ at_v c (Memref.whole cc1_scratch9) s.b1c)

/-- The six read blocks are held. -/
def blocks (c : Dev nD) (I : In F) (n1 n2 : ℕ)
    (M1 M2 : Memref sig .tc .vmem S12288x128 .bf16) (M3 : Memref sig .tc .vmem S792x128 .f32) (M4 : Memref sig .tc .vmem S3712x128 .bf16)
    (M5 : Memref sig .tc .vmem S2048x512 .f32) (M6 : Memref sig .tc .vmem S6144x256 .f32) : sProp 𝕄 :=
  iprop(at_v c M1 I.xp ∗ at_v c M2 I.up ∗ at_v c M3 I.sp ∗ at_v c M4 I.wp ∗ at_v c M5 (b1 I n1) ∗ at_v c M6 (b2 I n2))

variable (c : Dev nD) (I : In F) (s : Scr F) (t : Fin grid1.N)
  (M1 : Memref sig .tc .vmem S12288x128 .bf16) (hM1 : M1.IsWhole) (M2 : Memref sig .tc .vmem S12288x128 .bf16) (hM2 : M2.IsWhole)
  (M3 : Memref sig .tc .vmem S792x128 .f32) (hM3 : M3.IsWhole) (M4 : Memref sig .tc .vmem S3712x128 .bf16) (hM4 : M4.IsWhole)
  (M5 : Memref sig .tc .vmem S2048x512 .f32) (hM5 : M5.IsWhole) (M6 : Memref sig .tc .vmem S6144x256 .f32) (hM6 : M6.IsWhole)
  (M7 : Memref sig .tc .vmem S2048x128 .f32) (hM7 : M7.IsWhole) (M8 : Memref sig .tc .vmem S6144x128 .f32) (hM8 : M8.IsWhole)
  (M9 : Memref sig .tc .vmem S4096x128 .f32) (hM9 : M9.IsWhole)

/-- The body on these memrefs. -/
abbrev body : Prog (TpuEff nD τ sig (Elt F) Λ₀ .tc) PUnit :=
  cc1__body (grid1.coords t) M1 hM1 M2 hM2 M3 hM3 M4 hM4 M5 hM5 M6 hM6 M7 hM7 M8 hM8 M9 hM9
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    (Memref.whole cc1_scratch4) (Memref.isWhole_whole _) (Memref.whole cc1_scratch5) (Memref.isWhole_whole _)
    (Memref.whole cc1_scratch6) (Memref.isWhole_whole _) (Memref.whole cc1_scratch7) (Memref.isWhole_whole _)
    (Memref.whole cc1_scratch8) (Memref.isWhole_whole _) (Memref.whole cc1_scratch9) (Memref.isWhole_whole _)

set_option maxHeartbeats 800000 in
/-- The first point: the features are set, the accumulators cleared, and the first blocks kept and used. -/
theorem body_0 (ht : t.val = 0) (E : Set ℕ) (Q : PUnit → sProp 𝕄) :
    iprop(blocks c I (0) (0) M1 M2 M3 M4 M5 M6 ∗ scr c s
    ∗ (iprop(blocks c I (0) (0) M1 M2 M3 M4 M5 M6 ∗ scr c (use2 I 0 (clear2 (use1 I 0 (keep I 0 (clear0 (start I s))))))) -∗ Q ⟨⟩))
      ⊢ wp frame (wpE (defs₀ (F := F)) Variants.none c none) E (body t M1 hM1 M2 hM2 M3 hM3 M4 hM4 M5 hM5 M6 hM6 M7 hM7 M8 hM8 M9 hM9) Q := by
  have i_at0 : (at_ (grid1.coords t) 0#32) := by have := at0_iff t; exact this.2 (by omega)
  have i_c2 : (k1_cond2 (grid1.coords t) = 1#1) := by have := cond2_iff t; exact this.2 (by omega)
  have i_c4 : (k1_cond4 (grid1.coords t) = 1#1) := by have := cond4_iff t; exact this.2 (by omega)
  have i_c5 : ¬ (k1_cond5 (grid1.coords t) = 1#1) := by have := cond5_iff t; intro h; have := this.1 h; omega
  have i_at17 : ¬ (at_ (grid1.coords t) 17#32) := by have := at17_iff t; intro h; have := this.1 h; omega
  have i_c9 : (k1_cond9 (grid1.coords t) = 1#1) := by have := cond9_iff t; exact this.2 (by omega)
  have i_st : (atStart (grid1.coords t)) := by have := atStart_iff t; exact this.2 (by omega)
  have i_at16 : ¬ (at_ (grid1.coords t) 16#32) := by have := at16_iff t; intro h; have := this.1 h; omega
  have i_c12 : ¬ (k1_cond12 (grid1.coords t) = 1#1) := by have := cond12_iff t; intro h; have := this.1 h; omega
  letI : ClosedOff (k1_off2 (grid1.coords t)) := ⟨![0, 0], (off2_eq t (by omega)).trans (by rw [ht])⟩
  letI : ClosedOff (k1_off9 (grid1.coords t)) := ⟨![0, 0], (off9_eq_first t (by omega)).trans (by rw [ht])⟩
  unfold blocks scr
  iintro ⟨⟨⟨%g1, %m1, G1⟩, ⟨%g2, %m2, G2⟩, ⟨%g3, %m3, G3⟩, ⟨%g4, %m4, G4⟩, ⟨%g5, %m5, G5⟩, ⟨%g6, %m6, G6⟩⟩, ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_unfold [body]
  sl_unfold [cc1__body]
  sl_exec
  sl_step
  iapply Hk
  isplitl [G1 G2 G3 G4 G5 G6]
  · isplitl [G1]
    · iexists _; isplitr; swap; · iexact G1
      ipureintro; exact m1
    isplitl [G2]
    · iexists _; isplitr; swap; · iexact G2
      ipureintro; exact m2
    isplitl [G3]
    · iexists _; isplitr; swap; · iexact G3
      ipureintro; exact m3
    isplitl [G4]
    · iexists _; isplitr; swap; · iexact G4
      ipureintro; exact m4
    isplitl [G5]
    · iexists _; isplitr; swap; · iexact G5
      ipureintro; exact m5
    · iexists _; isplitr; swap; · iexact G6
      ipureintro; exact m6
  isplitl [H0]
  · iexists _; isplitr; swap; · iexact H0
    ipureintro
    sl_unfold_run_names
    refine (View.read_writes_full _ _ _ _ _).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H1]
  · iexists _; isplitr; swap; · iexact H1
    ipureintro
    sl_unfold_run_names
    refine (View.read_writes_full _ _ _ _ _).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H2]
  · iexists _; isplitr; swap; · iexact H2
    ipureintro
    sl_unfold_run_names
    refine (View.read_writes_full _ _ _ _ _).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H3]
  · iexists _; isplitr; swap; · iexact H3
    ipureintro
    sl_unfold_run_names
    refine (View.read_writes_full _ _ _ _ _).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H4]
  · iexists _; isplitr; swap; · iexact H4
    ipureintro
    sl_unfold_run_names
    refine (View.read_writes_full _ _ _ _ _).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H5]
  · iexists _; isplitr; swap; · iexact H5
    ipureintro
    sl_unfold_run_names
    refine (View.read_writes_full _ _ _ _ _).trans ?_
    rw [readCov_rows1 _ _ _ 0 (by omega) _ _ ((off2_eq t (by omega)).trans (by rw [ht]))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H6]
  · iexists _; isplitr; swap; · iexact H6
    ipureintro
    sl_unfold_run_names
    refine (View.read_writes_cons_put _ _ _ _ _ ((off3_eq t (by omega)).trans (by rw [ht]))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H7]
  · iexists _; isplitr; swap; · iexact H7
    ipureintro
    sl_unfold_run_names
    refine (View.read_writes_full _ _ _ _ _).trans ?_
    rw [readCov_rows2 _ _ _ 0 (by omega) _ _ ((off9_eq_first t (by omega)).trans (by rw [ht]))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H8]
  · iexists _; isplitr; swap; · iexact H8
    ipureintro
    sl_unfold_run_names
    refine (View.read_writes_cons_put _ _ _ _ _ ((off10_eq_first t (by omega)).trans (by rw [ht]))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  · iexists _; isplitr; swap; · iexact H9
    ipureintro
    sl_unfold_run_names
    refine (View.read_writes_cons_put _ _ _ _ _ ((off1_eq t (by omega)).trans (by rw [ht]))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl

/-- Points 1 to 3: the blocks are used and the first one kept. -/
theorem body_1 (hlo : 1 ≤ t.val) (hhi : t.val < 4) (E : Set ℕ) (Q : PUnit → sProp 𝕄) :
    iprop(blocks c I (t.val) (t.val) M1 M2 M3 M4 M5 M6 ∗ scr c s
    ∗ (iprop(blocks c I (t.val) (t.val) M1 M2 M3 M4 M5 M6 ∗ scr c (use2 I t.val (use1 I t.val (keep I t.val s)))) -∗ Q ⟨⟩))
      ⊢ wp frame (wpE (defs₀ (F := F)) Variants.none c none) E (body t M1 hM1 M2 hM2 M3 hM3 M4 hM4 M5 hM5 M6 hM6 M7 hM7 M8 hM8 M9 hM9) Q := by
  have i_at0 : ¬ (at_ (grid1.coords t) 0#32) := by have := at0_iff t; intro h; have := this.1 h; omega
  have i_c2 : (k1_cond2 (grid1.coords t) = 1#1) := by have := cond2_iff t; exact this.2 (by omega)
  have i_c4 : (k1_cond4 (grid1.coords t) = 1#1) := by have := cond4_iff t; exact this.2 (by omega)
  have i_c5 : ¬ (k1_cond5 (grid1.coords t) = 1#1) := by have := cond5_iff t; intro h; have := this.1 h; omega
  have i_at17 : ¬ (at_ (grid1.coords t) 17#32) := by have := at17_iff t; intro h; have := this.1 h; omega
  have i_c9 : (k1_cond9 (grid1.coords t) = 1#1) := by have := cond9_iff t; exact this.2 (by omega)
  have i_st : ¬ (atStart (grid1.coords t)) := by have := atStart_iff t; intro h; have := this.1 h; omega
  have i_at16 : ¬ (at_ (grid1.coords t) 16#32) := by have := at16_iff t; intro h; have := this.1 h; omega
  have i_c12 : ¬ (k1_cond12 (grid1.coords t) = 1#1) := by have := cond12_iff t; intro h; have := this.1 h; omega
  unfold blocks scr
  iintro ⟨⟨⟨%g1, %m1, G1⟩, ⟨%g2, %m2, G2⟩, ⟨%g3, %m3, G3⟩, ⟨%g4, %m4, G4⟩, ⟨%g5, %m5, G5⟩, ⟨%g6, %m6, G6⟩⟩, ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_unfold [body]
  sl_unfold [cc1__body]
  sl_exec
  sl_step
  iapply Hk
  isplitl [G1 G2 G3 G4 G5 G6]
  · isplitl [G1]
    · iexists _; isplitr; swap; · iexact G1
      ipureintro; exact m1
    isplitl [G2]
    · iexists _; isplitr; swap; · iexact G2
      ipureintro; exact m2
    isplitl [G3]
    · iexists _; isplitr; swap; · iexact G3
      ipureintro; exact m3
    isplitl [G4]
    · iexists _; isplitr; swap; · iexact G4
      ipureintro; exact m4
    isplitl [G5]
    · iexists _; isplitr; swap; · iexact G5
      ipureintro; exact m5
    · iexists _; isplitr; swap; · iexact G6
      ipureintro; exact m6
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro
    sl_unfold_run_names
    refine (View.read_writes_full _ _ _ _ _).trans ?_
    rw [readAt_rows1 _ _ (t.val) (by omega) _ (off2_eq t (by omega))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H6]
  · iexists _; isplitr; swap; · iexact H6
    ipureintro
    sl_unfold_run_names
    refine (View.read_writes_cons_put _ _ _ _ _ (off3_eq t (by omega))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H7]
  · iexists _; isplitr; swap; · iexact H7
    ipureintro
    sl_unfold_run_names
    refine (View.read_writes_full _ _ _ _ _).trans ?_
    rw [readAt_rows2 _ _ (t.val) (by omega) _ (off9_eq_first t (by omega))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H8]
  · iexists _; isplitr; swap; · iexact H8
    ipureintro
    sl_unfold_run_names
    refine (View.read_writes_cons_put _ _ _ _ _ (off10_eq_first t (by omega))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  · iexists _; isplitr; swap; · iexact H9
    ipureintro
    sl_unfold_run_names
    refine (View.read_writes_cons_put _ _ _ _ _ (off1_eq t (by omega))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl

/-- Points 4 to 11: the blocks are used. -/
theorem body_4 (hlo : 4 ≤ t.val) (hhi : t.val < 12) (E : Set ℕ) (Q : PUnit → sProp 𝕄) :
    iprop(blocks c I (t.val) (t.val) M1 M2 M3 M4 M5 M6 ∗ scr c s
    ∗ (iprop(blocks c I (t.val) (t.val) M1 M2 M3 M4 M5 M6 ∗ scr c (use2 I t.val (use1 I t.val s))) -∗ Q ⟨⟩))
      ⊢ wp frame (wpE (defs₀ (F := F)) Variants.none c none) E (body t M1 hM1 M2 hM2 M3 hM3 M4 hM4 M5 hM5 M6 hM6 M7 hM7 M8 hM8 M9 hM9) Q := by
  have i_at0 : ¬ (at_ (grid1.coords t) 0#32) := by have := at0_iff t; intro h; have := this.1 h; omega
  have i_c2 : (k1_cond2 (grid1.coords t) = 1#1) := by have := cond2_iff t; exact this.2 (by omega)
  have i_c4 : ¬ (k1_cond4 (grid1.coords t) = 1#1) := by have := cond4_iff t; intro h; have := this.1 h; omega
  have i_c5 : ¬ (k1_cond5 (grid1.coords t) = 1#1) := by have := cond5_iff t; intro h; have := this.1 h; omega
  have i_at17 : ¬ (at_ (grid1.coords t) 17#32) := by have := at17_iff t; intro h; have := this.1 h; omega
  have i_c9 : (k1_cond9 (grid1.coords t) = 1#1) := by have := cond9_iff t; exact this.2 (by omega)
  have i_st : ¬ (atStart (grid1.coords t)) := by have := atStart_iff t; intro h; have := this.1 h; omega
  have i_at16 : ¬ (at_ (grid1.coords t) 16#32) := by have := at16_iff t; intro h; have := this.1 h; omega
  have i_c12 : ¬ (k1_cond12 (grid1.coords t) = 1#1) := by have := cond12_iff t; intro h; have := this.1 h; omega
  unfold blocks scr
  iintro ⟨⟨⟨%g1, %m1, G1⟩, ⟨%g2, %m2, G2⟩, ⟨%g3, %m3, G3⟩, ⟨%g4, %m4, G4⟩, ⟨%g5, %m5, G5⟩, ⟨%g6, %m6, G6⟩⟩, ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_unfold [body]
  sl_unfold [cc1__body]
  sl_exec
  sl_step
  iapply Hk
  isplitl [G1 G2 G3 G4 G5 G6]
  · isplitl [G1]
    · iexists _; isplitr; swap; · iexact G1
      ipureintro; exact m1
    isplitl [G2]
    · iexists _; isplitr; swap; · iexact G2
      ipureintro; exact m2
    isplitl [G3]
    · iexists _; isplitr; swap; · iexact G3
      ipureintro; exact m3
    isplitl [G4]
    · iexists _; isplitr; swap; · iexact G4
      ipureintro; exact m4
    isplitl [G5]
    · iexists _; isplitr; swap; · iexact G5
      ipureintro; exact m5
    · iexists _; isplitr; swap; · iexact G6
      ipureintro; exact m6
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro
    sl_unfold_run_names
    refine (View.read_writes_full _ _ _ _ _).trans ?_
    rw [readAt_rows1 _ _ (t.val) (by omega) _ (off2_eq t (by omega))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H6]
  · iexists _; isplitr; swap; · iexact H6
    ipureintro
    sl_unfold_run_names
    refine (View.read_writes_cons_put _ _ _ _ _ (off3_eq t (by omega))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H7]
  · iexists _; isplitr; swap; · iexact H7
    ipureintro
    sl_unfold_run_names
    refine (View.read_writes_full _ _ _ _ _).trans ?_
    rw [readAt_rows2 _ _ (t.val) (by omega) _ (off9_eq_first t (by omega))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H8]
  · iexists _; isplitr; swap; · iexact H8
    ipureintro
    sl_unfold_run_names
    refine (View.read_writes_cons_put _ _ _ _ _ (off10_eq_first t (by omega))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  · iexists _; isplitr; swap; · iexact H9
    ipureintro; exact e9

/-- Points 12 to 15: the block of the second incidence matrix is used. -/
theorem body_12 (n1 : ℕ) (hlo : 12 ≤ t.val) (hhi : t.val < 16) (E : Set ℕ) (Q : PUnit → sProp 𝕄) :
    iprop(blocks c I (n1) (t.val) M1 M2 M3 M4 M5 M6 ∗ scr c s
    ∗ (iprop(blocks c I (n1) (t.val) M1 M2 M3 M4 M5 M6 ∗ scr c (use2 I t.val s)) -∗ Q ⟨⟩))
      ⊢ wp frame (wpE (defs₀ (F := F)) Variants.none c none) E (body t M1 hM1 M2 hM2 M3 hM3 M4 hM4 M5 hM5 M6 hM6 M7 hM7 M8 hM8 M9 hM9) Q := by
  have i_at0 : ¬ (at_ (grid1.coords t) 0#32) := by have := at0_iff t; intro h; have := this.1 h; omega
  have i_c2 : ¬ (k1_cond2 (grid1.coords t) = 1#1) := by have := cond2_iff t; intro h; have := this.1 h; omega
  have i_c4 : ¬ (k1_cond4 (grid1.coords t) = 1#1) := by have := cond4_iff t; intro h; have := this.1 h; omega
  have i_c5 : ¬ (k1_cond5 (grid1.coords t) = 1#1) := by have := cond5_iff t; intro h; have := this.1 h; omega
  have i_at17 : ¬ (at_ (grid1.coords t) 17#32) := by have := at17_iff t; intro h; have := this.1 h; omega
  have i_c9 : (k1_cond9 (grid1.coords t) = 1#1) := by have := cond9_iff t; exact this.2 (by omega)
  have i_st : ¬ (atStart (grid1.coords t)) := by have := atStart_iff t; intro h; have := this.1 h; omega
  have i_at16 : ¬ (at_ (grid1.coords t) 16#32) := by have := at16_iff t; intro h; have := this.1 h; omega
  have i_c12 : ¬ (k1_cond12 (grid1.coords t) = 1#1) := by have := cond12_iff t; intro h; have := this.1 h; omega
  unfold blocks scr
  iintro ⟨⟨⟨%g1, %m1, G1⟩, ⟨%g2, %m2, G2⟩, ⟨%g3, %m3, G3⟩, ⟨%g4, %m4, G4⟩, ⟨%g5, %m5, G5⟩, ⟨%g6, %m6, G6⟩⟩, ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_unfold [body]
  sl_unfold [cc1__body]
  sl_exec
  sl_step
  iapply Hk
  isplitl [G1 G2 G3 G4 G5 G6]
  · isplitl [G1]
    · iexists _; isplitr; swap; · iexact G1
      ipureintro; exact m1
    isplitl [G2]
    · iexists _; isplitr; swap; · iexact G2
      ipureintro; exact m2
    isplitl [G3]
    · iexists _; isplitr; swap; · iexact G3
      ipureintro; exact m3
    isplitl [G4]
    · iexists _; isplitr; swap; · iexact G4
      ipureintro; exact m4
    isplitl [G5]
    · iexists _; isplitr; swap; · iexact G5
      ipureintro; exact m5
    · iexists _; isplitr; swap; · iexact G6
      ipureintro; exact m6
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro
    sl_unfold_run_names
    refine (View.read_writes_full _ _ _ _ _).trans ?_
    rw [readAt_rows2 _ _ (t.val) (by omega) _ (off9_eq_first t (by omega))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H8]
  · iexists _; isplitr; swap; · iexact H8
    ipureintro
    sl_unfold_run_names
    refine (View.read_writes_cons_put _ _ _ _ _ (off10_eq_first t (by omega))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  · iexists _; isplitr; swap; · iexact H9
    ipureintro; exact e9

set_option maxHeartbeats 800000 in
/-- Point 16: the features of the second layer are set. -/
theorem body_16 (n1 n2 : ℕ) (ht : t.val = 16) (E : Set ℕ) (Q : PUnit → sProp 𝕄) :
    iprop(blocks c I (n1) (n2) M1 M2 M3 M4 M5 M6 ∗ scr c s
    ∗ (iprop(blocks c I (n1) (n2) M1 M2 M3 M4 M5 M6 ∗ scr c (turn I s)) -∗ Q ⟨⟩))
      ⊢ wp frame (wpE (defs₀ (F := F)) Variants.none c none) E (body t M1 hM1 M2 hM2 M3 hM3 M4 hM4 M5 hM5 M6 hM6 M7 hM7 M8 hM8 M9 hM9) Q := by
  have i_at0 : ¬ (at_ (grid1.coords t) 0#32) := by have := at0_iff t; intro h; have := this.1 h; omega
  have i_c2 : ¬ (k1_cond2 (grid1.coords t) = 1#1) := by have := cond2_iff t; intro h; have := this.1 h; omega
  have i_c4 : ¬ (k1_cond4 (grid1.coords t) = 1#1) := by have := cond4_iff t; intro h; have := this.1 h; omega
  have i_c5 : ¬ (k1_cond5 (grid1.coords t) = 1#1) := by have := cond5_iff t; intro h; have := this.1 h; omega
  have i_at17 : ¬ (at_ (grid1.coords t) 17#32) := by have := at17_iff t; intro h; have := this.1 h; omega
  have i_c9 : ¬ (k1_cond9 (grid1.coords t) = 1#1) := by have := cond9_iff t; intro h; have := this.1 h; omega
  have i_st : ¬ (atStart (grid1.coords t)) := by have := atStart_iff t; intro h; have := this.1 h; omega
  have i_at16 : (at_ (grid1.coords t) 16#32) := by have := at16_iff t; exact this.2 (by omega)
  have i_c12 : ¬ (k1_cond12 (grid1.coords t) = 1#1) := by have := cond12_iff t; intro h; have := this.1 h; omega
  unfold blocks scr
  iintro ⟨⟨⟨%g1, %m1, G1⟩, ⟨%g2, %m2, G2⟩, ⟨%g3, %m3, G3⟩, ⟨%g4, %m4, G4⟩, ⟨%g5, %m5, G5⟩, ⟨%g6, %m6, G6⟩⟩, ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_unfold [body]
  sl_unfold [cc1__body]
  sl_exec
  sl_step
  iapply Hk
  isplitl [G1 G2 G3 G4 G5 G6]
  · isplitl [G1]
    · iexists _; isplitr; swap; · iexact G1
      ipureintro; exact m1
    isplitl [G2]
    · iexists _; isplitr; swap; · iexact G2
      ipureintro; exact m2
    isplitl [G3]
    · iexists _; isplitr; swap; · iexact G3
      ipureintro; exact m3
    isplitl [G4]
    · iexists _; isplitr; swap; · iexact G4
      ipureintro; exact m4
    isplitl [G5]
    · iexists _; isplitr; swap; · iexact G5
      ipureintro; exact m5
    · iexists _; isplitr; swap; · iexact G6
      ipureintro; exact m6
  isplitl [H0]
  · iexists _; isplitr; swap; · iexact H0
    ipureintro
    sl_unfold_run_names
    refine (View.read_writes_full _ _ _ _ _).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H1]
  · iexists _; isplitr; swap; · iexact H1
    ipureintro
    sl_unfold_run_names
    refine (View.read_writes_full _ _ _ _ _).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H2]
  · iexists _; isplitr; swap; · iexact H2
    ipureintro
    sl_unfold_run_names
    refine (View.read_writes_full _ _ _ _ _).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H3]
  · iexists _; isplitr; swap; · iexact H3
    ipureintro
    sl_unfold_run_names
    refine (View.read_writes_full _ _ _ _ _).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H4]
  · iexists _; isplitr; swap; · iexact H4
    ipureintro
    sl_unfold_run_names
    refine (View.read_writes_full _ _ _ _ _).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  · iexists _; isplitr; swap; · iexact H9
    ipureintro; exact e9

set_option maxHeartbeats 800000 in
/-- Point 17: the accumulators are cleared, and a kept block and the first block of the second incidence matrix used. -/
theorem body_17 (n1 : ℕ) (ht : t.val = 17) (hs : slab s.b1c (0) = k1_pay4 (b1 I (0))) (E : Set ℕ) (Q : PUnit → sProp 𝕄) :
    iprop(blocks c I n1 (0) M1 M2 M3 M4 M5 M6 ∗ scr c s
    ∗ (iprop(blocks c I n1 (0) M1 M2 M3 M4 M5 M6 ∗ scr c (use2 I 0 (clear2 (use1 I 0 (clear0 s))))) -∗ Q ⟨⟩))
      ⊢ wp frame (wpE (defs₀ (F := F)) Variants.none c none) E (body t M1 hM1 M2 hM2 M3 hM3 M4 hM4 M5 hM5 M6 hM6 M7 hM7 M8 hM8 M9 hM9) Q := by
  have i_at0 : ¬ (at_ (grid1.coords t) 0#32) := by have := at0_iff t; intro h; have := this.1 h; omega
  have i_c2 : ¬ (k1_cond2 (grid1.coords t) = 1#1) := by have := cond2_iff t; intro h; have := this.1 h; omega
  have i_c4 : ¬ (k1_cond4 (grid1.coords t) = 1#1) := by have := cond4_iff t; intro h; have := this.1 h; omega
  have i_c5 : (k1_cond5 (grid1.coords t) = 1#1) := by have := cond5_iff t; exact this.2 (by omega)
  have i_at17 : (at_ (grid1.coords t) 17#32) := by have := at17_iff t; exact this.2 (by omega)
  have i_c9 : (k1_cond9 (grid1.coords t) = 1#1) := by have := cond9_iff t; exact this.2 (by omega)
  have i_st : (atStart (grid1.coords t)) := by have := atStart_iff t; exact this.2 (by omega)
  have i_at16 : ¬ (at_ (grid1.coords t) 16#32) := by have := at16_iff t; intro h; have := this.1 h; omega
  have i_c12 : ¬ (k1_cond12 (grid1.coords t) = 1#1) := by have := cond12_iff t; intro h; have := this.1 h; omega
  have i_c7 : (k1_cond7 (grid1.coords t) = 1#1) := by have := cond7_iff t (by omega); exact this.2 (by omega)
  have i_c8 : ¬ (k1_cond8 (grid1.coords t) = 1#1) := by have := cond8_iff t (by omega); intro h; have := this.1 h; omega
  unfold blocks scr
  iintro ⟨⟨⟨%g1, %m1, G1⟩, ⟨%g2, %m2, G2⟩, ⟨%g3, %m3, G3⟩, ⟨%g4, %m4, G4⟩, ⟨%g5, %m5, G5⟩, ⟨%g6, %m6, G6⟩⟩, ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_unfold [body]
  sl_unfold [cc1__body]
  sl_exec
  sl_step
  iapply Hk
  isplitl [G1 G2 G3 G4 G5 G6]
  · isplitl [G1]
    · iexists _; isplitr; swap; · iexact G1
      ipureintro; exact m1
    isplitl [G2]
    · iexists _; isplitr; swap; · iexact G2
      ipureintro; exact m2
    isplitl [G3]
    · iexists _; isplitr; swap; · iexact G3
      ipureintro; exact m3
    isplitl [G4]
    · iexists _; isplitr; swap; · iexact G4
      ipureintro; exact m4
    isplitl [G5]
    · iexists _; isplitr; swap; · iexact G5
      ipureintro; exact m5
    · iexists _; isplitr; swap; · iexact G6
      ipureintro; exact m6
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro
    sl_unfold_run_names
    refine (View.read_writes_full _ _ _ _ _).trans ?_
    rw [readAt_rows1 _ _ 0 (by omega) _ ((off5_eq t (by omega) (by omega)).trans (by rw [ht])), readAt_slab _ _ 0 (by omega) _ ((off4_eq t (by omega) (by omega)).trans (by rw [ht]))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rw [hs, pay9_kept]
    rfl
  isplitl [H6]
  · iexists _; isplitr; swap; · iexact H6
    ipureintro
    sl_unfold_run_names
    refine (View.read_writes_cons_put _ _ _ _ _ ((off6_eq t (by omega) (by omega)).trans (by rw [ht]))).trans ?_
    rw [readAt_slab _ _ 0 (by omega) _ ((off4_eq t (by omega) (by omega)).trans (by rw [ht]))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rw [hs, pay10_kept]
    rfl
  isplitl [H7]
  · iexists _; isplitr; swap; · iexact H7
    ipureintro
    sl_unfold_run_names
    refine (View.read_writes_full _ _ _ _ _).trans ?_
    rw [readAt_rows2 _ _ 0 (by omega) _ ((off9_eq_second t (by omega) (by omega)).trans (by rw [ht]))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H8]
  · iexists _; isplitr; swap; · iexact H8
    ipureintro
    sl_unfold_run_names
    refine (View.read_writes_cons_put _ _ _ _ _ ((off10_eq_second t (by omega) (by omega)).trans (by rw [ht]))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  · iexists _; isplitr; swap; · iexact H9
    ipureintro; exact e9

/-- Points 18 to 20: a kept block and a block of the second incidence matrix are used. -/
theorem body_18 (n1 : ℕ) (hlo : 18 ≤ t.val) (hhi : t.val < 21) (hs : slab s.b1c (t.val - 17) = k1_pay4 (b1 I (t.val - 17))) (E : Set ℕ) (Q : PUnit → sProp 𝕄) :
    iprop(blocks c I n1 (t.val - 17) M1 M2 M3 M4 M5 M6 ∗ scr c s
    ∗ (iprop(blocks c I n1 (t.val - 17) M1 M2 M3 M4 M5 M6 ∗ scr c (use2 I (t.val - 17) (use1 I (t.val - 17) s))) -∗ Q ⟨⟩))
      ⊢ wp frame (wpE (defs₀ (F := F)) Variants.none c none) E (body t M1 hM1 M2 hM2 M3 hM3 M4 hM4 M5 hM5 M6 hM6 M7 hM7 M8 hM8 M9 hM9) Q := by
  have i_at0 : ¬ (at_ (grid1.coords t) 0#32) := by have := at0_iff t; intro h; have := this.1 h; omega
  have i_c2 : ¬ (k1_cond2 (grid1.coords t) = 1#1) := by have := cond2_iff t; intro h; have := this.1 h; omega
  have i_c4 : ¬ (k1_cond4 (grid1.coords t) = 1#1) := by have := cond4_iff t; intro h; have := this.1 h; omega
  have i_c5 : (k1_cond5 (grid1.coords t) = 1#1) := by have := cond5_iff t; exact this.2 (by omega)
  have i_at17 : ¬ (at_ (grid1.coords t) 17#32) := by have := at17_iff t; intro h; have := this.1 h; omega
  have i_c9 : (k1_cond9 (grid1.coords t) = 1#1) := by have := cond9_iff t; exact this.2 (by omega)
  have i_st : ¬ (atStart (grid1.coords t)) := by have := atStart_iff t; intro h; have := this.1 h; omega
  have i_at16 : ¬ (at_ (grid1.coords t) 16#32) := by have := at16_iff t; intro h; have := this.1 h; omega
  have i_c12 : ¬ (k1_cond12 (grid1.coords t) = 1#1) := by have := cond12_iff t; intro h; have := this.1 h; omega
  have i_c7 : (k1_cond7 (grid1.coords t) = 1#1) := by have := cond7_iff t (by omega); exact this.2 (by omega)
  have i_c8 : ¬ (k1_cond8 (grid1.coords t) = 1#1) := by have := cond8_iff t (by omega); intro h; have := this.1 h; omega
  unfold blocks scr
  iintro ⟨⟨⟨%g1, %m1, G1⟩, ⟨%g2, %m2, G2⟩, ⟨%g3, %m3, G3⟩, ⟨%g4, %m4, G4⟩, ⟨%g5, %m5, G5⟩, ⟨%g6, %m6, G6⟩⟩, ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_unfold [body]
  sl_unfold [cc1__body]
  sl_exec
  sl_step
  iapply Hk
  isplitl [G1 G2 G3 G4 G5 G6]
  · isplitl [G1]
    · iexists _; isplitr; swap; · iexact G1
      ipureintro; exact m1
    isplitl [G2]
    · iexists _; isplitr; swap; · iexact G2
      ipureintro; exact m2
    isplitl [G3]
    · iexists _; isplitr; swap; · iexact G3
      ipureintro; exact m3
    isplitl [G4]
    · iexists _; isplitr; swap; · iexact G4
      ipureintro; exact m4
    isplitl [G5]
    · iexists _; isplitr; swap; · iexact G5
      ipureintro; exact m5
    · iexists _; isplitr; swap; · iexact G6
      ipureintro; exact m6
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro
    sl_unfold_run_names
    refine (View.read_writes_full _ _ _ _ _).trans ?_
    rw [readAt_rows1 _ _ (t.val - 17) (by omega) _ (off5_eq t (by omega) (by omega)), readAt_slab _ _ (t.val - 17) (by omega) _ (off4_eq t (by omega) (by omega))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rw [hs, pay9_kept]
    rfl
  isplitl [H6]
  · iexists _; isplitr; swap; · iexact H6
    ipureintro
    sl_unfold_run_names
    refine (View.read_writes_cons_put _ _ _ _ _ (off6_eq t (by omega) (by omega))).trans ?_
    rw [readAt_slab _ _ (t.val - 17) (by omega) _ (off4_eq t (by omega) (by omega))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rw [hs, pay10_kept]
    rfl
  isplitl [H7]
  · iexists _; isplitr; swap; · iexact H7
    ipureintro
    sl_unfold_run_names
    refine (View.read_writes_full _ _ _ _ _).trans ?_
    rw [readAt_rows2 _ _ (t.val - 17) (by omega) _ (off9_eq_second t (by omega) (by omega))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H8]
  · iexists _; isplitr; swap; · iexact H8
    ipureintro
    sl_unfold_run_names
    refine (View.read_writes_cons_put _ _ _ _ _ (off10_eq_second t (by omega) (by omega))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  · iexists _; isplitr; swap; · iexact H9
    ipureintro; exact e9

/-- Points 21 to 28: the blocks are used. -/
theorem body_21 (hlo : 21 ≤ t.val) (hhi : t.val < 29) (E : Set ℕ) (Q : PUnit → sProp 𝕄) :
    iprop(blocks c I (t.val - 17) (t.val - 17) M1 M2 M3 M4 M5 M6 ∗ scr c s
    ∗ (iprop(blocks c I (t.val - 17) (t.val - 17) M1 M2 M3 M4 M5 M6 ∗ scr c (use2 I (t.val - 17) (use1 I (t.val - 17) s))) -∗ Q ⟨⟩))
      ⊢ wp frame (wpE (defs₀ (F := F)) Variants.none c none) E (body t M1 hM1 M2 hM2 M3 hM3 M4 hM4 M5 hM5 M6 hM6 M7 hM7 M8 hM8 M9 hM9) Q := by
  have i_at0 : ¬ (at_ (grid1.coords t) 0#32) := by have := at0_iff t; intro h; have := this.1 h; omega
  have i_c2 : ¬ (k1_cond2 (grid1.coords t) = 1#1) := by have := cond2_iff t; intro h; have := this.1 h; omega
  have i_c4 : ¬ (k1_cond4 (grid1.coords t) = 1#1) := by have := cond4_iff t; intro h; have := this.1 h; omega
  have i_c5 : (k1_cond5 (grid1.coords t) = 1#1) := by have := cond5_iff t; exact this.2 (by omega)
  have i_at17 : ¬ (at_ (grid1.coords t) 17#32) := by have := at17_iff t; intro h; have := this.1 h; omega
  have i_c9 : (k1_cond9 (grid1.coords t) = 1#1) := by have := cond9_iff t; exact this.2 (by omega)
  have i_st : ¬ (atStart (grid1.coords t)) := by have := atStart_iff t; intro h; have := this.1 h; omega
  have i_at16 : ¬ (at_ (grid1.coords t) 16#32) := by have := at16_iff t; intro h; have := this.1 h; omega
  have i_c12 : ¬ (k1_cond12 (grid1.coords t) = 1#1) := by have := cond12_iff t; intro h; have := this.1 h; omega
  have i_c7 : ¬ (k1_cond7 (grid1.coords t) = 1#1) := by have := cond7_iff t (by omega); intro h; have := this.1 h; omega
  have i_c8 : (k1_cond8 (grid1.coords t) = 1#1) := by have := cond8_iff t (by omega); exact this.2 (by omega)
  unfold blocks scr
  iintro ⟨⟨⟨%g1, %m1, G1⟩, ⟨%g2, %m2, G2⟩, ⟨%g3, %m3, G3⟩, ⟨%g4, %m4, G4⟩, ⟨%g5, %m5, G5⟩, ⟨%g6, %m6, G6⟩⟩, ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_unfold [body]
  sl_unfold [cc1__body]
  sl_exec
  sl_step
  iapply Hk
  isplitl [G1 G2 G3 G4 G5 G6]
  · isplitl [G1]
    · iexists _; isplitr; swap; · iexact G1
      ipureintro; exact m1
    isplitl [G2]
    · iexists _; isplitr; swap; · iexact G2
      ipureintro; exact m2
    isplitl [G3]
    · iexists _; isplitr; swap; · iexact G3
      ipureintro; exact m3
    isplitl [G4]
    · iexists _; isplitr; swap; · iexact G4
      ipureintro; exact m4
    isplitl [G5]
    · iexists _; isplitr; swap; · iexact G5
      ipureintro; exact m5
    · iexists _; isplitr; swap; · iexact G6
      ipureintro; exact m6
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro
    sl_unfold_run_names
    refine (View.read_writes_full _ _ _ _ _).trans ?_
    rw [readAt_rows1 _ _ (t.val - 17) (by omega) _ (off7_eq t (by omega) (by omega))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H6]
  · iexists _; isplitr; swap; · iexact H6
    ipureintro
    sl_unfold_run_names
    refine (View.read_writes_cons_put _ _ _ _ _ (off8_eq t (by omega) (by omega))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H7]
  · iexists _; isplitr; swap; · iexact H7
    ipureintro
    sl_unfold_run_names
    refine (View.read_writes_full _ _ _ _ _).trans ?_
    rw [readAt_rows2 _ _ (t.val - 17) (by omega) _ (off9_eq_second t (by omega) (by omega))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H8]
  · iexists _; isplitr; swap; · iexact H8
    ipureintro
    sl_unfold_run_names
    refine (View.read_writes_cons_put _ _ _ _ _ (off10_eq_second t (by omega) (by omega))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  · iexists _; isplitr; swap; · iexact H9
    ipureintro; exact e9

/-- Points 29 to 32: the block of the second incidence matrix is used. -/
theorem body_29 (n1 : ℕ) (hlo : 29 ≤ t.val) (hhi : t.val < 33) (E : Set ℕ) (Q : PUnit → sProp 𝕄) :
    iprop(blocks c I (n1) (t.val - 17) M1 M2 M3 M4 M5 M6 ∗ scr c s
    ∗ (iprop(blocks c I (n1) (t.val - 17) M1 M2 M3 M4 M5 M6 ∗ scr c (use2 I (t.val - 17) s)) -∗ Q ⟨⟩))
      ⊢ wp frame (wpE (defs₀ (F := F)) Variants.none c none) E (body t M1 hM1 M2 hM2 M3 hM3 M4 hM4 M5 hM5 M6 hM6 M7 hM7 M8 hM8 M9 hM9) Q := by
  have i_at0 : ¬ (at_ (grid1.coords t) 0#32) := by have := at0_iff t; intro h; have := this.1 h; omega
  have i_c2 : ¬ (k1_cond2 (grid1.coords t) = 1#1) := by have := cond2_iff t; intro h; have := this.1 h; omega
  have i_c4 : ¬ (k1_cond4 (grid1.coords t) = 1#1) := by have := cond4_iff t; intro h; have := this.1 h; omega
  have i_c5 : ¬ (k1_cond5 (grid1.coords t) = 1#1) := by have := cond5_iff t; intro h; have := this.1 h; omega
  have i_at17 : ¬ (at_ (grid1.coords t) 17#32) := by have := at17_iff t; intro h; have := this.1 h; omega
  have i_c9 : (k1_cond9 (grid1.coords t) = 1#1) := by have := cond9_iff t; exact this.2 (by omega)
  have i_st : ¬ (atStart (grid1.coords t)) := by have := atStart_iff t; intro h; have := this.1 h; omega
  have i_at16 : ¬ (at_ (grid1.coords t) 16#32) := by have := at16_iff t; intro h; have := this.1 h; omega
  have i_c12 : ¬ (k1_cond12 (grid1.coords t) = 1#1) := by have := cond12_iff t; intro h; have := this.1 h; omega
  unfold blocks scr
  iintro ⟨⟨⟨%g1, %m1, G1⟩, ⟨%g2, %m2, G2⟩, ⟨%g3, %m3, G3⟩, ⟨%g4, %m4, G4⟩, ⟨%g5, %m5, G5⟩, ⟨%g6, %m6, G6⟩⟩, ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, Hk⟩
  sl_unfold [body]
  sl_unfold [cc1__body]
  sl_exec
  sl_step
  iapply Hk
  isplitl [G1 G2 G3 G4 G5 G6]
  · isplitl [G1]
    · iexists _; isplitr; swap; · iexact G1
      ipureintro; exact m1
    isplitl [G2]
    · iexists _; isplitr; swap; · iexact G2
      ipureintro; exact m2
    isplitl [G3]
    · iexists _; isplitr; swap; · iexact G3
      ipureintro; exact m3
    isplitl [G4]
    · iexists _; isplitr; swap; · iexact G4
      ipureintro; exact m4
    isplitl [G5]
    · iexists _; isplitr; swap; · iexact G5
      ipureintro; exact m5
    · iexists _; isplitr; swap; · iexact G6
      ipureintro; exact m6
  isplitl [H0]
  · iexists _; isplitr; swap; · iexact H0
    ipureintro; exact e0
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro
    sl_unfold_run_names
    refine (View.read_writes_full _ _ _ _ _).trans ?_
    rw [readAt_rows2 _ _ (t.val - 17) (by omega) _ (off9_eq_second t (by omega) (by omega))]
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [H8]
  · iexists _; isplitr; swap; · iexact H8
    ipureintro
    sl_unfold_run_names
    refine (View.read_writes_cons_put _ _ _ _ _ (off10_eq_second t (by omega) (by omega))).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  · iexists _; isplitr; swap; · iexact H9
    ipureintro; exact e9

set_option maxHeartbeats 800000 in
/-- The last point: the three results are written. -/
theorem body_33 (n1 n2 : ℕ) (ht : t.val = 33) (E : Set ℕ) (Q : PUnit → sProp 𝕄) :
    iprop(blocks c I (n1) (n2) M1 M2 M3 M4 M5 M6 ∗ scr c s
    ∗ (∃ f : Bf (F := F) c M7, pt c M7 f) ∗ (∃ f : Bf (F := F) c M8, pt c M8 f) ∗ (∃ f : Bf (F := F) c M9, pt c M9 f)
    ∗ (iprop(blocks c I (n1) (n2) M1 M2 M3 M4 M5 M6 ∗ scr c (s) ∗ at_v c M7 (out10 I s) ∗ at_v c M8 (out11 I s) ∗ at_v c M9 (out12 I s)) -∗ Q ⟨⟩))
      ⊢ wp frame (wpE (defs₀ (F := F)) Variants.none c none) E (body t M1 hM1 M2 hM2 M3 hM3 M4 hM4 M5 hM5 M6 hM6 M7 hM7 M8 hM8 M9 hM9) Q := by
  have i_at0 : ¬ (at_ (grid1.coords t) 0#32) := by have := at0_iff t; intro h; have := this.1 h; omega
  have i_c2 : ¬ (k1_cond2 (grid1.coords t) = 1#1) := by have := cond2_iff t; intro h; have := this.1 h; omega
  have i_c4 : ¬ (k1_cond4 (grid1.coords t) = 1#1) := by have := cond4_iff t; intro h; have := this.1 h; omega
  have i_c5 : ¬ (k1_cond5 (grid1.coords t) = 1#1) := by have := cond5_iff t; intro h; have := this.1 h; omega
  have i_at17 : ¬ (at_ (grid1.coords t) 17#32) := by have := at17_iff t; intro h; have := this.1 h; omega
  have i_c9 : ¬ (k1_cond9 (grid1.coords t) = 1#1) := by have := cond9_iff t; intro h; have := this.1 h; omega
  have i_st : ¬ (atStart (grid1.coords t)) := by have := atStart_iff t; intro h; have := this.1 h; omega
  have i_at16 : ¬ (at_ (grid1.coords t) 16#32) := by have := at16_iff t; intro h; have := this.1 h; omega
  have i_c12 : (k1_cond12 (grid1.coords t) = 1#1) := by have := cond12_iff t; exact this.2 (by omega)
  unfold blocks scr
  iintro ⟨⟨⟨%g1, %m1, G1⟩, ⟨%g2, %m2, G2⟩, ⟨%g3, %m3, G3⟩, ⟨%g4, %m4, G4⟩, ⟨%g5, %m5, G5⟩, ⟨%g6, %m6, G6⟩⟩, ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, ⟨%o7, O7⟩, ⟨%o8, O8⟩, ⟨%o9, O9⟩, Hk⟩
  sl_unfold [body]
  sl_unfold [cc1__body]
  sl_exec
  sl_step
  iapply Hk
  isplitl [G1 G2 G3 G4 G5 G6]
  · isplitl [G1]
    · iexists _; isplitr; swap; · iexact G1
      ipureintro; exact m1
    isplitl [G2]
    · iexists _; isplitr; swap; · iexact G2
      ipureintro; exact m2
    isplitl [G3]
    · iexists _; isplitr; swap; · iexact G3
      ipureintro; exact m3
    isplitl [G4]
    · iexists _; isplitr; swap; · iexact G4
      ipureintro; exact m4
    isplitl [G5]
    · iexists _; isplitr; swap; · iexact G5
      ipureintro; exact m5
    · iexists _; isplitr; swap; · iexact G6
      ipureintro; exact m6
  isplitl [H0 H1 H2 H3 H4 H5 H6 H7 H8 H9]
  · isplitl [H0]
    · iexists _; isplitr; swap; · iexact H0
      ipureintro; exact e0
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; exact e4
    isplitl [H5]
    · iexists _; isplitr; swap; · iexact H5
      ipureintro; exact e5
    isplitl [H6]
    · iexists _; isplitr; swap; · iexact H6
      ipureintro; exact e6
    isplitl [H7]
    · iexists _; isplitr; swap; · iexact H7
      ipureintro; exact e7
    isplitl [H8]
    · iexists _; isplitr; swap; · iexact H8
      ipureintro; exact e8
    · iexists _; isplitr; swap; · iexact H9
      ipureintro; exact e9
  isplitl [O7]
  · iexists _; isplitr; swap; · iexact O7
    ipureintro
    sl_unfold_run_names
    refine (View.read_writes_full _ _ _ _ _).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  isplitl [O8]
  · iexists _; isplitr; swap; · iexact O8
    ipureintro
    sl_unfold_run_names
    refine (View.read_writes_full _ _ _ _ _).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl
  · iexists _; isplitr; swap; · iexact O9
    ipureintro
    sl_unfold_run_names
    refine (View.read_writes_full _ _ _ _ _).trans ?_
    repeat first | rw [View.readCov_full] | rw [View.readCov_full (s := S2048x128)] | rw [View.readCov_full (s := S6144x128)] | rw [View.readCov_full (s := S128x2048)] | rw [View.readCov_full (s := S128x6144)] | rw [View.readAt_full] | rw [View.readAt_full (s := S2048x128)] | rw [View.readAt_full (s := S6144x128)] | rw [View.readAt_full (s := S4096x128)] | rw [View.readAt_full (s := S128x2048)] | rw [View.readAt_full (s := S128x6144)] | rw [View.readAt_full (s := S128x4096)] | rw [View.readAt_eq_ld] | rw [View.writes_nil]
    simp only [m1, m2, m3, m4, m5, m6, e0, e1, e2, e3, e4, e5, e6, e7, e8, e9]
    rfl

end Cert.KernelIdeal.Main

end
-- ==== Proof.KernelIdealInvariant.lean ====
/-
  What the scratch arrays hold between two grid points of the main call, and that each change of `KernelIdealSteps` keeps it.
-/
module

public import proofs.«01_k».proof.Proof.KernelIdealSteps

@[expose] public section

set_option maxRecDepth 16384

noncomputable section

namespace Cert.KernelIdeal.Main

open Cert.KernelIdeal Cert.KernelIdeal.Gen
open Idealize.ShloMosaic

variable {F : FTy → Type} [FloatOps F]

/-- Column block `j` of the first transposed product. -/
def col1 (x : Vec F S128x6144 .bf16) (j : ℕ) : Vec F S128x512 .bf16 :=
  fun y => x (ix2 (y 0 : Fin 128) (⟨(512 * j + (y 1).val) % 6144, Nat.mod_lt _ (by decide)⟩ : Fin 6144))

/-- Column block `j` of the second transposed product. -/
def col2 (x : Vec F S128x4096 .bf16) (j : ℕ) : Vec F S128x256 .bf16 :=
  fun y => x (ix2 (y 0 : Fin 128) (⟨(256 * j + (y 1).val) % 4096, Nat.mod_lt _ (by decide)⟩ : Fin 4096))

/-- The block just written. -/
theorem col1_put_same (x : Vec F S128x6144 .bf16) (w : Vec F S128x512 .bf16) (n : ℕ) (hn : n < 12) :
    col1 (VecWindow.put x ![0, 512 * n] S128x512.size w) n = w := by
  funext y
  have h1 : (y 1).val < 512 := (y 1).isLt
  have h0 : (y 0).val < 128 := (y 0).isLt
  unfold col1 VecWindow.put
  rw [dif_pos (fun a => by
    match a with
    | 0 => exact ⟨Nat.zero_le _, by show (y 0).val < 0 + 128; omega⟩
    | 1 => exact ⟨by show 512 * n ≤ (512 * n + (y 1).val) % 6144; omega, by show (512 * n + (y 1).val) % 6144 < 512 * n + 512; omega⟩)]
  refine congrArg w (funext fun a => Fin.ext ?_)
  match a with
  | 0 => show (y 0).val - 0 = (y 0).val; omega
  | 1 => show (512 * n + (y 1).val) % 6144 - 512 * n = (y 1).val; omega

/-- Another block. -/
theorem col1_put_other (x : Vec F S128x6144 .bf16) (w : Vec F S128x512 .bf16) (n j : ℕ) (hj : j < n) (hn : n < 12) :
    col1 (VecWindow.put x ![0, 512 * n] S128x512.size w) j = col1 x j := by
  funext y
  have h1 : (y 1).val < 512 := (y 1).isLt
  unfold col1 VecWindow.put
  rw [dif_neg (fun h => by
    have h2 : 512 * n ≤ (512 * j + (y 1).val) % 6144 := (h 1).1
    omega)]

/-- The block just written. -/
theorem col2_put_same (x : Vec F S128x4096 .bf16) (w : Vec F S128x256 .bf16) (n : ℕ) (hn : n < 16) :
    col2 (VecWindow.put x ![0, 256 * n] S128x256.size w) n = w := by
  funext y
  have h1 : (y 1).val < 256 := (y 1).isLt
  have h0 : (y 0).val < 128 := (y 0).isLt
  unfold col2 VecWindow.put
  rw [dif_pos (fun a => by
    match a with
    | 0 => exact ⟨Nat.zero_le _, by show (y 0).val < 0 + 128; omega⟩
    | 1 => exact ⟨by show 256 * n ≤ (256 * n + (y 1).val) % 4096; omega, by show (256 * n + (y 1).val) % 4096 < 256 * n + 256; omega⟩)]
  refine congrArg w (funext fun a => Fin.ext ?_)
  match a with
  | 0 => show (y 0).val - 0 = (y 0).val; omega
  | 1 => show (256 * n + (y 1).val) % 4096 - 256 * n = (y 1).val; omega

/-- Another block. -/
theorem col2_put_other (x : Vec F S128x4096 .bf16) (w : Vec F S128x256 .bf16) (n j : ℕ) (hj : j < n) (hn : n < 16) :
    col2 (VecWindow.put x ![0, 256 * n] S128x256.size w) j = col2 x j := by
  funext y
  have h1 : (y 1).val < 256 := (y 1).isLt
  unfold col2 VecWindow.put
  rw [dif_neg (fun h => by
    have h2 : 256 * n ≤ (256 * j + (y 1).val) % 4096 := (h 1).1
    omega)]

/-- The slab just kept. -/
theorem slab_put_same (x : Vec F S4x2048x512 .bf16) (w : Vec F S1x2048x512 .bf16) (n : ℕ) (hn : n < 4) :
    slab (VecWindow.put x ![n, 0, 0] S1x2048x512.size w) n = w := by
  funext y
  have h2 : (y 2).val < 512 := (y 2).isLt
  have h1 : (y 1).val < 2048 := (y 1).isLt
  have h0 : (y 0).val < 1 := (y 0).isLt
  unfold slab VecWindow.put
  rw [dif_pos (fun a => by
    match a with
    | 0 => exact ⟨by show n ≤ n % 4; omega, by show n % 4 < n + 1; omega⟩
    | 1 => exact ⟨Nat.zero_le _, by show (y 1).val < 0 + 2048; omega⟩
    | 2 => exact ⟨Nat.zero_le _, by show (y 2).val < 0 + 512; omega⟩)]
  refine congrArg w (funext fun a => Fin.ext ?_)
  match a with
  | 0 => show n % 4 - n = (y 0).val; omega
  | 1 => show (y 1).val - 0 = (y 1).val; omega
  | 2 => show (y 2).val - 0 = (y 2).val; omega

/-- Another slab. -/
theorem slab_put_other (x : Vec F S4x2048x512 .bf16) (w : Vec F S1x2048x512 .bf16) (n j : ℕ) (hj : j < n) (hn : n < 4) :
    slab (VecWindow.put x ![n, 0, 0] S1x2048x512.size w) j = slab x j := by
  funext y
  unfold slab VecWindow.put
  rw [dif_neg (fun h => by
    have h2 : n ≤ j % 4 := (h 0).1
    omega)]

/-- The first `n` blocks of the first incidence matrix are in. -/
def In1 (I : In F) (h : Feat F) (n : ℕ) (s : Scr F) : Prop :=
  s.h = h ∧ s.a0 = acc0 I h.h1 n ∧ ∀ j < n, col1 s.a1t j = blk1t I h.h0t j

/-- The first `n` blocks of the second incidence matrix are in. -/
def In2 (I : In F) (h : Feat F) (n : ℕ) (s : Scr F) : Prop :=
  s.h = h ∧ s.a2 = acc2 I h.h2 n ∧ ∀ j < n, col2 s.a3t j = blk3t I h.h1t j

/-- The first `n` blocks of the first incidence matrix are kept. -/
def Kept (I : In F) (n : ℕ) (s : Scr F) : Prop := ∀ j < n, slab s.b1c j = k1_pay4 (b1 I j)

/-- What the scratch arrays hold before grid point `t`. -/
def Inv (I : In F) (t : ℕ) (s : Scr F) : Prop :=
  (1 ≤ t → t ≤ 16 → In1 I (feat0 I) (min t 12) s ∧ In2 I (feat0 I) (min t 16) s)
  ∧ (1 ≤ t → Kept I (min t 4) s)
  ∧ (t = 17 → s.h = feat1 I)
  ∧ (18 ≤ t → t ≤ 33 → In1 I (feat1 I) (min (t - 17) 12) s ∧ In2 I (feat1 I) (min (t - 17) 16) s)

variable {I : In F} {h : Feat F} {n m : ℕ} {s : Scr F}

theorem In1.use1 (p : In1 I h n s) (hn : n < 12) : In1 I h (n + 1) (use1 I n s) := by
  obtain ⟨rfl, p2, p3⟩ := p
  refine ⟨rfl, ?_, fun j hj => ?_⟩
  · show k1_pay5 (b1 I n) s.a0 (rows1 s.h.h1 n) = _
    rw [p2]; rfl
  · rcases Nat.lt_succ_iff_lt_or_eq.mp hj with hj | rfl
    · exact (col1_put_other _ _ n j hj hn).trans (p3 j hj)
    · exact col1_put_same _ _ j hn

theorem In2.use2 (p : In2 I h n s) (hn : n < 16) : In2 I h (n + 1) (use2 I n s) := by
  obtain ⟨rfl, p2, p3⟩ := p
  refine ⟨rfl, ?_, fun j hj => ?_⟩
  · show k1_pay16 (b2 I n) s.a2 (rows2 s.h.h2 n) = _
    rw [p2]; rfl
  · rcases Nat.lt_succ_iff_lt_or_eq.mp hj with hj | rfl
    · exact (col2_put_other _ _ n j hj hn).trans (p3 j hj)
    · exact col2_put_same _ _ j hn

theorem In1.use2 (p : In1 I h n s) : In1 I h n (use2 I m s) := p
theorem In2.use1 (p : In2 I h n s) : In2 I h n (use1 I m s) := p
theorem In1.keep (p : In1 I h n s) : In1 I h n (keep I m s) := p
theorem In2.keep (p : In2 I h n s) : In2 I h n (keep I m s) := p
theorem In1.clear2 (p : In1 I h n s) : In1 I h n (clear2 s) := p
theorem In1.clear0 (p : s.h = h) : In1 I h 0 (clear0 s) := ⟨p, rfl, fun j hj => absurd hj (Nat.not_lt_zero j)⟩
theorem In2.clear2 (p : s.h = h) : In2 I h 0 (clear2 s) := ⟨p, rfl, fun j hj => absurd hj (Nat.not_lt_zero j)⟩

theorem Kept.keep (p : Kept I n s) (hn : n < 4) : Kept I (n + 1) (keep I n s) := fun j hj => by
  rcases Nat.lt_succ_iff_lt_or_eq.mp hj with hj | rfl
  · exact (slab_put_other _ _ n j hj hn).trans (p j hj)
  · exact slab_put_same _ _ j hn

theorem Kept.of_b1c {s' : Scr F} (p : Kept I n s) (e : s'.b1c = s.b1c) : Kept I n s' := fun j hj => by rw [e]; exact p j hj

/-- All blocks in: the scratch contents are `full`. -/
theorem eq_full (p : In1 I h 12 s) (q : In2 I h 16 s) : s = full I h s.b1c := by
  obtain ⟨e, p2, p3⟩ := p
  obtain ⟨-, q2, q3⟩ := q
  have ea : s.a1t = all1t I h.h0t := by
    funext y
    have h1 : (y 1).val < 6144 := (y 1).isLt
    have hj := congrFun (p3 ((y 1).val / 512) (by omega)) (ix2 (y 0 : Fin 128) (⟨(y 1).val % 512, Nat.mod_lt _ (by decide)⟩ : Fin 512))
    refine Eq.trans (congrArg s.a1t (funext fun a => Fin.ext ?_)) hj
    match a with
    | 0 => rfl
    | 1 => show (y 1).val = (512 * ((y 1).val / 512) + (y 1).val % 512) % 6144; omega
  have eb : s.a3t = all3t I h.h1t := by
    funext y
    have h1 : (y 1).val < 4096 := (y 1).isLt
    have hj := congrFun (q3 ((y 1).val / 256) (by omega)) (ix2 (y 0 : Fin 128) (⟨(y 1).val % 256, Nat.mod_lt _ (by decide)⟩ : Fin 256))
    refine Eq.trans (congrArg s.a3t (funext fun a => Fin.ext ?_)) hj
    match a with
    | 0 => rfl
    | 1 => show (y 1).val = (256 * ((y 1).val / 256) + (y 1).val % 256) % 4096; omega
  cases s
  simp only at e p2 q2 ea eb
  subst e p2 q2 ea eb
  rfl

theorem next_full (p : In1 I (feat0 I) 12 s) (q : In2 I (feat0 I) 16 s) : next I s = feat1 I := by
  rw [eq_full p q]; rfl

theorem out10_full (p : In1 I (feat1 I) 12 s) (q : In2 I (feat1 I) 16 s) : out10 I s = out10 I (last I) := by
  rw [eq_full p q]; rfl
theorem out11_full (p : In1 I (feat1 I) 12 s) (q : In2 I (feat1 I) 16 s) : out11 I s = out11 I (last I) := by
  rw [eq_full p q]; rfl
theorem out12_full (p : In1 I (feat1 I) 12 s) (q : In2 I (feat1 I) 16 s) : out12 I s = out12 I (last I) := by
  rw [eq_full p q]; rfl

/-! ## The ten cases -/

theorem Inv.zero : Inv I 0 s := ⟨fun h => absurd h (by decide), fun h => absurd h (by decide), fun h => absurd h (by decide), fun h => absurd h (by decide)⟩

theorem Inv.step_0 (s : Scr F) : Inv I 1 (use2 I 0 (clear2 (use1 I 0 (keep I 0 (clear0 (start I s)))))) :=
  ⟨fun _ _ => ⟨(In1.use1 (In1.keep (In1.clear0 rfl)) (by decide)).clear2.use2, In2.use2 (In2.clear2 rfl) (by decide)⟩,
   fun _ => (Kept.keep (n := 0) (s := clear0 (start I s)) (fun j hj => absurd hj (Nat.not_lt_zero j)) (by decide)).of_b1c rfl,
   fun h => absurd h (by decide), fun h => absurd h (by decide)⟩

theorem Inv.step_1 (t : ℕ) (hlo : 1 ≤ t) (hhi : t < 4) (p : Inv I t s) : Inv I (t + 1) (Main.use2 I t (Main.use1 I t (Main.keep I t s))) := by
  obtain ⟨p1, p2, -, -⟩ := p
  obtain ⟨q1, q2⟩ := p1 hlo (by omega)
  have q3 := p2 hlo
  rw [show min t 12 = t by omega] at q1
  rw [show min t 16 = t by omega] at q2
  rw [show min t 4 = t by omega] at q3
  refine ⟨fun _ _ => ?_, fun _ => ?_, fun _ => by omega, fun _ => by omega⟩
  · rw [show min (t + 1) 12 = t + 1 by omega, show min (t + 1) 16 = t + 1 by omega]
    exact ⟨(In1.use1 q1.keep (by omega)).use2, In2.use2 q2.keep.use1 (by omega)⟩
  · rw [show min (t + 1) 4 = t + 1 by omega]
    exact (Kept.keep q3 hhi).of_b1c rfl

theorem Inv.step_4 (t : ℕ) (hlo : 4 ≤ t) (hhi : t < 12) (p : Inv I t s) : Inv I (t + 1) (Main.use2 I t (Main.use1 I t s)) := by
  obtain ⟨p1, p2, -, -⟩ := p
  obtain ⟨q1, q2⟩ := p1 (by omega) (by omega)
  have q3 := p2 (by omega)
  rw [show min t 12 = t by omega] at q1
  rw [show min t 16 = t by omega] at q2
  rw [show min t 4 = 4 by omega] at q3
  refine ⟨fun _ _ => ?_, fun _ => ?_, fun _ => by omega, fun _ => by omega⟩
  · rw [show min (t + 1) 12 = t + 1 by omega, show min (t + 1) 16 = t + 1 by omega]
    exact ⟨(In1.use1 q1 (by omega)).use2, In2.use2 q2.use1 (by omega)⟩
  · rw [show min (t + 1) 4 = 4 by omega]
    exact q3.of_b1c rfl

theorem Inv.step_12 (t : ℕ) (hlo : 12 ≤ t) (hhi : t < 16) (p : Inv I t s) : Inv I (t + 1) (Main.use2 I t s) := by
  obtain ⟨p1, p2, -, -⟩ := p
  obtain ⟨q1, q2⟩ := p1 (by omega) (by omega)
  have q3 := p2 (by omega)
  rw [show min t 12 = 12 by omega] at q1
  rw [show min t 16 = t by omega] at q2
  rw [show min t 4 = 4 by omega] at q3
  refine ⟨fun _ _ => ?_, fun _ => ?_, fun _ => by omega, fun _ => by omega⟩
  · rw [show min (t + 1) 12 = 12 by omega, show min (t + 1) 16 = t + 1 by omega]
    exact ⟨q1.use2, In2.use2 q2 (by omega)⟩
  · rw [show min (t + 1) 4 = 4 by omega]
    exact q3.of_b1c rfl

theorem Inv.step_16 (p : Inv I 16 s) : Inv I 17 (turn I s) := by
  obtain ⟨p1, p2, -, -⟩ := p
  obtain ⟨q1, q2⟩ := p1 (by decide) (by decide)
  refine ⟨fun _ h => absurd h (by decide), fun _ => (p2 (by decide)).of_b1c rfl, fun _ => ?_, fun h => absurd h (by decide)⟩
  exact next_full q1 q2

theorem Inv.slab (t : ℕ) (h : 17 ≤ t) (hhi : t < 21) (p : Inv I t s) : Main.slab s.b1c (t - 17) = k1_pay4 (b1 I (t - 17)) :=
  p.2.1 (by omega) _ (by omega)

theorem Inv.step_17 (p : Inv I 17 s) : Inv I 18 (Main.use2 I 0 (Main.clear2 (Main.use1 I 0 (Main.clear0 s)))) := by
  obtain ⟨-, p2, p3, -⟩ := p
  have e := p3 rfl
  refine ⟨fun _ h => absurd h (by decide), fun _ => (p2 (by decide)).of_b1c rfl, fun h => absurd h (by decide), fun _ _ => ?_⟩
  exact ⟨(In1.use1 (In1.clear0 e) (by decide)).clear2.use2, In2.use2 (In2.clear2 e) (by decide)⟩

theorem Inv.step_18 (t : ℕ) (hlo : 18 ≤ t) (hhi : t < 29) (p : Inv I t s) :
    Inv I (t + 1) (Main.use2 I (t - 17) (Main.use1 I (t - 17) s)) := by
  obtain ⟨-, p2, -, p4⟩ := p
  obtain ⟨q1, q2⟩ := p4 (by omega) (by omega)
  have q3 := p2 (by omega)
  rw [show min (t - 17) 12 = t - 17 by omega] at q1
  rw [show min (t - 17) 16 = t - 17 by omega] at q2
  rw [show min t 4 = 4 by omega] at q3
  refine ⟨fun _ _ => by omega, fun _ => ?_, fun _ => by omega, fun _ _ => ?_⟩
  · rw [show min (t + 1) 4 = 4 by omega]
    exact q3.of_b1c rfl
  · rw [show min (t + 1 - 17) 12 = t - 17 + 1 by omega, show min (t + 1 - 17) 16 = t - 17 + 1 by omega]
    exact ⟨(In1.use1 q1 (by omega)).use2, In2.use2 q2.use1 (by omega)⟩

theorem Inv.step_29 (t : ℕ) (hlo : 29 ≤ t) (hhi : t < 33) (p : Inv I t s) : Inv I (t + 1) (Main.use2 I (t - 17) s) := by
  obtain ⟨-, p2, -, p4⟩ := p
  obtain ⟨q1, q2⟩ := p4 (by omega) (by omega)
  have q3 := p2 (by omega)
  rw [show min (t - 17) 12 = 12 by omega] at q1
  rw [show min (t - 17) 16 = t - 17 by omega] at q2
  rw [show min t 4 = 4 by omega] at q3
  refine ⟨fun _ _ => by omega, fun _ => ?_, fun _ => by omega, fun _ _ => ?_⟩
  · rw [show min (t + 1) 4 = 4 by omega]
    exact q3.of_b1c rfl
  · rw [show min (t + 1 - 17) 12 = 12 by omega, show min (t + 1 - 17) 16 = t - 17 + 1 by omega]
    exact ⟨q1.use2, In2.use2 q2 (by omega)⟩

theorem Inv.end_ (p : Inv I 33 s) : out10 I s = out10 I (last I) ∧ out11 I s = out11 I (last I) ∧ out12 I s = out12 I (last I) := by
  obtain ⟨-, -, -, p4⟩ := p
  obtain ⟨q1, q2⟩ := p4 (by decide) (by decide)
  exact ⟨out10_full q1 q2, out11_full q1 q2, out12_full q1 q2⟩

theorem Inv.step_33 (p : Inv I 33 s) : Inv I 34 s :=
  ⟨fun _ h => absurd h (by decide), fun h => p.2.1 (by decide), fun h => absurd h (by decide), fun _ h => absurd h (by decide)⟩

end Cert.KernelIdeal.Main

end
-- ==== Proof.KernelIdealMain.lean ====
/-
  The main call as a region: at each grid point the body takes what the arrays hold before it to what they hold after it, and after
  the last point the three results are those of the second layer.
-/
module

public import proofs.«01_k».proof.Proof.KernelIdealBlocks
public import proofs.«01_k».proof.Proof.KernelIdealBody
public import proofs.«01_k».proof.Proof.KernelIdealInvariant

@[expose] public section

set_option maxRecDepth 16384

noncomputable section

namespace Cert.KernelIdeal.Main

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Step

variable (c : Dev nD) (I : In F) (s : Scr F) (t : Fin grid1.N)
  (M1 : Memref sig .tc .vmem S12288x128 .bf16) (hM1 : M1.IsWhole) (M2 : Memref sig .tc .vmem S12288x128 .bf16) (hM2 : M2.IsWhole)
  (M3 : Memref sig .tc .vmem S792x128 .f32) (hM3 : M3.IsWhole) (M4 : Memref sig .tc .vmem S3712x128 .bf16) (hM4 : M4.IsWhole)
  (M5 : Memref sig .tc .vmem S2048x512 .f32) (hM5 : M5.IsWhole) (M6 : Memref sig .tc .vmem S6144x256 .f32) (hM6 : M6.IsWhole)
  (M7 : Memref sig .tc .vmem S2048x128 .f32) (hM7 : M7.IsWhole) (M8 : Memref sig .tc .vmem S6144x128 .f32) (hM8 : M8.IsWhole)
  (M9 : Memref sig .tc .vmem S4096x128 .f32) (hM9 : M9.IsWhole)

/-- Before the last point, the body leaves the read blocks as they are and the scratch arrays as they are to be before the next
    point. -/
theorem body_before_last (ht : t.val < 33) (p : Inv I t.val s) :
    ∃ s', Inv I (t.val + 1) s' ∧ ∀ (E : Set ℕ) (Q : PUnit → sProp 𝕄),
      iprop(blocks c I (n1 t.val) (n2 t.val) M1 M2 M3 M4 M5 M6 ∗ scr c s
        ∗ (iprop(blocks c I (n1 t.val) (n2 t.val) M1 M2 M3 M4 M5 M6 ∗ scr c s') -∗ Q ⟨⟩))
      ⊢ wp frame (wpE (defs₀ (F := F)) Variants.none c none) E (body t M1 hM1 M2 hM2 M3 hM3 M4 hM4 M5 hM5 M6 hM6 M7 hM7 M8 hM8 M9 hM9) Q := by
  rcases Nat.eq_zero_or_pos t.val with h0 | h0
  · have e1 : n1 t.val = 0 := by rw [h0]; rfl
    have e2 : n2 t.val = 0 := by rw [h0]; rfl
    rw [e1, e2, h0]
    exact ⟨_, Inv.step_0 s, body_0 c I s t M1 hM1 M2 hM2 M3 hM3 M4 hM4 M5 hM5 M6 hM6 M7 hM7 M8 hM8 M9 hM9 h0⟩
  by_cases h4 : t.val < 4
  · have e1 : n1 t.val = t.val := by unfold n1; split <;> omega
    have e2 : n2 t.val = t.val := by unfold n2; split <;> omega
    rw [e1, e2]
    exact ⟨_, Inv.step_1 t.val h0 h4 p, body_1 c I s t M1 hM1 M2 hM2 M3 hM3 M4 hM4 M5 hM5 M6 hM6 M7 hM7 M8 hM8 M9 hM9 h0 h4⟩
  by_cases h12 : t.val < 12
  · have e1 : n1 t.val = t.val := by unfold n1; split <;> omega
    have e2 : n2 t.val = t.val := by unfold n2; split <;> omega
    rw [e1, e2]
    exact ⟨_, Inv.step_4 t.val (by omega) h12 p, body_4 c I s t M1 hM1 M2 hM2 M3 hM3 M4 hM4 M5 hM5 M6 hM6 M7 hM7 M8 hM8 M9 hM9 (by omega) h12⟩
  by_cases h16 : t.val < 16
  · have e2 : n2 t.val = t.val := by unfold n2; split <;> omega
    rw [e2]
    exact ⟨_, Inv.step_12 t.val (by omega) h16 p, body_12 c I s t M1 hM1 M2 hM2 M3 hM3 M4 hM4 M5 hM5 M6 hM6 M7 hM7 M8 hM8 M9 hM9 _ (by omega) h16⟩
  by_cases e16 : t.val = 16
  · refine ⟨_, ?_, body_16 c I s t M1 hM1 M2 hM2 M3 hM3 M4 hM4 M5 hM5 M6 hM6 M7 hM7 M8 hM8 M9 hM9 _ _ e16⟩
    rw [e16] at p ⊢
    exact Inv.step_16 p
  by_cases e17 : t.val = 17
  · have e2 : n2 t.val = 0 := by rw [e17]; rfl
    rw [e2]
    have hs := Inv.slab t.val (by omega) (by omega) p
    rw [e17] at hs p
    refine ⟨_, ?_, body_17 c I s t M1 hM1 M2 hM2 M3 hM3 M4 hM4 M5 hM5 M6 hM6 M7 hM7 M8 hM8 M9 hM9 _ e17 hs⟩
    rw [e17]
    exact Inv.step_17 p
  by_cases h21 : t.val < 21
  · have e2 : n2 t.val = t.val - 17 := by unfold n2; split <;> omega
    rw [e2]
    exact ⟨_, Inv.step_18 t.val (by omega) (by omega) p, body_18 c I s t M1 hM1 M2 hM2 M3 hM3 M4 hM4 M5 hM5 M6 hM6 M7 hM7 M8 hM8 M9 hM9 _ (by omega) h21
      (Inv.slab t.val (by omega) h21 p)⟩
  by_cases h29 : t.val < 29
  · have e1 : n1 t.val = t.val - 17 := by unfold n1; split <;> omega
    have e2 : n2 t.val = t.val - 17 := by unfold n2; split <;> omega
    rw [e1, e2]
    exact ⟨_, Inv.step_18 t.val (by omega) h29 p, body_21 c I s t M1 hM1 M2 hM2 M3 hM3 M4 hM4 M5 hM5 M6 hM6 M7 hM7 M8 hM8 M9 hM9 (by omega) h29⟩
  · have e2 : n2 t.val = t.val - 17 := by unfold n2; split <;> omega
    rw [e2]
    exact ⟨_, Inv.step_29 t.val (by omega) ht p, body_29 c I s t M1 hM1 M2 hM2 M3 hM3 M4 hM4 M5 hM5 M6 hM6 M7 hM7 M8 hM8 M9 hM9 _ (by omega) ht⟩

end Step

/-! ## The proof data, from the contents `V` of the buffers at entry -/

variable (V : Dev nD → Valuation τ sig (Elt F))

/-- The scoped buffers that the main call does not use. -/
abbrev others (c : Dev nD) : sProp 𝕄 :=
  Pipeline.scopedRestBut (Ix := Unit) (Name := ℕ) (U := UU) (Lvl := ℕ) (Val := Elt F) spec1 c
    [cc1_scratch0, cc1_scratch1, cc1_scratch2, cc1_scratch3, cc1_scratch4, cc1_scratch5, cc1_scratch6, cc1_scratch7, cc1_scratch8, cc1_scratch9]

/-- Before point `t`, the scratch arrays hold what they are to hold there. -/
def Φ1 (c : Dev nD) (t : ℕ) : sProp 𝕄 := iprop((∃ s : Scr F, ⌜Inv (inp (V c)) t s⌝ ∗ scr c s) ∗ others c)

/-- The arrays at the contents `V`; each read block as it stands; the three results of the second layer. -/
def dat1 (c : Dev nD) : Dat τ (Elt F) Unit ℕ UU ℕ cfg1 c where
  A w := V c (Proc.devRef .tc (Pipeline.arrRef spec1 w))
  after w t := match w with
    | ⟨0, _⟩ => ((cfg1.win 0).blk t).view.read (Elt F) (V c (Proc.devRef .tc main_v6_0))
    | ⟨1, _⟩ => ((cfg1.win 1).blk t).view.read (Elt F) (V c (Proc.devRef .tc main_v6_1))
    | ⟨2, _⟩ => ((cfg1.win 2).blk t).view.read (Elt F) (V c (Proc.devRef .tc main_v6_2))
    | ⟨3, _⟩ => ((cfg1.win 3).blk t).view.read (Elt F) (V c (Proc.devRef .tc main_v6_3))
    | ⟨4, _⟩ => ((cfg1.win 4).blk t).view.read (Elt F) (V c (Proc.devRef .tc main_arg9))
    | ⟨5, _⟩ => ((cfg1.win 5).blk t).view.read (Elt F) (V c (Proc.devRef .tc main_arg10))
    | ⟨6, _⟩ => out10 (inp (V c)) (last (inp (V c)))
    | ⟨7, _⟩ => out11 (inp (V c)) (last (inp (V c)))
    | ⟨8, _⟩ => out12 (inp (V c)) (last (inp (V c)))
  Φ t := Φ1 V c t.val
  q _ := fullShare
  owed _ := 0

theorem before1_0 (c : Dev nD) (t : Fin cfg1.N) d : (dat1 V c).before 0 t d = (inp (V c)).xp :=
  ((dat1 V c).before_in_eq_fetched 0 rfl (fun _ => rfl) (fun _ _ _ => rfl) (fun _ => rfl) t d).trans (block0 (V c) t)

theorem before1_1 (c : Dev nD) (t : Fin cfg1.N) d : (dat1 V c).before 1 t d = (inp (V c)).up :=
  ((dat1 V c).before_in_eq_fetched 1 rfl (fun _ => rfl) (fun _ _ _ => rfl) (fun _ => rfl) t d).trans (block1 (V c) t)

theorem before1_2 (c : Dev nD) (t : Fin cfg1.N) d : (dat1 V c).before 2 t d = (inp (V c)).sp :=
  ((dat1 V c).before_in_eq_fetched 2 rfl (fun _ => rfl) (fun _ _ _ => rfl) (fun _ => rfl) t d).trans (block2 (V c) t)

theorem before1_3 (c : Dev nD) (t : Fin cfg1.N) d : (dat1 V c).before 3 t d = (inp (V c)).wp :=
  ((dat1 V c).before_in_eq_fetched 3 rfl (fun _ => rfl) (fun _ _ _ => rfl) (fun _ => rfl) t d).trans (block3 (V c) t)

theorem before1_4 (c : Dev nD) (t : Fin cfg1.N) d : (dat1 V c).before 4 t d = b1 (inp (V c)) (n1 t.val) :=
  ((dat1 V c).before_in_eq_fetched 4 rfl (fun _ => rfl) (fun _ _ _ => rfl) (fun _ => rfl) t d).trans (block4 (V c) t)

theorem before1_5 (c : Dev nD) (t : Fin cfg1.N) d : (dat1 V c).before 5 t d = b2 (inp (V c)) (n2 t.val) :=
  ((dat1 V c).before_in_eq_fetched 5 rfl (fun _ => rfl) (fun _ _ _ => rfl) (fun _ => rfl) t d).trans (block5 (V c) t)

theorem idle1_true : ∀ t : Fin cfg1.N, t.val < 33 → (cfg1.idle 6 (cfg1.grid.coords t) = true ∧ cfg1.idle 7 (cfg1.grid.coords t) = true ∧ cfg1.idle 8 (cfg1.grid.coords t) = true) :=
  (by decide +kernel : ∀ t : Fin grid1.N, t.val < 33 → (idle1 6 (grid1.coords t) = true ∧ idle1 7 (grid1.coords t) = true ∧ idle1 8 (grid1.coords t) = true))

theorem idle1_false : ∀ t : Fin cfg1.N, t.val = 33 → (cfg1.idle 6 (cfg1.grid.coords t) = false ∧ cfg1.idle 7 (cfg1.grid.coords t) = false ∧ cfg1.idle 8 (cfg1.grid.coords t) = false) :=
  (by decide +kernel : ∀ t : Fin grid1.N, t.val = 33 → (idle1 6 (grid1.coords t) = false ∧ idle1 7 (grid1.coords t) = false ∧ idle1 8 (grid1.coords t) = false))

theorem flush1_false : ∀ t : Fin cfg1.N, t.val < 33 → ((cfg1.win 6).flush t = false ∧ (cfg1.win 7).flush t = false ∧ (cfg1.win 8).flush t = false) :=
  (by decide +kernel : ∀ t : Fin grid1.N, t.val < 33 → (win1_6.flush t = false ∧ win1_7.flush t = false ∧ win1_8.flush t = false))

set_option maxHeartbeats 1000000 in
/-- The obligation of the main call at each point. -/
theorem obligation1 (c : Dev nD) : BodyObligation (dat1 V c) (defs₀ (F := F)) Variants.none () Set.univ := fun t => by
  rw [bigSep_W1, bigSep_W1]
  rw [show (dat1 V c).Φ t.castSucc = Φ1 V c t.val from rfl, show (dat1 V c).Φ t.succ = Φ1 V c (t.val + 1) from rfl,
    show (dat1 V c).owesAt () t.succ = (dat1 V c).owesAt () t.castSucc from rfl]
  have hN : t.val < 34 := t.isLt
  unfold Φ1
  iintro ⟨⟨⟨%s, %p, Hs⟩, Hr⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave G0 := (owns_open c (win1_0.stage (cfg1.slots t 0)) (hstage1_0 ((cfg1.slots t 0).cast nbuf1_0)) (before1_0 V c t d0)) $$ H0
  ihave G1 := (owns_open c (win1_1.stage (cfg1.slots t 1)) (hstage1_1 ((cfg1.slots t 1).cast nbuf1_1)) (before1_1 V c t d1)) $$ H1
  ihave G2 := (owns_open c (win1_2.stage (cfg1.slots t 2)) (hstage1_2 ((cfg1.slots t 2).cast nbuf1_2)) (before1_2 V c t d2)) $$ H2
  ihave G3 := (owns_open c (win1_3.stage (cfg1.slots t 3)) (hstage1_3 ((cfg1.slots t 3).cast nbuf1_3)) (before1_3 V c t d3)) $$ H3
  ihave G4 := (owns_open c (win1_4.stage (cfg1.slots t 4)) (hstage1_4 ((cfg1.slots t 4).cast nbuf1_4)) (before1_4 V c t d4)) $$ H4
  ihave G5 := (owns_open c (win1_5.stage (cfg1.slots t 5)) (hstage1_5 ((cfg1.slots t 5).cast nbuf1_5)) (before1_5 V c t d5)) $$ H5
  by_cases ht : t.val < 33
  · obtain ⟨s', p', hb⟩ := body_before_last c (inp (V c)) s t (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) ht p
    have hi := idle1_true t ht
    have hf := flush1_false t ht
    rw [hf.1, hf.2.1, hf.2.2]
    simp only [show idle1 6 (grid1.coords t) = true from hi.1, show idle1 7 (grid1.coords t) = true from hi.2.1, show idle1 8 (grid1.coords t) = true from hi.2.2]
    iapply (hb Set.univ _)
    isplitl [G0 G1 G2 G3 G4 G5]
    · unfold blocks
      isplitl [G0]; · iexact G0
      isplitl [G1]; · iexact G1
      isplitl [G2]; · iexact G2
      isplitl [G3]; · iexact G3
      isplitl [G4]; · iexact G4
      iexact G5
    isplitl [Hs]; · iexact Hs
    unfold blocks
    iintro ⟨⟨H0, H1, H2, H3, H4, H5⟩, Hs⟩
    isplitl [Hs Hr]
    · isplitl [Hs]
      · iexists s'; isplitr; · ipureintro; exact p'
        iexact Hs
      iexact Hr
    isplitl [Howes]; · iexact Howes
    isplitl [H0]; · iapply (owns_close c (win1_0.stage (cfg1.slots t 0)) (hstage1_0 ((cfg1.slots t 0).cast nbuf1_0)) (block0 (V c) t).symm); iexact H0
    isplitl [H1]; · iapply (owns_close c (win1_1.stage (cfg1.slots t 1)) (hstage1_1 ((cfg1.slots t 1).cast nbuf1_1)) (block1 (V c) t).symm); iexact H1
    isplitl [H2]; · iapply (owns_close c (win1_2.stage (cfg1.slots t 2)) (hstage1_2 ((cfg1.slots t 2).cast nbuf1_2)) (block2 (V c) t).symm); iexact H2
    isplitl [H3]; · iapply (owns_close c (win1_3.stage (cfg1.slots t 3)) (hstage1_3 ((cfg1.slots t 3).cast nbuf1_3)) (block3 (V c) t).symm); iexact H3
    isplitl [H4]; · iapply (owns_close c (win1_4.stage (cfg1.slots t 4)) (hstage1_4 ((cfg1.slots t 4).cast nbuf1_4)) (block4 (V c) t).symm); iexact H4
    isplitl [H5]; · iapply (owns_close c (win1_5.stage (cfg1.slots t 5)) (hstage1_5 ((cfg1.slots t 5).cast nbuf1_5)) (block5 (V c) t).symm); iexact H5
    isplitl [H6]; · iexists d6; iexact H6
    isplitl [H7]; · iexists d7; iexact H7
    iexists d8; iexact H8
  · have ht : t.val = 33 := by omega
    have hi := idle1_false t ht
    simp only [show idle1 6 (grid1.coords t) = false from hi.1, show idle1 7 (grid1.coords t) = false from hi.2.1, show idle1 8 (grid1.coords t) = false from hi.2.2]
    ihave G6 := (owns_open c (win1_6.stage (cfg1.slots t 6)) (hstage1_6 ((cfg1.slots t 6).cast nbuf1_6)) rfl) $$ H6
    ihave G7 := (owns_open c (win1_7.stage (cfg1.slots t 7)) (hstage1_7 ((cfg1.slots t 7).cast nbuf1_7)) rfl) $$ H7
    ihave G8 := (owns_open c (win1_8.stage (cfg1.slots t 8)) (hstage1_8 ((cfg1.slots t 8).cast nbuf1_8)) rfl) $$ H8
    icases G6 with ⟨%f6, -, G6⟩
    icases G7 with ⟨%f7, -, G7⟩
    icases G8 with ⟨%f8, -, G8⟩
    iapply (body_33 c (inp (V c)) s t (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (n1 t.val) (n2 t.val) ht Set.univ _)
    isplitl [G0 G1 G2 G3 G4 G5]
    · unfold blocks
      isplitl [G0]; · iexact G0
      isplitl [G1]; · iexact G1
      isplitl [G2]; · iexact G2
      isplitl [G3]; · iexact G3
      isplitl [G4]; · iexact G4
      iexact G5
    isplitl [Hs]; · iexact Hs
    isplitl [G6]; · iexists f6; iexact G6
    isplitl [G7]; · iexists f7; iexact G7
    isplitl [G8]; · iexists f8; iexact G8
    unfold blocks
    iintro ⟨⟨H0, H1, H2, H3, H4, H5⟩, Hs, H6, H7, H8⟩
    rw [ht] at p
    isplitl [Hs Hr]
    · isplitl [Hs]
      · iexists s; isplitr; · ipureintro; rw [ht]; exact Inv.step_33 p
        iexact Hs
      iexact Hr
    isplitl [Howes]; · iexact Howes
    isplitl [H0]; · iapply (owns_close c (win1_0.stage (cfg1.slots t 0)) (hstage1_0 ((cfg1.slots t 0).cast nbuf1_0)) (block0 (V c) t).symm); iexact H0
    isplitl [H1]; · iapply (owns_close c (win1_1.stage (cfg1.slots t 1)) (hstage1_1 ((cfg1.slots t 1).cast nbuf1_1)) (block1 (V c) t).symm); iexact H1
    isplitl [H2]; · iapply (owns_close c (win1_2.stage (cfg1.slots t 2)) (hstage1_2 ((cfg1.slots t 2).cast nbuf1_2)) (block2 (V c) t).symm); iexact H2
    isplitl [H3]; · iapply (owns_close c (win1_3.stage (cfg1.slots t 3)) (hstage1_3 ((cfg1.slots t 3).cast nbuf1_3)) (block3 (V c) t).symm); iexact H3
    isplitl [H4]; · iapply (owns_close c (win1_4.stage (cfg1.slots t 4)) (hstage1_4 ((cfg1.slots t 4).cast nbuf1_4)) (block4 (V c) t).symm); iexact H4
    isplitl [H5]; · iapply (owns_close c (win1_5.stage (cfg1.slots t 5)) (hstage1_5 ((cfg1.slots t 5).cast nbuf1_5)) (block5 (V c) t).symm); iexact H5
    isplitl [H6]; · iapply (owns_close c (win1_6.stage (cfg1.slots t 6)) (hstage1_6 ((cfg1.slots t 6).cast nbuf1_6)) (Inv.end_ p).1); iexact H6
    isplitl [H7]; · iapply (owns_close c (win1_7.stage (cfg1.slots t 7)) (hstage1_7 ((cfg1.slots t 7).cast nbuf1_7)) (Inv.end_ p).2.1); iexact H7
    iapply (owns_close c (win1_8.stage (cfg1.slots t 8)) (hstage1_8 ((cfg1.slots t 8).cast nbuf1_8)) (Inv.end_ p).2.2); iexact H8

/-- At entry the scratch arrays may hold anything. -/
theorem enter1 (c : Dev nD) : (Pipeline.scopedRest (Ix := Unit) (Name := ℕ) (U := UU) (Lvl := ℕ) (Val := Elt F) spec1 c : sProp 𝕄) ⊢ Φ1 V c 0 := by
  rw [scopedRest1_split]
  unfold Φ1 scr
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, Hr⟩
  isplitr [Hr]; swap; · iexact Hr
  iexists ⟨⟨f0, f1, f2, f3, f4⟩, f5, f6, f7, f8, f9⟩
  isplitr; · ipureintro; exact Inv.zero
  isplitl [H0]; · iexists f0; isplitr; swap; (· iexact H0); ipureintro; exact View.read_whole _ _
  isplitl [H1]; · iexists f1; isplitr; swap; (· iexact H1); ipureintro; exact View.read_whole _ _
  isplitl [H2]; · iexists f2; isplitr; swap; (· iexact H2); ipureintro; exact View.read_whole _ _
  isplitl [H3]; · iexists f3; isplitr; swap; (· iexact H3); ipureintro; exact View.read_whole _ _
  isplitl [H4]; · iexists f4; isplitr; swap; (· iexact H4); ipureintro; exact View.read_whole _ _
  isplitl [H5]; · iexists f5; isplitr; swap; (· iexact H5); ipureintro; exact View.read_whole _ _
  isplitl [H6]; · iexists f6; isplitr; swap; (· iexact H6); ipureintro; exact View.read_whole _ _
  isplitl [H7]; · iexists f7; isplitr; swap; (· iexact H7); ipureintro; exact View.read_whole _ _
  isplitl [H8]; · iexists f8; isplitr; swap; (· iexact H8); ipureintro; exact View.read_whole _ _
  iexists f9; isplitr; swap; (· iexact H9); ipureintro; exact View.read_whole _ _

/-- At the end the scratch arrays are given back. -/
theorem leave1 (c : Dev nD) (t : ℕ) : Φ1 V c t ⊢ (Pipeline.scopedRest (Ix := Unit) (Name := ℕ) (U := UU) (Lvl := ℕ) (Val := Elt F) spec1 c : sProp 𝕄) := by
  rw [scopedRest1_split]
  unfold Φ1 scr
  iintro ⟨⟨%s, -, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩, ⟨%f9, -, H9⟩⟩, Hr⟩
  isplitr [Hr]; swap; · iexact Hr
  isplitl [H0]; · iexists f0; iexact H0
  isplitl [H1]; · iexists f1; iexact H1
  isplitl [H2]; · iexists f2; iexact H2
  isplitl [H3]; · iexists f3; iexact H3
  isplitl [H4]; · iexists f4; iexact H4
  isplitl [H5]; · iexists f5; iexact H5
  isplitl [H6]; · iexists f6; iexact H6
  isplitl [H7]; · iexists f7; iexact H7
  isplitl [H8]; · iexists f8; iexact H8
  iexists f9; iexact H9

/-! ## The three results as the region leaves them -/

theorem result1_6 (c : Dev nD) : (dat1 V c).arrAt 6 cfg1.N = out10 (inp (V c)) (last (inp (V c))) := by
  refine (dat1 V c).arrAt_eq_of_after_last 6 (⟨33, by decide⟩ : Fin grid1.N) (by decide +kernel) _ fun j => ?_
  have e := (by decide +kernel : ∀ t : Fin grid1.N, win1_6.index t = ![0, 0]) ⟨33, by decide⟩
  show out10 (inp (V c)) (last (inp (V c))) _ = out10 (inp (V c)) (last (inp (V c))) _
  congr 1

theorem result1_7 (c : Dev nD) : (dat1 V c).arrAt 7 cfg1.N = out11 (inp (V c)) (last (inp (V c))) := by
  refine (dat1 V c).arrAt_eq_of_after_last 7 (⟨33, by decide⟩ : Fin grid1.N) (by decide +kernel) _ fun j => ?_
  have e := (by decide +kernel : ∀ t : Fin grid1.N, win1_7.index t = ![0, 0]) ⟨33, by decide⟩
  show out11 (inp (V c)) (last (inp (V c))) _ = out11 (inp (V c)) (last (inp (V c))) _
  congr 1

theorem result1_8 (c : Dev nD) : (dat1 V c).arrAt 8 cfg1.N = out12 (inp (V c)) (last (inp (V c))) := by
  refine (dat1 V c).arrAt_eq_of_after_last 8 (⟨33, by decide⟩ : Fin grid1.N) (by decide +kernel) _ fun j => ?_
  have e := (by decide +kernel : ∀ t : Fin grid1.N, win1_8.index t = ![0, 0]) ⟨33, by decide⟩
  show out12 (inp (V c)) (last (inp (V c))) _ = out12 (inp (V c)) (last (inp (V c))) _
  congr 1

end Cert.KernelIdeal.Main
-- ==== Proof.KernelIdealPrepLeft.lean ====
/-
  What the preparation leaves in the program's arrays, whatever the packed arrays held before.
-/
module

public import proofs.«01_k».proof.Proof.KernelIdealPrepFinds
public import proofs.«01_k».proof.Proof.KernelIdealMain
public import proofs.«01_k».proof.Proof.Gen.KernelIdeal.Regions
public import Idealize.ShloMosaic.Lib.Pipeline.RegionArraysS
public import Idealize.ShloMosaic.Lib.Pipeline.RegionArraysF

@[expose] public section

set_option maxRecDepth 16384

noncomputable section

namespace Cert.KernelIdeal.Main

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window Seg HostSeg RegionSeg pin cellsGhost toksInit ucRefs arrRef arrRefs afterRegion)

variable {F : FTy → Type} [FloatOps F]

local notation "𝕄" => MT nD τ sig Unit (Elt F) ℕ UU ℕ

/-- From contents `W` the preparation leaves `W2`: the four packed arrays written over in what they held, the rest as it was. -/
def Left (W W2 : Valuation τ sig (Elt F)) : Prop :=
  (∀ r : Ref sig .tc, r ∉ ([main_v6_0, main_v6_1, main_v6_2, main_v6_3] : List (Ref sig .tc)) → W2 (Proc.devRef .tc r) = W (Proc.devRef .tc r))
    ∧ (∃ y, W2 (Proc.devRef .tc main_v6_0) = xpOut (pinp W) y)
    ∧ (∃ y, W2 (Proc.devRef .tc main_v6_1) = upOut (pinp W) y)
    ∧ (∃ y, W2 (Proc.devRef .tc main_v6_2) = spOut (pinp W) y)
    ∧ (∃ y, W2 (Proc.devRef .tc main_v6_3) = wpOut (pinp W) y)

/-- What the body may leave in each block at each point. -/
abbrev Aft0 : Type := (w : Fin cfg0.W) → Fin cfg0.N → (cfg0.win w).block.Idx → Elt F (cfg0.win w).elt

variable (V : Dev nD → Valuation τ sig (Elt F))

/-- The arrays at what they may hold after the preparation are the arrays at what some exact proof data name. -/
theorem arrays0_exit (c : Dev nD) : ((rdat0 V c).arraysAt cfg0.N : sProp 𝕄) ⊢ iprop(∃ after : Aft0 (F := F),
    ⌜∀ (w : Fin cfg0.W) (u : Fin cfg0.N), u.val < cfg0.N → (cfg0.win w).flush u = true → (rdat0 V c).Leaves w u (after w u)⌝
      ∗ ((rdat0 V c).withAfter after).arrays (fun w => ((rdat0 V c).withAfter after).arrAt w cfg0.N)) := by
  unfold RDat.arraysAt Dat.arrays
  refine (BI.bigSep_exists_pi Finset.univ _).trans ?_
  iintro ⟨%A, H⟩
  ihave H' := (BI.bigSep_pure_sep Finset.univ (fun w => (rdat0 V c).ArrAt w cfg0.N (A w)) _) $$ H
  icases H' with ⟨%hA, H⟩
  obtain ⟨after, hL, hG⟩ := RDat.ArrAt.exists_exact_all (rd := rdat0 V c) (n := cfg0.N) (G := A) (fun w => hA w (Finset.mem_univ w))
  iexists after
  isplitr
  · ipureintro; exact hL
  rw [show (fun w => ((rdat0 V c).withAfter after).arrAt w cfg0.N) = A from (funext hG).symm]
  iexact H

/-- The two calls' proof data, the preparation's exact at `after`. -/
abbrev pd0 (after : Aft0 (F := F)) : (p : Fin 2) → (c : Dev nD) → Dat τ (Elt F) Unit ℕ UU ℕ (cfgs p) c
  | 0, c => (rdat0 V c).withAfter after
  | 1, c => dat1 V c

theorem share0 (c : Dev nD) (w : Fin cfg0.W) : (rdat0 V c).share w = fullShare := by
  unfold RDat.share; split <;> rfl

/-- The arrays as they enter the preparation. -/
theorem arrays0_entry (c : Dev nD) : ((rdat0 V c).arrays (rdat0 V c).A : sProp 𝕄)
    = StableHlo.held (c.tc : Thread nD τ) (arrRefs spec0) (V c) :=
  Pipeline.arrays_held (pcfgs (F := F)) adm (pd0 V fun _ _ _ => Classical.arbitrary _) 0 launch0.toP c (share0 V c) _ (V c) (fun _ => rfl)

/-- The buffers after the preparation. -/
abbrev end0 (c : Dev nD) (after : Aft0 (F := F)) : Valuation τ sig (Elt F) := afterRegion ((rdat0 V c).withAfter after) (V c)

/-- The arrays as they leave the preparation. -/
theorem arrays0_held (c : Dev nD) (after : Aft0 (F := F)) :
    (((rdat0 V c).withAfter after).arrays (fun w => ((rdat0 V c).withAfter after).arrAt w cfg0.N) : sProp 𝕄)
      = StableHlo.held (c.tc : Thread nD τ) (arrRefs spec0) (end0 V c after) :=
  Pipeline.arrays_held (pcfgs (F := F)) adm (pd0 V after) 0 launch0.toP c (share0 V c) _ _
    (fun w => (Pipeline.afterRegion_arr ((rdat0 V c).withAfter after) (V c) winFacts0.arr_inj w).symm)

/-- The preparation leaves the buffers as `Left` says. -/
theorem left_end0 (c : Dev nD) (after : Aft0 (F := F))
    (hL : ∀ (w : Fin cfg0.W) (u : Fin cfg0.N), u.val < cfg0.N → (cfg0.win w).flush u = true → (rdat0 V c).Leaves w u (after w u)) :
    Left (V c) (end0 V c after) := by
  have hinj := winFacts0.arr_inj
  refine ⟨fun r hr => Pipeline.afterRegion_keeps ((rdat0 V c).withAfter after) (V c) hinj (fun _ => rfl) r fun w e => ?_, ?_, ?_, ?_, ?_⟩
  · subst e
    exact (by decide +kernel : ∀ w : Fin 26, arrRef spec0 w ∉ ([main_v6_0, main_v6_1, main_v6_2, main_v6_3] : List (Ref sig .tc)) → (spec0 w).isOut = false) w hr
  · obtain ⟨Y, -, hX⟩ := hL 22 ⟨0, by decide⟩ (by decide) (by decide +kernel)
    exact ⟨Y, ((Pipeline.afterRegion_arr ((rdat0 V c).withAfter after) (V c) hinj 22).trans (result0_22 V c after)).trans hX⟩
  · obtain ⟨Y, -, hX⟩ := hL 23 ⟨0, by decide⟩ (by decide) (by decide +kernel)
    exact ⟨Y, ((Pipeline.afterRegion_arr ((rdat0 V c).withAfter after) (V c) hinj 23).trans (result0_23 V c after)).trans hX⟩
  · obtain ⟨Y, -, hX⟩ := hL 24 ⟨0, by decide⟩ (by decide) (by decide +kernel)
    exact ⟨Y, ((Pipeline.afterRegion_arr ((rdat0 V c).withAfter after) (V c) hinj 24).trans (result0_24 V c after)).trans hX⟩
  · obtain ⟨Y, -, hX⟩ := hL 25 ⟨0, by decide⟩ (by decide) (by decide +kernel)
    exact ⟨Y, ((Pipeline.afterRegion_arr ((rdat0 V c).withAfter after) (V c) hinj 25).trans (result0_25 V c after)).trans hX⟩

end Cert.KernelIdeal.Main
-- ==== Proof.KernelIdealPrepRegion.lean ====
/-
  The preparation as a region: its obligation at its one point.
-/
module

public import proofs.«01_k».proof.Proof.KernelIdealPrepFinds
public import proofs.«01_k».proof.Proof.Gen.KernelIdeal.Launch
public import Idealize.ShloMosaic.Lib.Pipeline.ArrRel
public import Idealize.ShloMosaic.Lib.Pipeline.ValueKit

@[expose] public section

set_option maxRecDepth 16384

noncomputable section

namespace Cert.KernelIdeal.Main

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ UU ℕ

variable (V : Dev nD → Valuation τ sig (Elt F))

set_option maxHeartbeats 1600000 in
/-- The obligation of the preparation at its point. -/
theorem obligation0 (c : Dev nD) : (rdat0 V c).BodyObligation (defs₀ (F := F)) Variants.none () Set.univ := fun t Y hY => by
  rw [bigSep_W0, bigSep_W0]
  rw [show (rdat0 V c).Φ t.castSucc = others0 c from rfl, show (rdat0 V c).Φ t.succ = others0 c from rfl,
    show (rdat0 V c).owesAt () t.succ = (rdat0 V c).owesAt () t.castSucc from rfl]
  iintro ⟨Hr, Howes, H0, H1, H2, H3, H4, H5, H6, H7, H8, H9, H10, H11, H12, H13, H14, H15, H16, H17, H18, H19, H20, H21, H22, H23, H24, H25⟩
  ihave G0 := (owns_open c (win0_0.stage (cfg0.slots t 0)) (hstage0_0 0) (finds0_0 V c t _ (hY 0))) $$ H0
  ihave G1 := (owns_open c (win0_1.stage (cfg0.slots t 1)) (hstage0_1 0) (finds0_1 V c t _ (hY 1))) $$ H1
  ihave G2 := (owns_open c (win0_2.stage (cfg0.slots t 2)) (hstage0_2 0) (finds0_2 V c t _ (hY 2))) $$ H2
  ihave G3 := (owns_open c (win0_3.stage (cfg0.slots t 3)) (hstage0_3 0) (finds0_3 V c t _ (hY 3))) $$ H3
  ihave G4 := (owns_open c (win0_4.stage (cfg0.slots t 4)) (hstage0_4 0) (finds0_4 V c t _ (hY 4))) $$ H4
  ihave G5 := (owns_open c (win0_5.stage (cfg0.slots t 5)) (hstage0_5 0) (finds0_5 V c t _ (hY 5))) $$ H5
  ihave G6 := (owns_open c (win0_6.stage (cfg0.slots t 6)) (hstage0_6 0) (finds0_6 V c t _ (hY 6))) $$ H6
  ihave G7 := (owns_open c (win0_7.stage (cfg0.slots t 7)) (hstage0_7 0) (finds0_7 V c t _ (hY 7))) $$ H7
  ihave G8 := (owns_open c (win0_8.stage (cfg0.slots t 8)) (hstage0_8 0) (finds0_8 V c t _ (hY 8))) $$ H8
  ihave G9 := (owns_open c (win0_9.stage (cfg0.slots t 9)) (hstage0_9 0) (finds0_9 V c t _ (hY 9))) $$ H9
  ihave G10 := (owns_open c (win0_10.stage (cfg0.slots t 10)) (hstage0_10 0) (finds0_10 V c t _ (hY 10))) $$ H10
  ihave G11 := (owns_open c (win0_11.stage (cfg0.slots t 11)) (hstage0_11 0) (finds0_11 V c t _ (hY 11))) $$ H11
  ihave G12 := (owns_open c (win0_12.stage (cfg0.slots t 12)) (hstage0_12 0) (finds0_12 V c t _ (hY 12))) $$ H12
  ihave G13 := (owns_open c (win0_13.stage (cfg0.slots t 13)) (hstage0_13 0) (finds0_13 V c t _ (hY 13))) $$ H13
  ihave G14 := (owns_open c (win0_14.stage (cfg0.slots t 14)) (hstage0_14 0) (finds0_14 V c t _ (hY 14))) $$ H14
  ihave G15 := (owns_open c (win0_15.stage (cfg0.slots t 15)) (hstage0_15 0) (finds0_15 V c t _ (hY 15))) $$ H15
  ihave G16 := (owns_open c (win0_16.stage (cfg0.slots t 16)) (hstage0_16 0) (finds0_16 V c t _ (hY 16))) $$ H16
  ihave G17 := (owns_open c (win0_17.stage (cfg0.slots t 17)) (hstage0_17 0) (finds0_17 V c t _ (hY 17))) $$ H17
  ihave G18 := (owns_open c (win0_18.stage (cfg0.slots t 18)) (hstage0_18 0) (finds0_18 V c t _ (hY 18))) $$ H18
  ihave G19 := (owns_open c (win0_19.stage (cfg0.slots t 19)) (hstage0_19 0) (finds0_19 V c t _ (hY 19))) $$ H19
  ihave G20 := (owns_open c (win0_20.stage (cfg0.slots t 20)) (hstage0_20 0) (finds0_20 V c t _ (hY 20))) $$ H20
  ihave G21 := (owns_open c (win0_21.stage (cfg0.slots t 21)) (hstage0_21 0) (finds0_21 V c t _ (hY 21))) $$ H21
  ihave G22 := (owns_open c (win0_22.stage (cfg0.slots t 22)) (hstage0_22 0) (rfl : Y 22 = Y 22)) $$ H22
  ihave G23 := (owns_open c (win0_23.stage (cfg0.slots t 23)) (hstage0_23 0) (rfl : Y 23 = Y 23)) $$ H23
  ihave G24 := (owns_open c (win0_24.stage (cfg0.slots t 24)) (hstage0_24 0) (rfl : Y 24 = Y 24)) $$ H24
  ihave G25 := (owns_open c (win0_25.stage (cfg0.slots t 25)) (hstage0_25 0) (rfl : Y 25 = Y 25)) $$ H25
  iapply (prep_body c (pinp (V c)) (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (win0_11.stage (cfg0.slots t 11)) (hstage0_11 0) (win0_12.stage (cfg0.slots t 12)) (hstage0_12 0) (win0_13.stage (cfg0.slots t 13)) (hstage0_13 0) (win0_14.stage (cfg0.slots t 14)) (hstage0_14 0) (win0_15.stage (cfg0.slots t 15)) (hstage0_15 0) (win0_16.stage (cfg0.slots t 16)) (hstage0_16 0) (win0_17.stage (cfg0.slots t 17)) (hstage0_17 0) (win0_18.stage (cfg0.slots t 18)) (hstage0_18 0) (win0_19.stage (cfg0.slots t 19)) (hstage0_19 0) (win0_20.stage (cfg0.slots t 20)) (hstage0_20 0) (win0_21.stage (cfg0.slots t 21)) (hstage0_21 0) (win0_22.stage (cfg0.slots t 22)) (hstage0_22 0) (Y 22) (win0_23.stage (cfg0.slots t 23)) (hstage0_23 0) (Y 23) (win0_24.stage (cfg0.slots t 24)) (hstage0_24 0) (Y 24) (win0_25.stage (cfg0.slots t 25)) (hstage0_25 0) (Y 25) Set.univ _)
  isplitl [G0 G1 G2 G3 G4 G5 G6 G7 G8 G9 G10 G11 G12 G13 G14 G15 G16 G17 G18 G19 G20 G21]
  · unfold pblocks
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    iexact G21
  isplitl [G22]; · iexact G22
  isplitl [G23]; · iexact G23
  isplitl [G24]; · iexact G24
  isplitl [G25]; · iexact G25
  unfold pblocks
  iintro ⟨⟨H0, H1, H2, H3, H4, H5, H6, H7, H8, H9, H10, H11, H12, H13, H14, H15, H16, H17, H18, H19, H20, H21⟩, H22, H23, H24, H25⟩
  isplitl [Hr]; · iexact Hr
  isplitl [Howes]; · iexact Howes
  isplitl [H0]; · iexists (Y 0); isplitr; (· ipureintro; rfl); iapply (owns_close c (win0_0.stage (cfg0.slots t 0)) (hstage0_0 0) (finds0_0 V c t _ (hY 0)).symm); iexact H0
  isplitl [H1]; · iexists (Y 1); isplitr; (· ipureintro; rfl); iapply (owns_close c (win0_1.stage (cfg0.slots t 1)) (hstage0_1 0) (finds0_1 V c t _ (hY 1)).symm); iexact H1
  isplitl [H2]; · iexists (Y 2); isplitr; (· ipureintro; rfl); iapply (owns_close c (win0_2.stage (cfg0.slots t 2)) (hstage0_2 0) (finds0_2 V c t _ (hY 2)).symm); iexact H2
  isplitl [H3]; · iexists (Y 3); isplitr; (· ipureintro; rfl); iapply (owns_close c (win0_3.stage (cfg0.slots t 3)) (hstage0_3 0) (finds0_3 V c t _ (hY 3)).symm); iexact H3
  isplitl [H4]; · iexists (Y 4); isplitr; (· ipureintro; rfl); iapply (owns_close c (win0_4.stage (cfg0.slots t 4)) (hstage0_4 0) (finds0_4 V c t _ (hY 4)).symm); iexact H4
  isplitl [H5]; · iexists (Y 5); isplitr; (· ipureintro; rfl); iapply (owns_close c (win0_5.stage (cfg0.slots t 5)) (hstage0_5 0) (finds0_5 V c t _ (hY 5)).symm); iexact H5
  isplitl [H6]; · iexists (Y 6); isplitr; (· ipureintro; rfl); iapply (owns_close c (win0_6.stage (cfg0.slots t 6)) (hstage0_6 0) (finds0_6 V c t _ (hY 6)).symm); iexact H6
  isplitl [H7]; · iexists (Y 7); isplitr; (· ipureintro; rfl); iapply (owns_close c (win0_7.stage (cfg0.slots t 7)) (hstage0_7 0) (finds0_7 V c t _ (hY 7)).symm); iexact H7
  isplitl [H8]; · iexists (Y 8); isplitr; (· ipureintro; rfl); iapply (owns_close c (win0_8.stage (cfg0.slots t 8)) (hstage0_8 0) (finds0_8 V c t _ (hY 8)).symm); iexact H8
  isplitl [H9]; · iexists (Y 9); isplitr; (· ipureintro; rfl); iapply (owns_close c (win0_9.stage (cfg0.slots t 9)) (hstage0_9 0) (finds0_9 V c t _ (hY 9)).symm); iexact H9
  isplitl [H10]; · iexists (Y 10); isplitr; (· ipureintro; rfl); iapply (owns_close c (win0_10.stage (cfg0.slots t 10)) (hstage0_10 0) (finds0_10 V c t _ (hY 10)).symm); iexact H10
  isplitl [H11]; · iexists (Y 11); isplitr; (· ipureintro; rfl); iapply (owns_close c (win0_11.stage (cfg0.slots t 11)) (hstage0_11 0) (finds0_11 V c t _ (hY 11)).symm); iexact H11
  isplitl [H12]; · iexists (Y 12); isplitr; (· ipureintro; rfl); iapply (owns_close c (win0_12.stage (cfg0.slots t 12)) (hstage0_12 0) (finds0_12 V c t _ (hY 12)).symm); iexact H12
  isplitl [H13]; · iexists (Y 13); isplitr; (· ipureintro; rfl); iapply (owns_close c (win0_13.stage (cfg0.slots t 13)) (hstage0_13 0) (finds0_13 V c t _ (hY 13)).symm); iexact H13
  isplitl [H14]; · iexists (Y 14); isplitr; (· ipureintro; rfl); iapply (owns_close c (win0_14.stage (cfg0.slots t 14)) (hstage0_14 0) (finds0_14 V c t _ (hY 14)).symm); iexact H14
  isplitl [H15]; · iexists (Y 15); isplitr; (· ipureintro; rfl); iapply (owns_close c (win0_15.stage (cfg0.slots t 15)) (hstage0_15 0) (finds0_15 V c t _ (hY 15)).symm); iexact H15
  isplitl [H16]; · iexists (Y 16); isplitr; (· ipureintro; rfl); iapply (owns_close c (win0_16.stage (cfg0.slots t 16)) (hstage0_16 0) (finds0_16 V c t _ (hY 16)).symm); iexact H16
  isplitl [H17]; · iexists (Y 17); isplitr; (· ipureintro; rfl); iapply (owns_close c (win0_17.stage (cfg0.slots t 17)) (hstage0_17 0) (finds0_17 V c t _ (hY 17)).symm); iexact H17
  isplitl [H18]; · iexists (Y 18); isplitr; (· ipureintro; rfl); iapply (owns_close c (win0_18.stage (cfg0.slots t 18)) (hstage0_18 0) (finds0_18 V c t _ (hY 18)).symm); iexact H18
  isplitl [H19]; · iexists (Y 19); isplitr; (· ipureintro; rfl); iapply (owns_close c (win0_19.stage (cfg0.slots t 19)) (hstage0_19 0) (finds0_19 V c t _ (hY 19)).symm); iexact H19
  isplitl [H20]; · iexists (Y 20); isplitr; (· ipureintro; rfl); iapply (owns_close c (win0_20.stage (cfg0.slots t 20)) (hstage0_20 0) (finds0_20 V c t _ (hY 20)).symm); iexact H20
  isplitl [H21]; · iexists (Y 21); isplitr; (· ipureintro; rfl); iapply (owns_close c (win0_21.stage (cfg0.slots t 21)) (hstage0_21 0) (finds0_21 V c t _ (hY 21)).symm); iexact H21
  isplitl [H22]; · iexists (xpOut (pinp (V c)) (Y 22)); isplitr; (· ipureintro; rfl); iapply (owns_close c (win0_22.stage (cfg0.slots t 22)) (hstage0_22 0) rfl); iexact H22
  isplitl [H23]; · iexists (upOut (pinp (V c)) (Y 23)); isplitr; (· ipureintro; rfl); iapply (owns_close c (win0_23.stage (cfg0.slots t 23)) (hstage0_23 0) rfl); iexact H23
  isplitl [H24]; · iexists (spOut (pinp (V c)) (Y 24)); isplitr; (· ipureintro; rfl); iapply (owns_close c (win0_24.stage (cfg0.slots t 24)) (hstage0_24 0) rfl); iexact H24
  iexists (wpOut (pinp (V c)) (Y 25)); isplitr; (· ipureintro; rfl); iapply (owns_close c (win0_25.stage (cfg0.slots t 25)) (hstage0_25 0) rfl); iexact H25

end Cert.KernelIdeal.Main
-- ==== Proof.KernelIdealSeg0.lean ====
/-
  The preparation as an item of the program: from the buffers at `V` to the buffers as `Left` says.
-/
module

public import proofs.«01_k».proof.Proof.KernelIdealPrepLeft
public import proofs.«01_k».proof.Proof.KernelIdealPrepRegion

@[expose] public section

set_option maxRecDepth 16384

noncomputable section

namespace Cert.KernelIdeal.Main

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window Seg HostSeg RegionSeg pin cellsGhost toksInit ucRefs arrRef arrRefs afterRegion)

variable {F : FTy → Type} [FloatOps F]

local notation "𝕄" => MT nD τ sig Unit (Elt F) ℕ UU ℕ

/-- Every staging cell of a core has a level; no other cell has one. -/
abbrev L0 : GSem nD τ sig → Finset Unit := fun g => if g.1.2 = .tc then {()} else ∅

/-- Every level is zero. -/
abbrev lv0 : GSem nD τ sig → Unit → ℕ := fun _ _ => 0

variable (V : Dev nD → Valuation τ sig (Elt F))

/-- What rides beside the preparation: the main call's share of the launch's ghost state. -/
abbrev ghost1 (c : Dev nD) : sProp 𝕄 :=
  iprop(cellsGhost (pin (pcfgs (F := F)) adm) (embR : Emb (UR sig nD τ) 𝕄) 1 c ∗ toksInit (pin (pcfgs (F := F)) adm) (embR : Emb (UR sig nD τ) 𝕄) 1 c)

/-- What a core carries between the items beside its buffers. -/
abbrev carried (c : Dev nD) : sProp 𝕄 := iprop((∃ Wd, owes (c : Thread nD τ) (0 : CellTallies nD τ sig Unit) Wd) ∗ ghost1 (F := F) c)

/-- The state between the two calls. -/
abbrev mid (c : Dev nD) : sProp 𝕄 := iprop(∃ W : Valuation τ sig (Elt F), ⌜Left (V c) W⌝ ∗ StableHlo.held (c.tc : Thread nD τ) (ucRefs τ sig) W ∗ carried (F := F) c)

/-- The proof data of the two calls where only the preparation's are read. -/
abbrev rd0 : (p : Fin 2) → (c : Dev nD) → RDat τ (Elt F) Unit ℕ UU ℕ (pin (pcfgs (F := F)) adm p) c
  | 0, c => rdat0 V c
  | 1, c => (dat1 V c).toR

theorem arrs0_sub : arrRefs (τ := τ) spec0 ⊆ ucRefs τ sig := Pipeline.arrRefs_sub_ucRefs spec0 winFacts0.arr_unscoped

/-- The preparation as an item of the program. -/
def R0 : RDat.RegionSeg (pcfgs (F := F)) adm (rd0 V) () (defs₀ (F := F)) Variants.none L0 lv0 0 where
  win := (launch0.toP (Val := Elt F)).to₀.win
  block_pos := (launch0.toP (Val := Elt F)).to₀.block_pos
  stage_whole := (launch0.toP (Val := Elt F)).to₀.stage_whole
  K := PEmpty
  osem k := k.elim
  ho := Pipeline.OwnSemFacts.none _
  hbody c := obligation0 V c
  hwaits c := RDat.hwaits_of_owed_zero (pcfgs (F := F)) adm (rd0 V) () L0 lv0 0 (fun _ _ => rfl) c
  pre c := iprop(StableHlo.held (c.tc : Thread nD τ) (ucRefs τ sig) (V c) ∗ carried (F := F) c)
  post c := mid V c
  X _ := iprop(emp)
  Y _ := iprop(emp)
  Z c := iprop(StableHlo.held (c.tc : Thread nD τ) (ucRefs τ sig \ arrRefs spec0) (V c) ∗ ghost1 (F := F) c)
  hentry c := by
    show _ ⊢ |={Set.univ}=> iprop((rdat0 V c).arrays (rdat0 V c).A ∗ _ ∗ (rdat0 V c).owesAt () 0 ∗ _ ∗ _)
    rw [Pipeline.prefHeld_of_none _ rfl, arrays0_entry V c, StableHlo.held_sub_split (c.tc : Thread nD τ) arrs0_sub (V c)]
    iintro ⟨⟨⟨Ha, Hu⟩, HO, HG⟩, -, -⟩
    imodintro
    isplitl [Ha]; · iexact Ha
    isplitr; · iempintro
    isplitl [HO]
    · unfold RDat.owesAt Pipeline.owesWithin RDat.bound
      icases HO with ⟨%Wd, HO⟩; iexists Wd; isplitr; · ipureintro; exact fun _ _ => Or.inl trivial
      iexact HO
    isplitr; · iempintro
    isplitl [Hu]; · iexact Hu
    iexact HG
  hin c := by
    show _ ⊢ others0 c
    iintro ⟨-, -, H⟩
    iexact H
  hout c := by
    show others0 c ⊢ _
    rw [Pipeline.ownSems0_none]
    iintro H
    isplitr; · iempintro
    isplitr; · iempintro
    iexact H
  hexit c := by
    show iprop((rdat0 V c).arraysAt cfg0.N ∗ (rdat0 V c).owesAt () (Fin.last cfg0.N) ∗ _ ∗ _) ⊢ _
    iintro ⟨Ha, HO, -, ⟨Hu, HG⟩⟩
    ihave Ha := (arrays0_exit V c) $$ Ha
    icases Ha with ⟨%after, %hL, Ha⟩
    imodintro
    iexists (end0 V c after)
    isplitr; · ipureintro; exact left_end0 V c after hL
    rw [StableHlo.held_sub_split (c.tc : Thread nD τ) arrs0_sub (end0 V c after), ← arrays0_held V c after,
      StableHlo.held_congr (c.tc : Thread nD τ) (S := ucRefs τ sig \ arrRefs spec0) (V := end0 V c after) (V' := V c)
        (Pipeline.afterRegion_off ((rdat0 V c).withAfter after) (V c) (ucRefs τ sig))]
    isplitl [Ha Hu]
    · isplitl [Ha]; · iexact Ha
      iexact Hu
    isplitl [HO]
    · unfold RDat.owesAt Pipeline.owesWithin
      icases HO with ⟨%Wd, -, HO⟩; iexists Wd; iexact HO
    iexact HG

end Cert.KernelIdeal.Main
-- ==== Proof.KernelIdealSeg1.lean ====
/-
  The main call as an item of the program: from the state that the preparation leaves, whatever the packed arrays held before it.
-/
module

public import proofs.«01_k».proof.Proof.KernelIdealSeg0

@[expose] public section

set_option maxRecDepth 16384

noncomputable section

namespace Cert.KernelIdeal.Main

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window Seg HostSeg RegionSeg pin cellsGhost toksInit ucRefs arrRef arrRefs afterRegion)

variable {F : FTy → Type} [FloatOps F]

local notation "𝕄" => MT nD τ sig Unit (Elt F) ℕ UU ℕ

variable (V : Dev nD → Valuation τ sig (Elt F))

/-- The proof data of the two calls where only the main call's are read. -/
abbrev pd1 (W : Valuation τ sig (Elt F)) : (p : Fin 2) → (c : Dev nD) → Dat τ (Elt F) Unit ℕ UU ℕ (cfgs p) c
  | 0, c => (rdat0 V c).withAfter fun _ _ _ => Classical.arbitrary _
  | 1, c => dat1 (fun _ => W) c

theorem share1 (W : Dev nD → Valuation τ sig (Elt F)) (c : Dev nD) (w : Fin cfg1.W) : (dat1 W c).share w = fullShare := by
  unfold Dat.share; split <;> rfl

theorem arrs1_sub : arrRefs (τ := τ) spec1 ⊆ ucRefs τ sig := Pipeline.arrRefs_sub_ucRefs spec1 winFacts1.arr_unscoped

/-- The main call from the buffers at `W`. -/
def R1 (W : Valuation τ sig (Elt F)) : RegionSeg (pcfgs (F := F)) adm (pd1 V W) () (defs₀ (F := F)) Variants.none L0 lv0 1 :=
  RegionSeg.ofHeldIn (pcfgs (F := F)) adm (pd1 V W) () (defs₀ (F := F)) Variants.none L0 lv0 1 (fun _ => 0) (ucRefs τ sig)
    (fun _ => iprop(emp)) (fun _ => iprop(emp)) launch1.toP rfl
    (fun c => (obligation1 (fun _ => W) c).loose) (fun _ _ => rfl) (fun _ => rfl) (fun c => share1 (fun _ => W) c)
    (fun c => by
      refine BIBase.Entails.trans ?_ (enter1 (fun _ => W) c)
      iintro ⟨H, -⟩
      iexact H)
    (fun c => by
      refine (leave1 (fun _ => W) c _).trans ?_
      iintro H
      isplitl [H]; · iexact H
      iempintro)
    (fun _ => 0)
    { hι := fun c w s => by simp [L0], hιb := fun _ _ _ => le_rfl, hD := fun c g i h => absurd h (lt_irrefl 0) }
    (fun _ => iprop(emp)) (fun _ => W) (fun _ _ => rfl)

/-- What the main call is entered with. -/
theorem R1_pre (W : Valuation τ sig (Elt F)) (c : Dev nD) :
    iprop(StableHlo.held (c.tc : Thread nD τ) (ucRefs τ sig) W ∗ ∃ Wd, owes (c : Thread nD τ) (0 : CellTallies nD τ sig Unit) Wd)
      ⊢ (R1 V W).pre c := by
  show _ ⊢ iprop(StableHlo.held (c.tc : Thread nD τ) (arrRefs spec1) W ∗ emp
    ∗ (StableHlo.held (c.tc : Thread nD τ) (ucRefs τ sig \ arrRefs spec1) W ∗ emp)
    ∗ ∃ Wd, owes (c : Thread nD τ) (0 : CellTallies nD τ sig Unit) Wd)
  rw [StableHlo.held_sub_split (c.tc : Thread nD τ) arrs1_sub W]
  iintro ⟨⟨Ha, Hu⟩, HO⟩
  isplitl [Ha]; · iexact Ha
  isplitr; · iempintro
  isplitl [Hu]
  · isplitl [Hu]; · iexact Hu
    iempintro
  iexact HO

/-- What the main call is left with. -/
theorem R1_post (W : Valuation τ sig (Elt F)) (c : Dev nD) :
    (R1 V W).post c ⊢ iprop(StableHlo.held (c.tc : Thread nD τ) (ucRefs τ sig) (afterRegion (dat1 (fun _ => W) c) W)
      ∗ ∃ Wd, owes (c : Thread nD τ) (0 : CellTallies nD τ sig Unit) Wd) := by
  show iprop(StableHlo.held (c.tc : Thread nD τ) (arrRefs spec1) (afterRegion (dat1 (fun _ => W) c) W) ∗ emp
    ∗ (StableHlo.held (c.tc : Thread nD τ) (ucRefs τ sig \ arrRefs spec1) W ∗ emp)
    ∗ ∃ Wd, owes (c : Thread nD τ) (0 : CellTallies nD τ sig Unit) Wd) ⊢ _
  rw [StableHlo.held_sub_split (c.tc : Thread nD τ) arrs1_sub (afterRegion (dat1 (fun _ => W) c) W),
    StableHlo.held_congr (c.tc : Thread nD τ) (S := ucRefs τ sig \ arrRefs spec1) (V := afterRegion (dat1 (fun _ => W) c) W) (V' := W)
      (Pipeline.afterRegion_off (dat1 (fun _ => W) c) W (ucRefs τ sig))]
  iintro ⟨Ha, -, ⟨Hu, -⟩, HO⟩
  isplitl [Ha Hu]
  · isplitl [Ha]; · iexact Ha
    iexact Hu
  iexact HO

attribute [local irreducible] R1

/-- The state at the end. -/
abbrev final (c : Dev nD) : sProp 𝕄 :=
  iprop(∃ W : Valuation τ sig (Elt F), ⌜Left (V c) W⌝ ∗ StableHlo.held (c.tc : Thread nD τ) (ucRefs τ sig) (afterRegion (dat1 (fun _ => W) c) W))

/-- The main call as an item of the program. -/
def H1 : HostSeg (Ix := Unit) (Name := ℕ) (U := UU) (Lvl := ℕ) (pcfgs (F := F)) (defs₀ (F := F)) Variants.none L0 lv0 where
  prog := Prog.lift (.customCall (Pipeline.entry 1) ())
  pre c := mid V c
  post c := iprop(final V c ∗ ∃ Wd, owes (c : Thread nD τ) (0 : CellTallies nD τ sig Unit) Wd)
  run c {β} k K := by
    iintro ⟨Hk, Hbd, ⟨%W, %hL, Hh, HO, Hg, Ht⟩, Hla⟩
    have h := RegionSeg.wp (pcfgs (F := F)) adm (pd1 V W) () cellOf_inj (embR : Emb (UR sig nD τ) 𝕄) (defs₀ (F := F)) Variants.none L0 lv0 (R1 V W) c none (by simp) k K
    iapply h
    isplitl [Hk]
    · iintro ⟨Hbd, Hp⟩
      iapply Hk
      isplitl [Hbd]; · iexact Hbd
      ihave Hp := (R1_post V W c) $$ Hp
      icases Hp with ⟨Hh, HO⟩
      isplitl [Hh]
      · iexists W
        isplitr; · ipureintro; exact hL
        iexact Hh
      iexact HO
    isplitl [Hbd]; · iexact Hbd
    isplitl [Hh HO]
    · iapply (R1_pre V W c)
      isplitl [Hh]; · iexact Hh
      iexact HO
    isplitl [Hla]; · iexact Hla
    isplitl [Hg]; · iexact Hg
    iexact Ht

end Cert.KernelIdeal.Main
-- ==== Proof.KernelIdealRun.lean ====
/-
  The run of the program: every argument ends as launched, every semaphore at zero, and the three results hold what the
  second layer computes from the packed arrays.
-/
module

public import proofs.«01_k».proof.Proof.KernelIdealSeg1

@[expose] public section

set_option maxRecDepth 16384

noncomputable section

namespace Cert.KernelIdeal.Main

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window Seg HostSeg RegionSeg pin cellsGhost toksInit ucRefs arrRef arrRefs afterRegion)

variable {F : FTy → Type} [FloatOps F]

local notation "𝕄" => MT nD τ sig Unit (Elt F) ℕ UU ℕ

/-- The arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23]

variable (m : (ℓ : Loc nD τ sig) → Buf (Elt F) ℓ)

/-- What a core's memory holds at the end. -/
def Ends (c : Dev nD) (s : MemSt nD τ sig (Elt F)) : Prop :=
  (∀ r ∈ argRefs, s.mem ((c.tc : Thread nD τ).loc r) = m ((c.tc : Thread nD τ).loc r))
    ∧ ∃ W : Valuation τ sig (Elt F), Left (V1 m c) W
      ∧ s.mem ((c.tc : Thread nD τ).loc main_v7_0) = out10 (inp W) (last (inp W))
      ∧ s.mem ((c.tc : Thread nD τ).loc main_v7_1) = out11 (inp W) (last (inp W))
      ∧ s.mem ((c.tc : Thread nD τ).loc main_v7_2) = out12 (inp W) (last (inp W))

/-- The arguments and results are unscoped buffers. -/
theorem read_sub : ∀ r ∈ argRefs ++ [main_v7_0, main_v7_1, main_v7_2], Proc.devRef .tc r ∈ ucRefs τ sig := fun r hr =>
  Finset.mem_filter.mpr ⟨StableHlo.devRef_mem_tcRefs r, (by decide +kernel : ∀ r ∈ argRefs ++ [main_v7_0, main_v7_1, main_v7_2], ¬ (Proc.devRef (τ := τ) .tc r).isScoped = true) r hr⟩

/-- What the last state of the buffers says of the memory. -/
theorem ends_of (c : Dev nD) (s : MemSt nD τ sig (Elt F)) (W : Valuation τ sig (Elt F)) (hL : Left (V1 m c) W)
    (h : ∀ b ∈ ucRefs τ sig, s.mem ((c : Thread nD τ).1, b) = afterRegion (dat1 (fun _ => W) c) W b) : Ends m c s := by
  have hinj := winFacts1.arr_inj
  refine ⟨fun r hr => ?_, W, hL, ?_, ?_, ?_⟩
  · refine (h _ (read_sub r (List.mem_append_left _ hr))).trans ?_
    refine (Pipeline.afterRegion_keeps (dat1 (fun _ => W) c) W hinj (fun _ => rfl) r fun w e => ?_).trans ?_
    · subst e
      exact (by decide +kernel : ∀ w : Fin 9, arrRef spec1 w ∈ argRefs → (spec1 w).isOut = false) w hr
    refine (hL.1 r ?_).trans ((V1_of m c r ?_).trans rfl)
    · exact (by decide +kernel : ∀ r ∈ argRefs, r ∉ ([main_v6_0, main_v6_1, main_v6_2, main_v6_3] : List (Ref sig .tc))) r hr
    · exact (by decide +kernel : ∀ r ∈ argRefs, r ∉ hostOps0_W) r hr
  · exact (h _ (read_sub main_v7_0 (by decide +kernel))).trans ((Pipeline.afterRegion_arr (dat1 (fun _ => W) c) W hinj 6).trans (result1_6 (fun _ => W) c))
  · exact (h _ (read_sub main_v7_1 (by decide +kernel))).trans ((Pipeline.afterRegion_arr (dat1 (fun _ => W) c) W hinj 7).trans (result1_7 (fun _ => W) c))
  · exact (h _ (read_sub main_v7_2 (by decide +kernel))).trans ((Pipeline.afterRegion_arr (dat1 (fun _ => W) c) W hinj 8).trans (result1_8 (fun _ => W) c))

/-- The program's items. -/
abbrev items : List (RDat.Seg (pcfgs (F := F)) adm (rd0 (V1 m)) () (defs₀ (F := F)) Variants.none L0 lv0) :=
  [.host (seg0 m Variants.none L0 lv0 (fun _ => carried (F := F))), .region (R0 (V1 m)), .host (H1 (V1 m))]

/-- One copy of the rounds at the launch. -/
abbrev rounds0 : UR sig nD τ :=
  initOf (Pipeline.cells (pin (pcfgs (F := F)) adm) cellOf_inj) (Pipeline.launchToks (pin (pcfgs (F := F)) adm) cellOf_inj)

/-- The launch's ghost state: one copy of the rounds for each call. -/
abbrev u0 : UU := (rounds0 (F := F), rounds0 (F := F))

/-- The ghost state dealt: the first copy to the preparation, the second to the main call. -/
theorem deal : (ownU (u0 (F := F)) : sProp 𝕄)
    ⊢ |={Set.univ}=> iprop(BI.own ((embL : Emb (UR sig nD τ) 𝕄) (rounds0 (F := F)))
      ∗ bigSep Finset.univ fun c : Dev nD => ghost1 (F := F) c) := by
  iintro H
  ihave H := (ownU_pair _ _) $$ H
  icases H with ⟨HL, HR⟩
  imod (Pipeline.fund_ghost (pin (pcfgs (F := F)) adm) (embR : Emb (UR sig nD τ) 𝕄) cellOf_inj) $$ HR with ⟨Hg, Ht⟩
  imodintro
  isplitl [HL]; · iexact HL
  rw [bigSep_sep']
  isplitl [Hg]
  · have e : (bigSep Finset.univ fun c : Dev nD => bigSep Finset.univ fun p => (cellsGhost (pin (pcfgs (F := F)) adm) (embR : Emb (UR sig nD τ) 𝕄) p c : sProp 𝕄))
        ⊢ bigSep Finset.univ fun c : Dev nD => cellsGhost (pin (pcfgs (F := F)) adm) (embR : Emb (UR sig nD τ) 𝕄) 1 c :=
      bigSep_mono fun c _ => bigSep_elim (Finset.mem_univ (1 : Fin 2))
    iapply e; iexact Hg
  · have e : (bigSep Finset.univ fun c : Dev nD => bigSep Finset.univ fun p => (toksInit (pin (pcfgs (F := F)) adm) (embR : Emb (UR sig nD τ) 𝕄) p c : sProp 𝕄))
        ⊢ bigSep Finset.univ fun c : Dev nD => toksInit (pin (pcfgs (F := F)) adm) (embR : Emb (UR sig nD τ) 𝕄) 1 c :=
      bigSep_mono fun c _ => bigSep_elim (Finset.mem_univ (1 : Fin 2))
    iapply e; iexact Ht

set_option backward.isDefEq.respectTransparency.types false in
/-- THE RUN. From any memory with every semaphore at zero, every weakly fair execution ends, at memory as `Ends` says on each core
    and with every semaphore at zero. -/
theorem run (ρ : Dev nD → PrngReg) :
    θ_run defs (onTc (τ := τ) (main (F := F))) ⟨m, fun _ => 0, ρ⟩ (fun r => (∀ c : Dev nD, Ends m c r.2) ∧ r.2.sem = fun _ => 0) := by
  refine Pipeline.RDat.θ_run_regions_kit_dev_sems (pcfgs (F := F)) adm (rd0 (V1 m)) () cellOf_inj (embL : Emb (UR sig nD τ) 𝕄) (defs₀ (F := F)) Variants.none L0 lv0 m ρ main
    (fun _ => items m)
    (fun c Q => by
      rewrite [main_chain c, RDat.Seg.run_eq_chain,
        show (items m).map RDat.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [items, RDat.Seg.pipes_host, RDat.Seg.pipes_region, RDat.Seg.pipes_nil]; decide) (fun _ => 0) (fun g hg => if_neg hg)
    (fun c => ghost1 (F := F) c) (u0 (F := F)) deal
    (T₀ := fun c => iprop(StableHlo.held (c : Thread nD τ) (ucRefs τ sig) (V0 m c) ∗ carried (F := F) c))
    (Tₙ := fun c => final (V1 m) c)
    (hch := fun c => ⟨.rfl, .rfl, .rfl, .rfl⟩)
    (hinit := ?_) (QY := Ends m)
    (hfin := fun c s' => ?_) (hQ := fun _ h hz => ⟨h, funext fun g => hz g (.inr (regions_no_unscoped g.2))⟩)
  · have one : ∀ c : Dev nD, (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ ghost1 (F := F) c) : sProp 𝕄)
        ⊢ iprop(StableHlo.held (c : Thread nD τ) (ucRefs τ sig) (V0 m c) ∗ carried (F := F) c) := fun c => by
      rw [← Pipeline.unscopedBufs_held (Ix := Unit) (Name := ℕ) (U := UU) (Lvl := ℕ) c (V0 m c)]
      iintro ⟨Hb, -, HO, -, -, HG⟩
      isplitl [Hb]; · iexact Hb
      isplitl [HO]; · iexists ∅; iexact HO
      iexact HG
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ ghost1 (F := F) c) : sProp 𝕄)
        ⊢ bigSep Finset.univ fun c : Dev nD => iprop(StableHlo.held (c : Thread nD τ) (ucRefs τ sig) (V0 m c) ∗ carried (F := F) c) :=
      bigSep_mono fun c _ => one c
    iintro ⟨H, -⟩
    imodintro
    iapply hsplit
    iexact H
  · unfold final StableHlo.held
    iintro ⟨⟨%W, %hL, Hh⟩, HSI⟩
    ihave Hr := (pointsTo_read_all (ucRefs τ sig) (fun b => ((c : Thread nD τ).1, b)) (afterRegion (dat1 (fun _ => W) c) W) s') $$ [Hh HSI]
    · isplitl [Hh] <;> iassumption
    icases Hr with ⟨%h, HSI⟩
    imodintro
    isplitr
    · ipureintro
      exact ends_of m c s'.mem W hL h
    · iexact HSI

/-- What holds of every argument's buffer, argument by argument. -/
theorem all_args {P : Ref sig .tc → Prop} (h : ∀ r ∈ argRefs, P r) :
    P main_arg0 ∧ P main_arg1 ∧ P main_arg2 ∧ P main_arg3 ∧ P main_arg4 ∧ P main_arg5 ∧ P main_arg6 ∧ P main_arg7 ∧ P main_arg8 ∧ P main_arg9 ∧ P main_arg10 ∧ P main_arg11 ∧ P main_arg12 ∧ P main_arg13 ∧ P main_arg14 ∧ P main_arg15 ∧ P main_arg16 ∧ P main_arg17 ∧ P main_arg18 ∧ P main_arg19 ∧ P main_arg20 ∧ P main_arg21 ∧ P main_arg22 ∧ P main_arg23 :=
  ⟨h main_arg0 (by decide), h main_arg1 (by decide), h main_arg2 (by decide), h main_arg3 (by decide), h main_arg4 (by decide), h main_arg5 (by decide), h main_arg6 (by decide), h main_arg7 (by decide), h main_arg8 (by decide), h main_arg9 (by decide), h main_arg10 (by decide), h main_arg11 (by decide), h main_arg12 (by decide), h main_arg13 (by decide), h main_arg14 (by decide), h main_arg15 (by decide), h main_arg16 (by decide), h main_arg17 (by decide), h main_arg18 (by decide), h main_arg19 (by decide), h main_arg20 (by decide), h main_arg21 (by decide), h main_arg22 (by decide), h main_arg23 (by decide)⟩

end Cert.KernelIdeal.Main
-- ==== Proof.RealMat.lean ====
/-
  Arrays of extended reals that hold the entries of a real matrix, and what the operations of the two programs make of them:
  products, sums, transposes, slices and casts of such arrays hold the matching real matrices.
-/
module

public import Idealize.ShloMosaic.PureOps.Ideal.Laws
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.Pointwise
public import Idealize.ShloMosaic.Lib.VecWindow
public import Mathlib.Data.Matrix.Mul

@[expose] public section

noncomputable section

namespace Cert.RealMat

open Idealize.ShloMosaic hiding ix1 ix2 ix3 ix4 eq_ix2
open Idealize.ShloMosaic.ValueIdx
open scoped BigOperators

/-- A real matrix. -/
abbrev Mat (n m : ℕ) : Type := Matrix (Fin n) (Fin m) ℝ

/-- The array holds the entries of the real matrix. -/
def Is {n m : ℕ} {φ : FTy} (x : FVec Ideal ⟨2, ![n, m]⟩ φ) (M : Mat n m) : Prop := ∀ i j, x (ix2 i j) = ((M i j : ℝ) : EReal)

/-- The array holds the entries of the real vector. -/
def Is1 {n : ℕ} {φ : FTy} (x : FVec Ideal ⟨1, ![n]⟩ φ) (v : Fin n → ℝ) : Prop := ∀ i, x (ix1 i) = ((v i : ℝ) : EReal)

/-- The array holds a stack of real matrices. -/
def Is3 {k n m : ℕ} {φ : FTy} (x : FVec Ideal ⟨3, ![k, n, m]⟩ φ) (M : Fin k → Mat n m) : Prop := ∀ l i j, x (ix3 l i j) = ((M l i j : ℝ) : EReal)

/-- The array holds a stack of stacks of real matrices. -/
def Is4 {k r n m : ℕ} {φ : FTy} (x : FVec Ideal ⟨4, ![k, r, n, m]⟩ φ) (M : Fin k → Fin r → Mat n m) : Prop :=
  ∀ l q i j, x (ix4 l q i j) = ((M l q i j : ℝ) : EReal)

variable {n m k p : ℕ} {φ ψ χ : FTy}

/-- Two arrays that hold one matrix are one array. -/
theorem Is.ext {x y : FVec Ideal ⟨2, ![n, m]⟩ φ} {M N : Mat n m} (hx : Is x M) (hy : Is y N) (h : M = N) : x = y := by
  subst h
  funext i
  rw [eq_ix2 i]
  exact (hx (i 0) (i 1)).trans (hy (i 0) (i 1)).symm

/-- The matrix held may be replaced by an equal one. -/
theorem Is.of_eq {x : FVec Ideal ⟨2, ![n, m]⟩ φ} {M N : Mat n m} (hx : Is x M) (h : M = N) : Is x N := h ▸ hx

/-- A finite sum of reals among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The zero splat. -/
theorem Is.zero : Is (constant (F := Ideal) ⟨2, ![n, m]⟩ .f32 0x00000000#32) 0 := fun _ _ => by
  show Ideal.ofBits .f32 0x00000000#32 = _
  rw [Ideal.ofBits_zero_f32]; rfl

/-- Sums of arrays hold sums of matrices. -/
theorem Is.add {x y : FVec Ideal ⟨2, ![n, m]⟩ φ} {A B : Mat n m} (hx : Is x A) (hy : Is y B) : Is (addf x y) (A + B) := fun i j => by
  show x (ix2 i j) + y (ix2 i j) = _
  rw [hx, hy]; exact (EReal.coe_add _ _).symm

/-- Products of arrays hold entrywise products. -/
theorem Is.mul {x y : FVec Ideal ⟨2, ![n, m]⟩ φ} {A B : Mat n m} (hx : Is x A) (hy : Is y B) :
    Is (mulf x y) (Matrix.of fun i j => A i j * B i j) := fun i j => by
  show x (ix2 i j) * y (ix2 i j) = _
  rw [hx, hy]; exact (EReal.coe_mul _ _).symm

/-- Differences of arrays hold differences of matrices. -/
theorem Is.sub {x y : FVec Ideal ⟨2, ![n, m]⟩ φ} {A B : Mat n m} (hx : Is x A) (hy : Is y B) : Is (subf x y) (A - B) := fun i j => by
  show x (ix2 i j) - y (ix2 i j) = _
  rw [hx, hy]; exact (EReal.coe_sub _ _).symm

/-- Exponentials of arrays hold entrywise exponentials. -/
theorem Is.exp {x : FVec Ideal ⟨2, ![n, m]⟩ φ} {A : Mat n m} (hx : Is x A) :
    Is (Idealize.ShloMosaic.exp x) (Matrix.of fun i j => Real.exp (A i j)) := fun i j => by
  show Ideal.exp (x (ix2 i j)) = _
  rw [hx]; rfl

/-- A cast between float formats keeps every entry. -/
theorem Is.trunc {x : FVec Ideal ⟨2, ![n, m]⟩ φ} {A : Mat n m} (h : ψ.bits < φ.bits) (hx : Is x A) : Is (truncf ψ x h) A := hx

/-- A cast to the same shape holds the same matrix. -/
theorem Is.cast {x : FVec Ideal ⟨2, ![n, m]⟩ φ} {A : Mat n m} (h : (⟨2, ![n, m]⟩ : Shape).ShapeCasts ⟨2, ![n, m]⟩) (hx : Is x A) :
    Is (φ := φ) (shapeCast ⟨2, ![n, m]⟩ x h) A := fun i j => (shapeCast_apply x h _ _ rfl).trans (hx i j)

/-- A transposed array holds the transposed matrix. -/
theorem Is.transpose {x : FVec Ideal ⟨2, ![n, m]⟩ φ} {A : Mat n m} (h : (⟨2, ![n, m]⟩ : Shape).Transposes [1, 0] ⟨2, ![m, n]⟩) (hx : Is x A) :
    Is (φ := φ) (Idealize.ShloMosaic.transpose ⟨2, ![m, n]⟩ [1, 0] x h) A.transpose := fun i j =>
  (transpose_ix2_apply x h i j).trans (hx j i)

/-- A row repeated down an array holds that row in every row. -/
theorem Is.row {x : FVec Ideal ⟨2, ![1, m]⟩ φ} {A : Mat 1 m} (h : (⟨2, ![1, m]⟩ : Shape).Broadcasts ⟨2, ![n, m]⟩) (hx : Is x A) :
    Is (φ := φ) (broadcastTo ⟨2, ![n, m]⟩ x h) (Matrix.of fun _ j => A 0 j) := fun i j =>
  (broadcastTo_1b_ab_apply x h i j).trans (hx 0 j)

/-- A plain product onto a zero accumulator. -/
theorem Is.nn {x : FVec Ideal ⟨2, ![n, k]⟩ φ} {y : FVec Ideal ⟨2, ![k, m]⟩ ψ} {A : Mat n k} {B : Mat k m}
    (d : DotDims ⟨2, ![n, k]⟩ ⟨2, ![k, m]⟩ ⟨2, ![n, m]⟩) (hd : d = DotDims.plain n k m) {prec : Option ContractPrecision}
    {z : FVec Ideal ⟨2, ![n, m]⟩ .f32} (hz : Is z 0)
    (hx : Is x A) (hy : Is y B) : Is (matmul d prec x y z) (A * B) := fun i j => by
  subst hd
  refine (Ideal.matmul_plain_apply prec x y z i j).trans ?_
  rw [hz i j, Matrix.mul_apply, coe_sum]
  show (0 : EReal) + _ = _
  rw [zero_add]
  exact Finset.sum_congr rfl fun q _ => by rw [hx, hy]; exact (EReal.coe_mul _ _).symm

/-- A plain product on the host. -/
theorem Is.dot {x : FVec Ideal ⟨2, ![n, k]⟩ φ} {y : FVec Ideal ⟨2, ![k, m]⟩ ψ} {A : Mat n k} {B : Mat k m}
    (d : DotDims ⟨2, ![n, k]⟩ ⟨2, ![k, m]⟩ ⟨2, ![n, m]⟩) (hd : d = DotDims.plain n k m) {prec : Option ContractPrecision}
    (hx : Is x A) (hy : Is y B) : Is (Host.dotGeneral d prec x y) (A * B) := fun i j => by
  have h := Is.nn d hd (prec := prec) Is.zero hx hy i j
  refine Eq.trans ?_ h
  show FloatOps.dotGeneral d prec .single x y (ix2 i j) = FloatOps.matmul d prec x y _ (ix2 i j)
  rw [Ideal.dotGeneral_apply, Ideal.matmul_apply, Is.zero i j]
  exact (zero_add _).symm

/-- The dimension numbers of a product whose left operand is contracted on its rows. -/
def tnDims (w : DotDims.WF ⟨2, ![k, n]⟩ ⟨2, ![k, m]⟩ ⟨2, ![n, m]⟩ [0] [0] [1] [1] [] []) : DotDims ⟨2, ![k, n]⟩ ⟨2, ![k, m]⟩ ⟨2, ![n, m]⟩ :=
  ⟨[0], [0], [1], [1], [], [], w⟩

/-- A product whose left operand is contracted on its rows, onto a zero accumulator. -/
theorem Is.tn {x : FVec Ideal ⟨2, ![k, n]⟩ φ} {y : FVec Ideal ⟨2, ![k, m]⟩ ψ} {A : Mat k n} {B : Mat k m}
    (d : DotDims ⟨2, ![k, n]⟩ ⟨2, ![k, m]⟩ ⟨2, ![n, m]⟩) (w : DotDims.WF ⟨2, ![k, n]⟩ ⟨2, ![k, m]⟩ ⟨2, ![n, m]⟩ [0] [0] [1] [1] [] [])
    (hd : d = tnDims w) {prec : Option ContractPrecision} {z : FVec Ideal ⟨2, ![n, m]⟩ .f32} (hz : Is z 0)
    (hx : Is x A) (hy : Is y B) : Is (matmul d prec x y z) (A.transpose * B) := fun i j => by
  subst hd
  have hr : (tnDims w).contr.rank = 1 := rfl
  have hs : (tnDims w).contr.size ⟨0, by rw [hr]; exact Nat.one_pos⟩ = k := rfl
  refine (Ideal.matmul_apply (tnDims w) prec x y z (ix2 i j)).trans ?_
  rw [hz i j, ← Equiv.sum_comp (contrEquiv1 _ k hr hs).symm, Matrix.mul_apply, coe_sum]
  show (0 : EReal) + _ = _
  rw [zero_add]
  refine Finset.sum_congr rfl fun q _ => ?_
  have hk := contrEquiv1_symm_val _ k hr hs q
  have el : (tnDims w).lhsIdx (ix2 i j) ((contrEquiv1 _ k hr hs).symm q) = ix2 q i := by
    funext a; apply Fin.ext
    match a with
    | ⟨0, _⟩ => exact hk
    | ⟨1, _⟩ => rfl
  have er : (tnDims w).rhsIdx (ix2 i j) ((contrEquiv1 _ k hr hs).symm q) = ix2 q j := by
    funext a; apply Fin.ext
    match a with
    | ⟨0, _⟩ => exact hk
    | ⟨1, _⟩ => rfl
  rw [el, er, hx, hy, Matrix.transpose_apply]
  exact (EReal.coe_mul _ _).symm

/-- A product summed over the tiles of its contracted axis. -/
theorem tiles_mul (a b : ℕ) (hk : a * b = k) (h0 : 0 < k) (A : Mat n k) (B : Mat k m) :
    (∑ q ∈ Finset.range a, (Matrix.of fun i (c : Fin b) => A i ⟨(b * q + c.val) % k, Nat.mod_lt _ h0⟩) * (Matrix.of fun (c : Fin b) j => B ⟨(b * q + c.val) % k, Nat.mod_lt _ h0⟩ j))
      = A * B := by
  subst hk
  ext i j
  rw [Matrix.sum_apply, Matrix.mul_apply, ← Equiv.sum_comp finProdFinEquiv, Fintype.sum_prod_type, Finset.sum_range]
  refine Finset.sum_congr rfl fun q _ => ?_
  rw [Matrix.mul_apply]
  refine Finset.sum_congr rfl fun c _ => ?_
  have e : (⟨(b * q.val + c.val) % (a * b), Nat.mod_lt _ h0⟩ : Fin (a * b)) = finProdFinEquiv (q, c) := by
    apply Fin.ext
    show (b * q.val + c.val) % (a * b) = c.val + b * q.val
    have hlt : c.val + b * q.val < a * b := (finProdFinEquiv (q, c)).isLt
    rw [Nat.add_comm, Nat.mod_eq_of_lt hlt]
  show A i _ * B _ j = _
  rw [e]

end Cert.RealMat
-- ==== Proof.RealNet.lean ====
/-
  The network over the reals: the spectral filter in the two orders in which the programs multiply, and one layer of the three
  ranks.
-/
module

public import proofs.«01_k».proof.Proof.RealMat
public import Mathlib.Analysis.SpecialFunctions.Exp

@[expose] public section

noncomputable section

namespace Cert.RealMat

/-- The three ranks' features. -/
structure Feats where
  h0 : Mat 2048 128
  h1 : Mat 6144 128
  h2 : Mat 4096 128

/-- The arguments as real matrices and vectors. -/
structure Par where
  X0 : Mat 2048 128
  X1 : Mat 6144 128
  X2 : Mat 4096 128
  l0 : Fin 128 → ℝ
  U0 : Mat 2048 128
  l1 : Fin 128 → ℝ
  U1 : Mat 6144 128
  l2 : Fin 128 → ℝ
  U2 : Mat 4096 128
  B1 : Mat 2048 6144
  B2 : Mat 6144 4096
  I0 : Mat 128 128
  c0 : Fin 128 → ℝ
  I1 : Mat 128 128
  c1 : Fin 128 → ℝ
  I2 : Mat 128 128
  c2 : Fin 128 → ℝ
  S0 : Fin 2 → Fin 3 → Mat 128 128
  S1 : Fin 2 → Fin 3 → Mat 128 128
  S2 : Fin 2 → Fin 3 → Mat 128 128
  W01 : Fin 2 → Mat 128 128
  W10 : Fin 2 → Mat 128 128
  W12 : Fin 2 → Mat 128 128
  W21 : Fin 2 → Mat 128 128

/-- Entry `(i, j)` scaled by `s i j`. -/
abbrev had {n m : ℕ} (s x : Mat n m) : Mat n m := Matrix.of fun i j => s i j * x i j

/-- The exponential filter of order `r`, as rows of scales. -/
def filt (r : ℝ) (l : Fin 128 → ℝ) : Mat 128 128 := Matrix.of fun i _ => Real.exp (r * l i)

/-- A row vector under every row. -/
def rows (n : ℕ) (c : Fin 128 → ℝ) : Mat n 128 := Matrix.of fun _ j => c j

/-- The spectral convolution, the three filtered products summed at the end. -/
def spec {n : ℕ} (l : Fin 128 → ℝ) (U h : Mat n 128) (W : Fin 3 → Mat 128 128) : Mat n 128 :=
  U * had (filt 0 l) (U.transpose * h) * W 0 + U * had (filt (-1) l) (U.transpose * h) * W 1 + U * had (filt (-2) l) (U.transpose * h) * W 2

/-- The same with the weights applied in the spectral domain and one product back. -/
def fused {n : ℕ} (l : Fin 128 → ℝ) (U h : Mat n 128) (W : Fin 3 → Mat 128 128) : Mat n 128 :=
  U * (U.transpose * h * W 0 + had (filt (-1) l) (U.transpose * h) * W 1 + had (filt (-2) l) (U.transpose * h) * W 2)

/-- The filter of order zero is the identity. -/
theorem had_filt_zero (l : Fin 128 → ℝ) (x : Mat 128 128) : had (filt 0 l) x = x := by
  ext i j
  simp [filt]

/-- The two orders agree. -/
theorem fused_eq {n : ℕ} (l : Fin 128 → ℝ) (U h : Mat n 128) (W : Fin 3 → Mat 128 128) : fused l U h W = spec l U h W := by
  unfold fused spec
  rw [had_filt_zero, Matrix.mul_add, Matrix.mul_add]
  simp only [Matrix.mul_assoc]

/-- The projected features. -/
def proj (P : Par) : Feats := ⟨P.X0 * P.I0 + rows _ P.c0, P.X1 * P.I1 + rows _ P.c1, P.X2 * P.I2 + rows _ P.c2⟩

/-- One layer. -/
def layer (P : Par) (q : Fin 2) (f : Feats) : Feats :=
  ⟨spec P.l0 P.U0 f.h0 (P.S0 q) + P.B1 * f.h1 * P.W01 q,
   spec P.l1 P.U1 f.h1 (P.S1 q) + P.B1.transpose * f.h0 * P.W10 q + P.B2 * f.h2 * P.W12 q,
   spec P.l2 P.U2 f.h2 (P.S2 q) + P.B2.transpose * f.h1 * P.W21 q⟩

end Cert.RealMat
-- ==== Proof.KernelReal.lean ====
/-
  The main call over the reals: from packed arrays that hold real matrices its layers compute the network's layers.
-/
module

public import proofs.«01_k».proof.Proof.KernelIdealLayers
public import proofs.«01_k».proof.Proof.RealNet

@[expose] public section

set_option maxRecDepth 16384

noncomputable section

namespace Cert.KernelIdeal.Main

open Cert.KernelIdeal Cert.KernelIdeal.Gen
open Idealize.ShloMosaic hiding ix1 ix2 ix3 ix4 eq_ix2
open Idealize.ShloMosaic.ValueIdx
open Cert.RealMat

/-- Rank zero: the fused spectral convolution plus the neighbours' term. -/
theorem pay29_is {u h : Vec Ideal S2048x128 .bf16} {w0 w1 w2 w : Vec Ideal S128x128 .bf16} {s1 s2 : Vec Ideal S128x128 .f32} {a : Vec Ideal S2048x128 .f32}
    {U H : Mat 2048 128} {l : Fin 128 → ℝ} {W : Fin 3 → Mat 128 128} {A : Mat 2048 128} {V : Mat 128 128}
    (hu : Is (φ := .bf16) u U) (hh : Is (φ := .bf16) h H) (hw0 : Is (φ := .bf16) w0 (W 0)) (hs1 : Is (φ := .f32) s1 (filt (-1) l)) (hw1 : Is (φ := .bf16) w1 (W 1)) (hs2 : Is (φ := .f32) s2 (filt (-2) l))
    (hw2 : Is (φ := .bf16) w2 (W 2)) (ha : Is (φ := .f32) a A) (hw : Is (φ := .bf16) w V) :
    Is (k1_pay29 u h w0 s1 w1 s2 w2 a w) (fused l U H W + A * V) := by
  unfold k1_pay29
  dsimp only
  have xt := Is.tn dot_S2048x128_S2048x128_S128x128_0_0_1_1_n_n dot_S2048x128_S2048x128_S128x128_0_0_1_1_n_n_wf rfl (prec := none) Is.zero (Is.cast shapeCasts_S2048x128_S2048x128 hu) hh
  exact Is.add (Is.nn _ rfl Is.zero (Is.cast _ hu) (Is.trunc _ (Is.add (Is.add (Is.nn _ rfl Is.zero (Is.trunc _ xt) (Is.cast _ hw0))
    (Is.nn _ rfl Is.zero (Is.trunc _ (Is.mul (Is.cast _ hs1) xt)) (Is.cast _ hw1))) (Is.nn _ rfl Is.zero (Is.trunc _ (Is.mul (Is.cast _ hs2) xt)) (Is.cast _ hw2)))))
    (Is.nn _ rfl Is.zero (Is.trunc _ ha) (Is.cast _ hw))

/-- Rank zero: the fused spectral convolution plus the neighbours' term. -/
theorem pay37_is {u h : Vec Ideal S2048x128 .bf16} {w0 w1 w2 w : Vec Ideal S128x128 .bf16} {s1 s2 : Vec Ideal S128x128 .f32} {a : Vec Ideal S2048x128 .f32}
    {U H : Mat 2048 128} {l : Fin 128 → ℝ} {W : Fin 3 → Mat 128 128} {A : Mat 2048 128} {V : Mat 128 128}
    (hu : Is (φ := .bf16) u U) (hh : Is (φ := .bf16) h H) (hw0 : Is (φ := .bf16) w0 (W 0)) (hs1 : Is (φ := .f32) s1 (filt (-1) l)) (hw1 : Is (φ := .bf16) w1 (W 1)) (hs2 : Is (φ := .f32) s2 (filt (-2) l))
    (hw2 : Is (φ := .bf16) w2 (W 2)) (ha : Is (φ := .f32) a A) (hw : Is (φ := .bf16) w V) :
    Is (k1_pay37 u h w0 s1 w1 s2 w2 a w) (fused l U H W + A * V) := by
  unfold k1_pay37
  dsimp only
  have xt := Is.tn dot_S2048x128_S2048x128_S128x128_0_0_1_1_n_n dot_S2048x128_S2048x128_S128x128_0_0_1_1_n_n_wf rfl (prec := none) Is.zero (Is.cast shapeCasts_S2048x128_S2048x128 hu) hh
  exact Is.add (Is.nn _ rfl Is.zero (Is.cast _ hu) (Is.trunc _ (Is.add (Is.add (Is.nn _ rfl Is.zero (Is.trunc _ xt) (Is.cast _ hw0))
    (Is.nn _ rfl Is.zero (Is.trunc _ (Is.mul (Is.cast _ hs1) xt)) (Is.cast _ hw1))) (Is.nn _ rfl Is.zero (Is.trunc _ (Is.mul (Is.cast _ hs2) xt)) (Is.cast _ hw2)))))
    (Is.nn _ rfl Is.zero (Is.trunc _ ha) (Is.cast _ hw))

/-- Rank one: the fused spectral convolution plus the lower neighbours' term, from its transposed product. -/
theorem pay31_is {u h : Vec Ideal S6144x128 .bf16} {w0 w1 w2 w : Vec Ideal S128x128 .bf16} {s1 s2 : Vec Ideal S128x128 .f32} {a : Vec Ideal S128x6144 .bf16}
    {U H : Mat 6144 128} {l : Fin 128 → ℝ} {W : Fin 3 → Mat 128 128} {A : Mat 128 6144} {V : Mat 128 128}
    (hu : Is (φ := .bf16) u U) (hh : Is (φ := .bf16) h H) (hw0 : Is (φ := .bf16) w0 (W 0)) (hs1 : Is (φ := .f32) s1 (filt (-1) l)) (hw1 : Is (φ := .bf16) w1 (W 1)) (hs2 : Is (φ := .f32) s2 (filt (-2) l))
    (hw2 : Is (φ := .bf16) w2 (W 2)) (ha : Is (φ := .bf16) a A) (hw : Is (φ := .bf16) w V) :
    Is (k1_pay31 u h w0 s1 w1 s2 w2 a w) (fused l U H W + A.transpose * V) := by
  unfold k1_pay31
  dsimp only
  have xt := Is.tn dot_S6144x128_S6144x128_S128x128_0_0_1_1_n_n dot_S6144x128_S6144x128_S128x128_0_0_1_1_n_n_wf rfl (prec := none) Is.zero hu hh
  exact Is.add (Is.nn _ rfl Is.zero hu (Is.trunc _ (Is.add (Is.add (Is.nn _ rfl Is.zero (Is.trunc _ xt) (Is.cast _ hw0))
    (Is.nn _ rfl Is.zero (Is.trunc _ (Is.mul (Is.cast _ hs1) xt)) (Is.cast _ hw1))) (Is.nn _ rfl Is.zero (Is.trunc _ (Is.mul (Is.cast _ hs2) xt)) (Is.cast _ hw2)))))
    (Is.tn _ dot_S128x6144_S128x128_S6144x128_0_0_1_1_n_n_wf rfl Is.zero ha (Is.cast _ hw))

/-- Rank one: the fused spectral convolution plus the lower neighbours' term, from its transposed product. -/
theorem pay39_is {u h : Vec Ideal S6144x128 .bf16} {w0 w1 w2 w : Vec Ideal S128x128 .bf16} {s1 s2 : Vec Ideal S128x128 .f32} {a : Vec Ideal S128x6144 .bf16}
    {U H : Mat 6144 128} {l : Fin 128 → ℝ} {W : Fin 3 → Mat 128 128} {A : Mat 128 6144} {V : Mat 128 128}
    (hu : Is (φ := .bf16) u U) (hh : Is (φ := .bf16) h H) (hw0 : Is (φ := .bf16) w0 (W 0)) (hs1 : Is (φ := .f32) s1 (filt (-1) l)) (hw1 : Is (φ := .bf16) w1 (W 1)) (hs2 : Is (φ := .f32) s2 (filt (-2) l))
    (hw2 : Is (φ := .bf16) w2 (W 2)) (ha : Is (φ := .bf16) a A) (hw : Is (φ := .bf16) w V) :
    Is (k1_pay39 u h w0 s1 w1 s2 w2 a w) (fused l U H W + A.transpose * V) := by
  unfold k1_pay39
  dsimp only
  have xt := Is.tn dot_S6144x128_S6144x128_S128x128_0_0_1_1_n_n dot_S6144x128_S6144x128_S128x128_0_0_1_1_n_n_wf rfl (prec := none) Is.zero hu hh
  exact Is.add (Is.nn _ rfl Is.zero hu (Is.trunc _ (Is.add (Is.add (Is.nn _ rfl Is.zero (Is.trunc _ xt) (Is.cast _ hw0))
    (Is.nn _ rfl Is.zero (Is.trunc _ (Is.mul (Is.cast _ hs1) xt)) (Is.cast _ hw1))) (Is.nn _ rfl Is.zero (Is.trunc _ (Is.mul (Is.cast _ hs2) xt)) (Is.cast _ hw2)))))
    (Is.tn _ dot_S128x6144_S128x128_S6144x128_0_0_1_1_n_n_wf rfl Is.zero ha (Is.cast _ hw))

/-- Rank two: the fused spectral convolution plus the lower neighbours' term, from its transposed product. -/
theorem pay35_is {u h : Vec Ideal S4096x128 .bf16} {w0 w1 w2 w : Vec Ideal S128x128 .bf16} {s1 s2 : Vec Ideal S128x128 .f32} {a : Vec Ideal S128x4096 .bf16}
    {U H : Mat 4096 128} {l : Fin 128 → ℝ} {W : Fin 3 → Mat 128 128} {A : Mat 128 4096} {V : Mat 128 128}
    (hu : Is (φ := .bf16) u U) (hh : Is (φ := .bf16) h H) (hw0 : Is (φ := .bf16) w0 (W 0)) (hs1 : Is (φ := .f32) s1 (filt (-1) l)) (hw1 : Is (φ := .bf16) w1 (W 1)) (hs2 : Is (φ := .f32) s2 (filt (-2) l))
    (hw2 : Is (φ := .bf16) w2 (W 2)) (ha : Is (φ := .bf16) a A) (hw : Is (φ := .bf16) w V) :
    Is (k1_pay35 u h w0 s1 w1 s2 w2 a w) (fused l U H W + A.transpose * V) := by
  unfold k1_pay35
  dsimp only
  have xt := Is.tn dot_S4096x128_S4096x128_S128x128_0_0_1_1_n_n dot_S4096x128_S4096x128_S128x128_0_0_1_1_n_n_wf rfl (prec := none) Is.zero (Is.cast shapeCasts_S4096x128_S4096x128 hu) hh
  exact Is.add (Is.nn _ rfl Is.zero (Is.cast _ hu) (Is.trunc _ (Is.add (Is.add (Is.nn _ rfl Is.zero (Is.trunc _ xt) (Is.cast _ hw0))
    (Is.nn _ rfl Is.zero (Is.trunc _ (Is.mul (Is.cast _ hs1) xt)) (Is.cast _ hw1))) (Is.nn _ rfl Is.zero (Is.trunc _ (Is.mul (Is.cast _ hs2) xt)) (Is.cast _ hw2)))))
    (Is.tn _ dot_S128x4096_S128x128_S4096x128_0_0_1_1_n_n_wf rfl Is.zero ha (Is.cast _ hw))

/-- Rank two: the fused spectral convolution plus the lower neighbours' term, from its transposed product. -/
theorem pay43_is {u h : Vec Ideal S4096x128 .bf16} {w0 w1 w2 w : Vec Ideal S128x128 .bf16} {s1 s2 : Vec Ideal S128x128 .f32} {a : Vec Ideal S128x4096 .bf16}
    {U H : Mat 4096 128} {l : Fin 128 → ℝ} {W : Fin 3 → Mat 128 128} {A : Mat 128 4096} {V : Mat 128 128}
    (hu : Is (φ := .bf16) u U) (hh : Is (φ := .bf16) h H) (hw0 : Is (φ := .bf16) w0 (W 0)) (hs1 : Is (φ := .f32) s1 (filt (-1) l)) (hw1 : Is (φ := .bf16) w1 (W 1)) (hs2 : Is (φ := .f32) s2 (filt (-2) l))
    (hw2 : Is (φ := .bf16) w2 (W 2)) (ha : Is (φ := .bf16) a A) (hw : Is (φ := .bf16) w V) :
    Is (k1_pay43 u h w0 s1 w1 s2 w2 a w) (fused l U H W + A.transpose * V) := by
  unfold k1_pay43
  dsimp only
  have xt := Is.tn dot_S4096x128_S4096x128_S128x128_0_0_1_1_n_n dot_S4096x128_S4096x128_S128x128_0_0_1_1_n_n_wf rfl (prec := none) Is.zero (Is.cast shapeCasts_S4096x128_S4096x128 hu) hh
  exact Is.add (Is.nn _ rfl Is.zero (Is.cast _ hu) (Is.trunc _ (Is.add (Is.add (Is.nn _ rfl Is.zero (Is.trunc _ xt) (Is.cast _ hw0))
    (Is.nn _ rfl Is.zero (Is.trunc _ (Is.mul (Is.cast _ hs1) xt)) (Is.cast _ hw1))) (Is.nn _ rfl Is.zero (Is.trunc _ (Is.mul (Is.cast _ hs2) xt)) (Is.cast _ hw2)))))
    (Is.tn _ dot_S128x4096_S128x128_S4096x128_0_0_1_1_n_n_wf rfl Is.zero ha (Is.cast _ hw))

/-- A projection: the features times the input weights plus the bias. -/
theorem pay23_is {x : Vec Ideal S2048x128 .bf16} {w : Vec Ideal S128x128 .bf16} {b : Vec Ideal S1x128 .f32} {X : Mat 2048 128} {W : Mat 128 128} {c : Fin 128 → ℝ}
    (hx : Is (φ := .bf16) x X) (hw : Is (φ := .bf16) w W) (hb : Is (φ := .f32) b (rows 1 c)) : Is (k1_pay23 x w b) (X * W + rows 2048 c) := by
  unfold k1_pay23
  dsimp only
  exact Is.trunc _ (Is.add (Is.nn _ rfl Is.zero (Is.cast _ hx) (Is.cast _ hw)) (Is.row _ (Is.cast _ hb)))

/-- The projection of the edge features. -/
theorem pay26_is {x : Vec Ideal S6144x128 .bf16} {w : Vec Ideal S128x128 .bf16} {b : Vec Ideal S1x128 .f32} {X : Mat 6144 128} {W : Mat 128 128} {c : Fin 128 → ℝ}
    (hx : Is (φ := .bf16) x X) (hw : Is (φ := .bf16) w W) (hb : Is (φ := .f32) b (rows 1 c)) : Is (k1_pay26 x w b) (X * W + rows 6144 c) := by
  unfold k1_pay26
  dsimp only
  exact Is.trunc _ (Is.add (Is.nn _ rfl Is.zero (Is.cast _ hx) (Is.cast _ hw)) (Is.row _ (Is.cast _ hb)))

/-- The projection of the triangle features. -/
theorem pay1_is {x : Vec Ideal S4096x128 .bf16} {w : Vec Ideal S128x128 .bf16} {b : Vec Ideal S1x128 .f32} {X : Mat 4096 128} {W : Mat 128 128} {c : Fin 128 → ℝ}
    (hx : Is (φ := .bf16) x X) (hw : Is (φ := .bf16) w W) (hb : Is (φ := .f32) b (rows 1 c)) : Is (k1_pay1 x w b) (X * W + rows 4096 c) := by
  unfold k1_pay1
  dsimp only
  exact Is.cast _ (Is.trunc _ (Is.add (Is.nn _ rfl Is.zero (Is.cast _ hx) (Is.cast _ hw)) (Is.row _ (Is.cast _ hb))))

/-- The packed arrays, read at the rectangles that the main call reads, and the two incidence matrices hold the parameters. -/
structure Holds (I : In Ideal) (P : Par) : Prop where
  x0 : Is (φ := .bf16) (View.ld (Val := Elt Ideal) I.xp (Rect.unit (s := S12288x128) ![0, 0] S2048x128.size inb_S12288x128_S2048x128_0_0)) P.X0
  u0 : Is (φ := .bf16) (View.ld (Val := Elt Ideal) I.up (Rect.unit (s := S12288x128) ![0, 0] S2048x128.size inb_S12288x128_S2048x128_0_0)) P.U0
  c0 : Is (φ := .f32) (View.ld (Val := Elt Ideal) I.sp (Rect.unit (s := S792x128) ![768, 0] S1x128.size inb_S792x128_S1x128_768_0)) (rows 1 P.c0)
  s01 : Is (φ := .f32) (View.ld (Val := Elt Ideal) I.sp (Rect.unit (s := S792x128) ![0, 0] S128x128.size inb_S792x128_S128x128_0_0)) (filt (-1) P.l0)
  s02 : Is (φ := .f32) (View.ld (Val := Elt Ideal) I.sp (Rect.unit (s := S792x128) ![128, 0] S128x128.size inb_S792x128_S128x128_128_0)) (filt (-2) P.l0)
  i0 : Is (φ := .bf16) (View.ld (Val := Elt Ideal) I.wp (Rect.unit (s := S3712x128) ![0, 0] S128x128.size inb_S3712x128_S128x128_0_0)) P.I0
  w000 : Is (φ := .bf16) (View.ld (Val := Elt Ideal) I.wp (Rect.unit (s := S3712x128) ![384, 0] S128x128.size inb_S3712x128_S128x128_384_0)) (P.S0 0 0)
  w001 : Is (φ := .bf16) (View.ld (Val := Elt Ideal) I.wp (Rect.unit (s := S3712x128) ![512, 0] S128x128.size inb_S3712x128_S128x128_512_0)) (P.S0 0 1)
  w002 : Is (φ := .bf16) (View.ld (Val := Elt Ideal) I.wp (Rect.unit (s := S3712x128) ![640, 0] S128x128.size inb_S3712x128_S128x128_640_0)) (P.S0 0 2)
  w010 : Is (φ := .bf16) (View.ld (Val := Elt Ideal) I.wp (Rect.unit (s := S3712x128) ![768, 0] S128x128.size inb_S3712x128_S128x128_768_0)) (P.S0 1 0)
  w011 : Is (φ := .bf16) (View.ld (Val := Elt Ideal) I.wp (Rect.unit (s := S3712x128) ![896, 0] S128x128.size inb_S3712x128_S128x128_896_0)) (P.S0 1 1)
  w012 : Is (φ := .bf16) (View.ld (Val := Elt Ideal) I.wp (Rect.unit (s := S3712x128) ![1024, 0] S128x128.size inb_S3712x128_S128x128_1024_0)) (P.S0 1 2)
  x1 : Is (φ := .bf16) (View.ld (Val := Elt Ideal) I.xp (Rect.unit (s := S12288x128) ![2048, 0] S6144x128.size inb_S12288x128_S6144x128_2048_0)) P.X1
  u1 : Is (φ := .bf16) (View.ld (Val := Elt Ideal) I.up (Rect.unit (s := S12288x128) ![2048, 0] S6144x128.size inb_S12288x128_S6144x128_2048_0)) P.U1
  c1 : Is (φ := .f32) (View.ld (Val := Elt Ideal) I.sp (Rect.unit (s := S792x128) ![776, 0] S1x128.size inb_S792x128_S1x128_776_0)) (rows 1 P.c1)
  s11 : Is (φ := .f32) (View.ld (Val := Elt Ideal) I.sp (Rect.unit (s := S792x128) ![256, 0] S128x128.size inb_S792x128_S128x128_256_0)) (filt (-1) P.l1)
  s12 : Is (φ := .f32) (View.ld (Val := Elt Ideal) I.sp (Rect.unit (s := S792x128) ![384, 0] S128x128.size inb_S792x128_S128x128_384_0)) (filt (-2) P.l1)
  i1 : Is (φ := .bf16) (View.ld (Val := Elt Ideal) I.wp (Rect.unit (s := S3712x128) ![128, 0] S128x128.size inb_S3712x128_S128x128_128_0)) P.I1
  w100 : Is (φ := .bf16) (View.ld (Val := Elt Ideal) I.wp (Rect.unit (s := S3712x128) ![1152, 0] S128x128.size inb_S3712x128_S128x128_1152_0)) (P.S1 0 0)
  w101 : Is (φ := .bf16) (View.ld (Val := Elt Ideal) I.wp (Rect.unit (s := S3712x128) ![1280, 0] S128x128.size inb_S3712x128_S128x128_1280_0)) (P.S1 0 1)
  w102 : Is (φ := .bf16) (View.ld (Val := Elt Ideal) I.wp (Rect.unit (s := S3712x128) ![1408, 0] S128x128.size inb_S3712x128_S128x128_1408_0)) (P.S1 0 2)
  w110 : Is (φ := .bf16) (View.ld (Val := Elt Ideal) I.wp (Rect.unit (s := S3712x128) ![1536, 0] S128x128.size inb_S3712x128_S128x128_1536_0)) (P.S1 1 0)
  w111 : Is (φ := .bf16) (View.ld (Val := Elt Ideal) I.wp (Rect.unit (s := S3712x128) ![1664, 0] S128x128.size inb_S3712x128_S128x128_1664_0)) (P.S1 1 1)
  w112 : Is (φ := .bf16) (View.ld (Val := Elt Ideal) I.wp (Rect.unit (s := S3712x128) ![1792, 0] S128x128.size inb_S3712x128_S128x128_1792_0)) (P.S1 1 2)
  x2 : Is (φ := .bf16) (View.ld (Val := Elt Ideal) I.xp (Rect.unit (s := S12288x128) ![8192, 0] S4096x128.size inb_S12288x128_S4096x128_8192_0)) P.X2
  u2 : Is (φ := .bf16) (View.ld (Val := Elt Ideal) I.up (Rect.unit (s := S12288x128) ![8192, 0] S4096x128.size inb_S12288x128_S4096x128_8192_0)) P.U2
  c2 : Is (φ := .f32) (View.ld (Val := Elt Ideal) I.sp (Rect.unit (s := S792x128) ![784, 0] S1x128.size inb_S792x128_S1x128_784_0)) (rows 1 P.c2)
  s21 : Is (φ := .f32) (View.ld (Val := Elt Ideal) I.sp (Rect.unit (s := S792x128) ![512, 0] S128x128.size inb_S792x128_S128x128_512_0)) (filt (-1) P.l2)
  s22 : Is (φ := .f32) (View.ld (Val := Elt Ideal) I.sp (Rect.unit (s := S792x128) ![640, 0] S128x128.size inb_S792x128_S128x128_640_0)) (filt (-2) P.l2)
  i2 : Is (φ := .bf16) (View.ld (Val := Elt Ideal) I.wp (Rect.unit (s := S3712x128) ![256, 0] S128x128.size inb_S3712x128_S128x128_256_0)) P.I2
  w200 : Is (φ := .bf16) (View.ld (Val := Elt Ideal) I.wp (Rect.unit (s := S3712x128) ![1920, 0] S128x128.size inb_S3712x128_S128x128_1920_0)) (P.S2 0 0)
  w201 : Is (φ := .bf16) (View.ld (Val := Elt Ideal) I.wp (Rect.unit (s := S3712x128) ![2048, 0] S128x128.size inb_S3712x128_S128x128_2048_0)) (P.S2 0 1)
  w202 : Is (φ := .bf16) (View.ld (Val := Elt Ideal) I.wp (Rect.unit (s := S3712x128) ![2176, 0] S128x128.size inb_S3712x128_S128x128_2176_0)) (P.S2 0 2)
  w210 : Is (φ := .bf16) (View.ld (Val := Elt Ideal) I.wp (Rect.unit (s := S3712x128) ![2304, 0] S128x128.size inb_S3712x128_S128x128_2304_0)) (P.S2 1 0)
  w211 : Is (φ := .bf16) (View.ld (Val := Elt Ideal) I.wp (Rect.unit (s := S3712x128) ![2432, 0] S128x128.size inb_S3712x128_S128x128_2432_0)) (P.S2 1 1)
  w212 : Is (φ := .bf16) (View.ld (Val := Elt Ideal) I.wp (Rect.unit (s := S3712x128) ![2560, 0] S128x128.size inb_S3712x128_S128x128_2560_0)) (P.S2 1 2)
  w01_0 : Is (φ := .bf16) (View.ld (Val := Elt Ideal) I.wp (Rect.unit (s := S3712x128) ![2688, 0] S128x128.size inb_S3712x128_S128x128_2688_0)) (P.W01 0)
  w01_1 : Is (φ := .bf16) (View.ld (Val := Elt Ideal) I.wp (Rect.unit (s := S3712x128) ![2816, 0] S128x128.size inb_S3712x128_S128x128_2816_0)) (P.W01 1)
  w10_0 : Is (φ := .bf16) (View.ld (Val := Elt Ideal) I.wp (Rect.unit (s := S3712x128) ![2944, 0] S128x128.size inb_S3712x128_S128x128_2944_0)) (P.W10 0)
  w10_1 : Is (φ := .bf16) (View.ld (Val := Elt Ideal) I.wp (Rect.unit (s := S3712x128) ![3072, 0] S128x128.size inb_S3712x128_S128x128_3072_0)) (P.W10 1)
  w12_0 : Is (φ := .bf16) (View.ld (Val := Elt Ideal) I.wp (Rect.unit (s := S3712x128) ![3200, 0] S128x128.size inb_S3712x128_S128x128_3200_0)) (P.W12 0)
  w12_1 : Is (φ := .bf16) (View.ld (Val := Elt Ideal) I.wp (Rect.unit (s := S3712x128) ![3328, 0] S128x128.size inb_S3712x128_S128x128_3328_0)) (P.W12 1)
  w21_0 : Is (φ := .bf16) (View.ld (Val := Elt Ideal) I.wp (Rect.unit (s := S3712x128) ![3456, 0] S128x128.size inb_S3712x128_S128x128_3456_0)) (P.W21 0)
  w21_1 : Is (φ := .bf16) (View.ld (Val := Elt Ideal) I.wp (Rect.unit (s := S3712x128) ![3584, 0] S128x128.size inb_S3712x128_S128x128_3584_0)) (P.W21 1)
  B1 : Is (φ := .f32) I.B1 P.B1
  B2 : Is (φ := .f32) I.B2 P.B2

/-- The features, and the transposed copies of the first two, hold the real features. -/
structure FeatIs (f : Feat Ideal) (r : Feats) : Prop where
  h0 : Is (φ := .bf16) f.h0 r.h0
  h1 : Is (φ := .bf16) f.h1 r.h1
  h2 : Is (φ := .bf16) f.h2 r.h2
  h0t : Is (φ := .bf16) f.h0t r.h0.transpose
  h1t : Is (φ := .bf16) f.h1t r.h1.transpose

variable {I : In Ideal} {P : Par}

/-- The projected features. -/
theorem feat0_is (hI : Holds I P) : FeatIs (feat0 I) (proj P) where
  h0 := Is.cast _ (pay23_is hI.x0 hI.i0 hI.c0)
  h1 := Is.cast _ (pay26_is hI.x1 hI.i1 hI.c1)
  h2 := pay1_is hI.x2 hI.i2 hI.c2
  h0t := Is.cast _ (Is.transpose _ (pay23_is hI.x0 hI.i0 hI.c0))
  h1t := Is.cast _ (Is.transpose _ (pay26_is hI.x1 hI.i1 hI.c1))

/-- A block of the first incidence matrix. -/
theorem b1_is (hI : Holds I P) (q : ℕ) :
    Is (φ := .f32) (b1 I q) (Matrix.of fun i (c : Fin 512) => P.B1 i ⟨(512 * q + c.val) % 6144, Nat.mod_lt _ (by decide)⟩) := fun i c => hI.B1 i _

/-- A block of the second incidence matrix. -/
theorem b2_is (hI : Holds I P) (q : ℕ) :
    Is (φ := .f32) (b2 I q) (Matrix.of fun i (c : Fin 256) => P.B2 i ⟨(256 * q + c.val) % 4096, Nat.mod_lt _ (by decide)⟩) := fun i c => hI.B2 i _

/-- A block of rows of the rank-one features. -/
theorem rows1_is {x : Vec Ideal S6144x128 .bf16} {H : Mat 6144 128} (hx : Is (φ := .bf16) x H) (q : ℕ) :
    Is (φ := .bf16) (rows1 x q) (Matrix.of fun (c : Fin 512) j => H ⟨(512 * q + c.val) % 6144, Nat.mod_lt _ (by decide)⟩ j) := fun _ j => hx _ j

/-- A block of rows of the rank-two features. -/
theorem rows2_is {x : Vec Ideal S4096x128 .bf16} {H : Mat 4096 128} (hx : Is (φ := .bf16) x H) (q : ℕ) :
    Is (φ := .bf16) (rows2 x q) (Matrix.of fun (c : Fin 256) j => H ⟨(256 * q + c.val) % 4096, Nat.mod_lt _ (by decide)⟩ j) := fun _ j => hx _ j

/-- The first accumulator after `a` blocks. -/
theorem acc0_is (hI : Holds I P) {x : Vec Ideal S6144x128 .bf16} {H : Mat 6144 128} (hx : Is (φ := .bf16) x H) : ∀ a : ℕ,
    Is (φ := .f32) (acc0 I x a) (∑ q ∈ Finset.range a, (Matrix.of fun i (c : Fin 512) => P.B1 i ⟨(512 * q + c.val) % 6144, Nat.mod_lt _ (by decide)⟩)
      * (Matrix.of fun (c : Fin 512) j => H ⟨(512 * q + c.val) % 6144, Nat.mod_lt _ (by decide)⟩ j))
  | 0 => Is.cast shapeCasts_S2048x128_S2048x128 Is.zero
  | a + 1 => by
    rw [Finset.sum_range_succ]
    show Is (k1_pay5 (b1 I a) (acc0 I x a) (rows1 x a)) _
    unfold k1_pay5 k1_pay2
    dsimp only
    exact Is.cast _ (Is.add (acc0_is hI hx a) (Is.nn _ rfl Is.zero (Is.trunc _ (b1_is hI a)) (rows1_is hx a)))

/-- The second accumulator after `a` blocks. -/
theorem acc2_is (hI : Holds I P) {x : Vec Ideal S4096x128 .bf16} {H : Mat 4096 128} (hx : Is (φ := .bf16) x H) : ∀ a : ℕ,
    Is (φ := .f32) (acc2 I x a) (∑ q ∈ Finset.range a, (Matrix.of fun i (c : Fin 256) => P.B2 i ⟨(256 * q + c.val) % 4096, Nat.mod_lt _ (by decide)⟩)
      * (Matrix.of fun (c : Fin 256) j => H ⟨(256 * q + c.val) % 4096, Nat.mod_lt _ (by decide)⟩ j))
  | 0 => Is.cast shapeCasts_S6144x128_S6144x128 Is.zero
  | a + 1 => by
    rw [Finset.sum_range_succ]
    show Is (k1_pay16 (b2 I a) (acc2 I x a) (rows2 x a)) _
    unfold k1_pay16 k1_pay14
    dsimp only
    exact Is.cast _ (Is.add (acc2_is hI hx a) (Is.nn _ rfl Is.zero (Is.trunc _ (b2_is hI a)) (rows2_is hx a)))

/-- The twelve transposed blocks side by side hold the whole transposed product. -/
theorem all1t_is (hI : Holds I P) {x : Vec Ideal S128x2048 .bf16} {H : Mat 128 2048} (hx : Is (φ := .bf16) x H) :
    Is (φ := .bf16) (all1t I x) (H * P.B1) := fun i j => by
  have hb : Is (φ := .bf16) (blk1t I x (j.val / 512)) (H * (Matrix.of fun i (c : Fin 512) => P.B1 i ⟨(512 * (j.val / 512) + c.val) % 6144, Nat.mod_lt _ (by decide)⟩)) := by
    show Is (φ := .bf16) (k1_pay6 (b1 I (j.val / 512)) x) _
    unfold k1_pay6 k1_pay2
    dsimp only
    exact Is.cast _ (Is.trunc _ (Is.nn _ rfl Is.zero hx (Is.trunc _ (b1_is hI _))))
  refine (hb i ⟨j.val % 512, Nat.mod_lt _ (by decide)⟩).trans ?_
  rw [Matrix.mul_apply, Matrix.mul_apply]
  have e : (⟨(512 * (j.val / 512) + j.val % 512) % 6144, Nat.mod_lt _ (by decide)⟩ : Fin 6144) = j := by
    apply Fin.ext
    show (512 * (j.val / 512) + j.val % 512) % 6144 = j.val
    rw [Nat.div_add_mod, Nat.mod_eq_of_lt j.isLt]
  simp only [Matrix.of_apply, e]

/-- The sixteen transposed blocks side by side hold the whole transposed product. -/
theorem all3t_is (hI : Holds I P) {x : Vec Ideal S128x6144 .bf16} {H : Mat 128 6144} (hx : Is (φ := .bf16) x H) :
    Is (φ := .bf16) (all3t I x) (H * P.B2) := fun i j => by
  have hb : Is (φ := .bf16) (blk3t I x (j.val / 256)) (H * (Matrix.of fun i (c : Fin 256) => P.B2 i ⟨(256 * (j.val / 256) + c.val) % 4096, Nat.mod_lt _ (by decide)⟩)) := by
    show Is (φ := .bf16) (k1_pay17 (b2 I (j.val / 256)) x) _
    unfold k1_pay17 k1_pay14
    dsimp only
    exact Is.cast _ (Is.trunc _ (Is.nn _ rfl Is.zero hx (Is.trunc _ (b2_is hI _))))
  refine (hb i ⟨j.val % 256, Nat.mod_lt _ (by decide)⟩).trans ?_
  rw [Matrix.mul_apply, Matrix.mul_apply]
  have e : (⟨(256 * (j.val / 256) + j.val % 256) % 4096, Nat.mod_lt _ (by decide)⟩ : Fin 4096) = j := by
    apply Fin.ext
    show (256 * (j.val / 256) + j.val % 256) % 4096 = j.val
    rw [Nat.div_add_mod, Nat.mod_eq_of_lt j.isLt]
  simp only [Matrix.of_apply, e]

/-- The product with the first incidence matrix once all blocks are in. -/
theorem a0_is (hI : Holds I P) {x : Vec Ideal S6144x128 .bf16} {H : Mat 6144 128} (hx : Is (φ := .bf16) x H) : Is (φ := .f32) (acc0 I x 12) (P.B1 * H) :=
  (acc0_is hI hx 12).of_eq (tiles_mul 12 512 (by decide) (by decide) P.B1 H)

/-- The product with the second incidence matrix once all blocks are in. -/
theorem a2_is (hI : Holds I P) {x : Vec Ideal S4096x128 .bf16} {H : Mat 4096 128} (hx : Is (φ := .bf16) x H) : Is (φ := .f32) (acc2 I x 16) (P.B2 * H) :=
  (acc2_is hI hx 16).of_eq (tiles_mul 16 256 (by decide) (by decide) P.B2 H)

/-- The first layer of rank zero. -/
theorem out00_is (hI : Holds I P) {f : Feat Ideal} {r : Feats} (hf : FeatIs f r) (x : Vec Ideal S4x2048x512 .bf16) :
    Is (φ := .f32) (out00 I (full I f x)) (layer P 0 r).h0 :=
  (pay29_is (l := P.l0) (W := P.S0 0) hI.u0 hf.h0 hI.w000 hI.s01 hI.w001 hI.s02 hI.w002 (a0_is hI hf.h1) hI.w01_0).of_eq (by rw [fused_eq]; rfl)

/-- The first layer of rank one. -/
theorem out01_is (hI : Holds I P) {f : Feat Ideal} {r : Feats} (hf : FeatIs f r) (x : Vec Ideal S4x2048x512 .bf16) :
    Is (φ := .f32) (out01 I (full I f x)) (layer P 0 r).h1 := by
  have h := pay31_is (l := P.l1) (W := P.S1 0) (Is.cast shapeCasts_S6144x128_S6144x128 hI.u1) hf.h1 hI.w100 hI.s11 hI.w101 hI.s12 hI.w102 (all1t_is hI hf.h0t) hI.w10_0
  have h2 := Is.add h (Is.nn dot_S6144x128_S128x128_S6144x128_1_0_0_1_n_n rfl (prec := none) Is.zero (Is.trunc bitsLt_bf16_f32 (a2_is hI hf.h2)) (Is.cast shapeCasts_S128x128_S128x128 hI.w12_0))
  refine Is.of_eq (N := (layer P 0 r).h1) h2 ?_
  rw [fused_eq, Matrix.transpose_mul, Matrix.transpose_transpose]
  rfl

/-- The first layer of rank two. -/
theorem out02_is (hI : Holds I P) {f : Feat Ideal} {r : Feats} (hf : FeatIs f r) (x : Vec Ideal S4x2048x512 .bf16) :
    Is (φ := .f32) (out02 I (full I f x)) (layer P 0 r).h2 :=
  (pay35_is (l := P.l2) (W := P.S2 0) hI.u2 hf.h2 hI.w200 hI.s21 hI.w201 hI.s22 hI.w202 (all3t_is hI hf.h1t) hI.w21_0).of_eq (by
    rw [fused_eq, Matrix.transpose_mul, Matrix.transpose_transpose]; rfl)

/-- The second layer of rank zero. -/
theorem out10_is (hI : Holds I P) {f : Feat Ideal} {r : Feats} (hf : FeatIs f r) (x : Vec Ideal S4x2048x512 .bf16) :
    Is (φ := .f32) (out10 I (full I f x)) (layer P 1 r).h0 :=
  (pay37_is (l := P.l0) (W := P.S0 1) hI.u0 hf.h0 hI.w010 hI.s01 hI.w011 hI.s02 hI.w012 (a0_is hI hf.h1) hI.w01_1).of_eq (by rw [fused_eq]; rfl)

/-- The second layer of rank one. -/
theorem out11_is (hI : Holds I P) {f : Feat Ideal} {r : Feats} (hf : FeatIs f r) (x : Vec Ideal S4x2048x512 .bf16) :
    Is (φ := .f32) (out11 I (full I f x)) (layer P 1 r).h1 := by
  have h := pay39_is (l := P.l1) (W := P.S1 1) (Is.cast shapeCasts_S6144x128_S6144x128 hI.u1) hf.h1 hI.w110 hI.s11 hI.w111 hI.s12 hI.w112 (all1t_is hI hf.h0t) hI.w10_1
  have h2 := Is.add h (Is.nn dot_S6144x128_S128x128_S6144x128_1_0_0_1_n_n rfl (prec := none) Is.zero (Is.trunc bitsLt_bf16_f32 (a2_is hI hf.h2)) (Is.cast shapeCasts_S128x128_S128x128 hI.w12_1))
  refine Is.of_eq (N := (layer P 1 r).h1) h2 ?_
  rw [fused_eq, Matrix.transpose_mul, Matrix.transpose_transpose]
  rfl

/-- The second layer of rank two. -/
theorem out12_is (hI : Holds I P) {f : Feat Ideal} {r : Feats} (hf : FeatIs f r) (x : Vec Ideal S4x2048x512 .bf16) :
    Is (φ := .f32) (out12 I (full I f x)) (layer P 1 r).h2 :=
  (pay43_is (l := P.l2) (W := P.S2 1) hI.u2 hf.h2 hI.w210 hI.s21 hI.w211 hI.s22 hI.w212 (all3t_is hI hf.h1t) hI.w21_1).of_eq (by
    rw [fused_eq, Matrix.transpose_mul, Matrix.transpose_transpose]; rfl)

/-- The features after the first layer. -/
theorem feat1_is (hI : Holds I P) : FeatIs (feat1 I) (layer P 0 (proj P)) where
  h0 := Is.cast _ (Is.trunc _ (out00_is hI (feat0_is hI) _))
  h1 := Is.cast _ (Is.trunc _ (out01_is hI (feat0_is hI) _))
  h2 := Is.cast _ (Is.trunc _ (out02_is hI (feat0_is hI) _))
  h0t := Is.cast _ (Is.transpose _ (Is.trunc bitsLt_bf16_f32 (out00_is hI (feat0_is hI) _)))
  h1t := Is.cast _ (Is.transpose _ (Is.trunc bitsLt_bf16_f32 (out01_is hI (feat0_is hI) _)))

/-- The three results. -/
theorem result0_is (hI : Holds I P) : Is (φ := .f32) (out10 I (last I)) (layer P 1 (layer P 0 (proj P))).h0 := out10_is hI (feat1_is hI) _
/-- The second result is the network's edge features. -/
theorem result1_is (hI : Holds I P) : Is (φ := .f32) (out11 I (last I)) (layer P 1 (layer P 0 (proj P))).h1 := out11_is hI (feat1_is hI) _
/-- The third result is the network's triangle features. -/
theorem result2_is (hI : Holds I P) : Is (φ := .f32) (out12 I (last I)) (layer P 1 (layer P 0 (proj P))).h2 := out12_is hI (feat1_is hI) _

end Cert.KernelIdeal.Main

end
-- ==== Proof.RealLaws.lean ====
/-
  More arrays that hold real matrices: windows of an array into which payloads were put, reshaped stacks of matrices, rows and columns
  spread over a matrix, and the exponential filters as each program builds them.
-/
module

public import proofs.«01_k».proof.Proof.RealNet

@[expose] public section

noncomputable section

namespace Cert.RealMat

open Idealize.ShloMosaic hiding ix1 ix2 ix3 ix4 eq_ix2
open Idealize.ShloMosaic.ValueIdx
open scoped BigOperators

variable {n m k p N : ℕ} {φ ψ χ : FTy}

/-- An array equal to one that holds a matrix holds it. -/
theorem Is.at {x y : FVec Ideal ⟨2, ![n, m]⟩ φ} {M : Mat n m} (e : x = y) (h : Is y M) : Is x M := e ▸ h

/-- The same of a stack. -/
theorem Is3.at {x y : FVec Ideal ⟨3, ![k, n, m]⟩ φ} {M : Fin k → Mat n m} (e : x = y) (h : Is3 y M) : Is3 x M := e ▸ h

/-- The same of a stack of stacks. -/
theorem Is4.at {x y : FVec Ideal ⟨4, ![k, p, n, m]⟩ φ} {M : Fin k → Fin p → Mat n m} (e : x = y) (h : Is4 y M) : Is4 x M := e ▸ h

/-! ## The words of the scalar constants -/

/-- The word of minus zero stands for zero. -/
theorem ofBits_neg_zero : Ideal.ofBits .f32 0x80000000#32 = ((0 : ℝ) : EReal) := by
  simp [Ideal.ofBits, Ideal.ieee]

/-- The word of minus one stands for minus one. -/
theorem ofBits_neg_one : Ideal.ofBits .f32 0xBF800000#32 = ((-1 : ℝ) : EReal) := by
  simp [Ideal.ofBits, Ideal.ieee, -EReal.coe_mul, -EReal.coe_neg]
  norm_num

/-- The word of minus two stands for minus two. -/
theorem ofBits_neg_two : Ideal.ofBits .f32 0xC0000000#32 = ((-2 : ℝ) : EReal) := by
  simp [Ideal.ofBits, Ideal.ieee, -EReal.coe_mul, -EReal.coe_neg]
  norm_num

/-- A splat of a scalar word. -/
theorem Is.splat {v : BitVec FTy.f32.bits} {r : ℝ} (h : Ideal.ofBits .f32 v = (r : EReal)) :
    Is (φ := .f32) (broadcast ⟨2, ![n, m]⟩ (Scalar.ofBits (F := Ideal) .f32 v)) (Matrix.of fun _ _ => r) := fun _ _ => h

/-! ## Windows of packed arrays -/

/-- The window just written holds what the payload holds. -/
theorem Is.here {y : FVec Ideal ⟨2, ![N, m]⟩ φ} {off : ℕ} {w : FVec Ideal ⟨2, ![n, m]⟩ φ} {M : Mat n m} (hw : Is w M)
    {inb : ∀ a, (![off, 0] : Fin 2 → ℕ) a + (![n, m] : Fin 2 → ℕ) a ≤ (⟨2, ![N, m]⟩ : Shape).size a} :
    Is (n := n) (m := m) (φ := φ) (VecWindow.window (s := ⟨2, ![N, m]⟩) (VecWindow.put (s := ⟨2, ![N, m]⟩) y ![off, 0] ![n, m] w) ![off, 0] ![n, m] inb) M := by
  have h := VecWindow.window_put_same (s := ⟨2, ![N, m]⟩) y ![off, 0] ![n, m] inb w
  intro i j
  exact (congrFun h (ix2 i j)).trans (hw i j)

/-- A window apart from the one just written holds what it held. -/
theorem Is.skip {y : FVec Ideal ⟨2, ![N, m]⟩ φ} {off off' : ℕ} {w : FVec Ideal ⟨2, ![n, m]⟩ φ} {M : Mat p m} (ha : off' + p ≤ off ∨ off + n ≤ off')
    {inb : ∀ a, (![off', 0] : Fin 2 → ℕ) a + (![p, m] : Fin 2 → ℕ) a ≤ (⟨2, ![N, m]⟩ : Shape).size a}
    (hy : Is (n := p) (m := m) (φ := φ) (VecWindow.window (s := ⟨2, ![N, m]⟩) y ![off', 0] ![p, m] inb) M) :
    Is (n := p) (m := m) (φ := φ) (VecWindow.window (s := ⟨2, ![N, m]⟩) (VecWindow.put (s := ⟨2, ![N, m]⟩) y ![off, 0] ![n, m] w) ![off', 0] ![p, m] inb) M := by
  have h := VecWindow.window_put_of_disjoint (s := ⟨2, ![N, m]⟩) y ![off, 0] ![n, m] ![off', 0] ![p, m] inb w 0 ha
  intro i j
  exact (congrFun h (ix2 i j)).trans (hy i j)

/-- A window inside the one just written holds the payload's rows. -/
theorem Is.inside {y : FVec Ideal ⟨2, ![N, m]⟩ φ} {off off' d : ℕ} {w : FVec Ideal ⟨2, ![n, m]⟩ φ} {M : Mat p m} (hd : off' = off + d) (hn : d + p ≤ n)
    (hw : ∀ (i : Fin p) (j : Fin m), w (ix2 ⟨d + i.val, by omega⟩ j) = ((M i j : ℝ) : EReal))
    {inb : ∀ a, (![off', 0] : Fin 2 → ℕ) a + (![p, m] : Fin 2 → ℕ) a ≤ (⟨2, ![N, m]⟩ : Shape).size a} :
    Is (n := p) (m := m) (φ := φ) (VecWindow.window (s := ⟨2, ![N, m]⟩) (VecWindow.put (s := ⟨2, ![N, m]⟩) y ![off, 0] ![n, m] w) ![off', 0] ![p, m] inb) M := by
  have h := VecWindow.window_put_of_inside (s := ⟨2, ![N, m]⟩) y ![off, 0] ![n, m] ![off', 0] ![p, m] inb w (by
    intro a
    match a with
    | ⟨0, _⟩ => show off ≤ off' ∧ off' + p ≤ off + n; omega
    | ⟨1, _⟩ => show 0 ≤ 0 ∧ 0 + m ≤ 0 + m; omega)
  intro i j
  refine (congrFun h (ix2 i j)).trans ((congrArg w ?_).trans (hw i j))
  funext a; apply Fin.ext
  match a with
  | ⟨0, _⟩ => show off' - off + 1 * i.val = d + i.val; omega
  | ⟨1, _⟩ => show 0 - 0 + 1 * j.val = j.val; omega

/-- A stack of stacks of square matrices laid out as rows. -/
theorem Is4.rows {x : FVec Ideal ⟨4, ![2, 3, 128, 128]⟩ φ} {S : Fin 2 → Fin 3 → Mat 128 128} (hx : Is4 x S)
    (h : (⟨4, ![2, 3, 128, 128]⟩ : Shape).ShapeCasts ⟨2, ![768, 128]⟩) (q : Fin 2) (r : Fin 3) (d : ℕ) (hd : d = 384 * q.val + 128 * r.val)
    (i : Fin 128) (j : Fin 128) (hi : d + i.val < 768) : shapeCast ⟨2, ![768, 128]⟩ x h (ix2 ⟨d + i.val, hi⟩ j) = ((S q r i j : ℝ) : EReal) :=
  (shapeCast_apply x h _ (ix4 q r i j) (by
    rw [Shape.rowMajor_val_four, Shape.rowMajor_val_two]
    show ((q.val * 3 + r.val) * 128 + i.val) * 128 + j.val = (d + i.val) * 128 + j.val
    omega)).trans (hx q r i j)

/-- A stack of square matrices laid out as rows. -/
theorem Is3.rows {x : FVec Ideal ⟨3, ![2, 128, 128]⟩ φ} {S : Fin 2 → Mat 128 128} (hx : Is3 x S)
    (h : (⟨3, ![2, 128, 128]⟩ : Shape).ShapeCasts ⟨2, ![256, 128]⟩) (q : Fin 2) (d : ℕ) (hd : d = 128 * q.val)
    (i : Fin 128) (j : Fin 128) (hi : d + i.val < 256) : shapeCast ⟨2, ![256, 128]⟩ x h (ix2 ⟨d + i.val, hi⟩ j) = ((S q i j : ℝ) : EReal) :=
  (shapeCast_apply x h _ (ix3 q i j) (by
    rw [Shape.rowMajor_val_three, Shape.rowMajor_val_two]
    show (q.val * 128 + i.val) * 128 + j.val = (d + i.val) * 128 + j.val
    omega)).trans (hx q i j)

/-- A vector as the one row of a matrix. -/
theorem Is1.cast {x : FVec Ideal ⟨1, ![128]⟩ φ} {c : Fin 128 → ℝ} (hx : Is1 x c) (h : (⟨1, ![128]⟩ : Shape).ShapeCasts ⟨2, ![1, 128]⟩) :
    Is (φ := φ) (shapeCast ⟨2, ![1, 128]⟩ x h) (rows 1 c) := fun i j =>
  (shapeCast_apply x h _ (ix1 j) (by
    rw [Shape.rowMajor_val_one, Shape.rowMajor_val_two]
    show j.val = i.val * 128 + j.val
    omega)).trans (hx j)

/-! ## The host's operations -/

/-- A scalar word spread over a matrix. -/
theorem Is.splatHost {v : BitVec FTy.f32.bits} {r : ℝ} (h : Ideal.ofBits .f32 v = (r : EReal)) (hb : (⟨0, ![]⟩ : Shape).BroadcastsInDim ⟨2, ![n, m]⟩ ![]) :
    Is (φ := .f32) (broadcastInDim ⟨2, ![n, m]⟩ ![] hb (constant (F := Ideal) ⟨0, ![]⟩ .f32 v)) (Matrix.of fun _ _ => r) := fun _ _ =>
  (broadcastInDim_scalar_apply hb _ _).trans h

/-- A vector under every row of a matrix. -/
theorem Is1.bias {x : FVec Ideal ⟨1, ![128]⟩ φ} {c : Fin 128 → ℝ} (hx : Is1 x c) (hb : (⟨1, ![128]⟩ : Shape).BroadcastsInDim ⟨2, ![1, 128]⟩ ![1])
    (hb' : (⟨2, ![1, 128]⟩ : Shape).BroadcastsInDim ⟨2, ![n, 128]⟩ ![0, 1]) :
    Is (φ := φ) (broadcastInDim ⟨2, ![n, 128]⟩ ![0, 1] hb' (broadcastInDim ⟨2, ![1, 128]⟩ ![1] hb x)) (rows n c) := fun i j =>
  (broadcastInDim_apply _ hb' _ _ (ix2 0 j) (fun a => by
    match a with
    | ⟨0, _⟩ => rfl
    | ⟨1, _⟩ => rfl)).trans ((broadcastInDim_apply _ hb _ _ (ix1 j) (fun a => by
      match a with
      | ⟨0, _⟩ => rfl)).trans (hx j))

/-- The exponential filter of order `r`, spread along the columns. -/
theorem Is1.filter {x : FVec Ideal ⟨1, ![128]⟩ .f32} {l : Fin 128 → ℝ} (hx : Is1 x l) {v : BitVec FTy.f32.bits} {r : ℝ} (h : Ideal.ofBits .f32 v = (r : EReal))
    (hb0 : (⟨0, ![]⟩ : Shape).BroadcastsInDim ⟨1, ![128]⟩ ![])
    (hb : (⟨1, ![128]⟩ : Shape).BroadcastsInDim ⟨2, ![128, 1]⟩ ![0]) (hb' : (⟨2, ![128, 1]⟩ : Shape).BroadcastsInDim ⟨2, ![128, 128]⟩ ![0, 1]) :
    Is (φ := .f32) (broadcastInDim ⟨2, ![128, 128]⟩ ![0, 1] hb' (broadcastInDim ⟨2, ![128, 1]⟩ ![0] hb
      (Host.exp (mulf (broadcastInDim ⟨1, ![128]⟩ ![] hb0 (constant (F := Ideal) ⟨0, ![]⟩ .f32 v)) x)))) (filt r l) := fun i j =>
  (broadcastInDim_apply _ hb' _ _ (ix2 i 0) (fun a => by
    match a with
    | ⟨0, _⟩ => rfl
    | ⟨1, _⟩ => rfl)).trans ((broadcastInDim_apply _ hb _ _ (ix1 i) (fun a => by
      match a with
      | ⟨0, _⟩ => rfl)).trans (by
        show Ideal.exp (broadcastInDim ⟨1, ![128]⟩ ![] hb0 (constant (F := Ideal) ⟨0, ![]⟩ .f32 v) (ix1 i) * x (ix1 i)) = _
        rw [broadcastInDim_scalar_apply, hx i]
        show Ideal.exp (Ideal.ofBits .f32 v * _) = _
        rw [h, ← EReal.coe_mul]
        rfl))

/-- One stack of a stack of stacks. -/
theorem Is4.stack {x : FVec Ideal ⟨4, ![2, 3, 128, 128]⟩ φ} {S : Fin 2 → Fin 3 → Mat 128 128} (hx : Is4 x S) (q : Fin 2) {off : Fin 4 → ℕ} (ho : off = ![q.val, 0, 0, 0])
    (h : (⟨4, ![2, 3, 128, 128]⟩ : Shape).Slices off ⟨4, ![1, 3, 128, 128]⟩) (hc : (⟨4, ![1, 3, 128, 128]⟩ : Shape).ShapeCasts ⟨3, ![3, 128, 128]⟩) :
    Is3 (φ := φ) (shapeCast ⟨3, ![3, 128, 128]⟩ (extractStridedSlice ⟨4, ![1, 3, 128, 128]⟩ off x h) hc) (S q) := fun r i j => by
  subst ho
  refine (shapeCast_apply _ hc _ (ix4 0 r i j) (by
    rw [Shape.rowMajor_val_four, Shape.rowMajor_val_three]
    show ((0 * 3 + r.val) * 128 + i.val) * 128 + j.val = (r.val * 128 + i.val) * 128 + j.val
    omega)).trans ?_
  refine (extractStridedSlice_apply _ x h _ (ix4 q r i j) (fun a => ?_)).trans (hx q r i j)
  match a with
  | ⟨0, _⟩ => rfl
  | ⟨1, _⟩ => show r.val = 0 + r.val; omega
  | ⟨2, _⟩ => show i.val = 0 + i.val; omega
  | ⟨3, _⟩ => show j.val = 0 + j.val; omega

/-- One matrix of a stack. -/
theorem Is3.mat {x : FVec Ideal ⟨3, ![k, 128, 128]⟩ φ} {S : Fin k → Mat 128 128} (hx : Is3 x S) (q : Fin k) {off : Fin 3 → ℕ} (ho : off = ![q.val, 0, 0])
    (h : (⟨3, ![k, 128, 128]⟩ : Shape).Slices off ⟨3, ![1, 128, 128]⟩) (hc : (⟨3, ![1, 128, 128]⟩ : Shape).ShapeCasts ⟨2, ![128, 128]⟩) :
    Is (φ := φ) (shapeCast ⟨2, ![128, 128]⟩ (extractStridedSlice ⟨3, ![1, 128, 128]⟩ off x h) hc) (S q) := fun i j => by
  subst ho
  refine (shapeCast_apply _ hc _ (ix3 0 i j) (by
    rw [Shape.rowMajor_val_three, Shape.rowMajor_val_two]
    show (0 * 128 + i.val) * 128 + j.val = i.val * 128 + j.val
    omega)).trans ?_
  refine (extractStridedSlice_apply _ x h _ (ix3 q i j) (fun a => ?_)).trans (hx q i j)
  match a with
  | ⟨0, _⟩ => rfl
  | ⟨1, _⟩ => show i.val = 0 + i.val; omega
  | ⟨2, _⟩ => show j.val = 0 + j.val; omega

/-- The host's spectral convolution: the three filtered products summed onto a zero array. -/
theorem Is.specHost {u : FVec Ideal ⟨2, ![n, 128]⟩ .f32} {xt : FVec Ideal ⟨2, ![128, 128]⟩ .f32} {w : FVec Ideal ⟨3, ![3, 128, 128]⟩ .f32} {x : FVec Ideal ⟨1, ![128]⟩ .f32}
    {U H : Mat n 128} {W : Fin 3 → Mat 128 128} {l : Fin 128 → ℝ}
    (hu : Is u U) (hxt : Is xt (U.transpose * H)) (hw : Is3 w W) (hx : Is1 x l)
    (d : DotDims ⟨2, ![n, 128]⟩ ⟨2, ![128, 128]⟩ ⟨2, ![n, 128]⟩) (hd : d = DotDims.plain n 128 128) (hz : (⟨0, ![]⟩ : Shape).BroadcastsInDim ⟨2, ![n, 128]⟩ ![])
    (hb0 : (⟨0, ![]⟩ : Shape).BroadcastsInDim ⟨1, ![128]⟩ ![])
    (hb : (⟨1, ![128]⟩ : Shape).BroadcastsInDim ⟨2, ![128, 1]⟩ ![0]) (hb' : (⟨2, ![128, 1]⟩ : Shape).BroadcastsInDim ⟨2, ![128, 128]⟩ ![0, 1])
    (h0 : (⟨3, ![3, 128, 128]⟩ : Shape).Slices ![0, 0, 0] ⟨3, ![1, 128, 128]⟩) (h1 : (⟨3, ![3, 128, 128]⟩ : Shape).Slices ![1, 0, 0] ⟨3, ![1, 128, 128]⟩)
    (h2 : (⟨3, ![3, 128, 128]⟩ : Shape).Slices ![2, 0, 0] ⟨3, ![1, 128, 128]⟩) (hc : (⟨3, ![1, 128, 128]⟩ : Shape).ShapeCasts ⟨2, ![128, 128]⟩) :
    Is (φ := .f32) (addf (addf (addf (broadcastInDim ⟨2, ![n, 128]⟩ ![] hz (constant (F := Ideal) ⟨0, ![]⟩ .f32 0x00000000#32))
      (Host.dotGeneral d none (Host.dotGeneral d none u (mulf (broadcastInDim ⟨2, ![128, 128]⟩ ![0, 1] hb' (broadcastInDim ⟨2, ![128, 1]⟩ ![0] hb
        (Host.exp (mulf (broadcastInDim ⟨1, ![128]⟩ ![] hb0 (constant (F := Ideal) ⟨0, ![]⟩ .f32 0x80000000#32)) x)))) xt))
        (shapeCast ⟨2, ![128, 128]⟩ (extractStridedSlice ⟨3, ![1, 128, 128]⟩ ![0, 0, 0] w h0) hc)))
      (Host.dotGeneral d none (Host.dotGeneral d none u (mulf (broadcastInDim ⟨2, ![128, 128]⟩ ![0, 1] hb' (broadcastInDim ⟨2, ![128, 1]⟩ ![0] hb
        (Host.exp (mulf (broadcastInDim ⟨1, ![128]⟩ ![] hb0 (constant (F := Ideal) ⟨0, ![]⟩ .f32 0xBF800000#32)) x)))) xt))
        (shapeCast ⟨2, ![128, 128]⟩ (extractStridedSlice ⟨3, ![1, 128, 128]⟩ ![1, 0, 0] w h1) hc)))
      (Host.dotGeneral d none (Host.dotGeneral d none u (mulf (broadcastInDim ⟨2, ![128, 128]⟩ ![0, 1] hb' (broadcastInDim ⟨2, ![128, 1]⟩ ![0] hb
        (Host.exp (mulf (broadcastInDim ⟨1, ![128]⟩ ![] hb0 (constant (F := Ideal) ⟨0, ![]⟩ .f32 0xC0000000#32)) x)))) xt))
        (shapeCast ⟨2, ![128, 128]⟩ (extractStridedSlice ⟨3, ![1, 128, 128]⟩ ![2, 0, 0] w h2) hc))) (spec l U H W) := by
  refine (Is.add (Is.add (Is.add (Is.splatHost (r := 0) Ideal.ofBits_zero_f32 hz)
    (Is.dot d hd (Is.dot d hd hu (Is.mul (Is1.filter hx ofBits_neg_zero hb0 hb hb') hxt)) (Is3.mat hw 0 rfl h0 hc)))
    (Is.dot d hd (Is.dot d hd hu (Is.mul (Is1.filter hx ofBits_neg_one hb0 hb hb') hxt)) (Is3.mat hw 1 rfl h1 hc)))
    (Is.dot d hd (Is.dot d hd hu (Is.mul (Is1.filter hx ofBits_neg_two hb0 hb hb') hxt)) (Is3.mat hw 2 rfl h2 hc))).of_eq ?_
  have e : (Matrix.of fun _ _ => (0 : ℝ) : Mat n 128) = 0 := rfl
  rw [e, zero_add]
  rfl

/-- The twenty-four arguments hold the parameters. -/
structure Given (a0 : FVec Ideal ⟨2, ![2048, 128]⟩ .f32) (a1 : FVec Ideal ⟨2, ![6144, 128]⟩ .f32) (a2 : FVec Ideal ⟨2, ![4096, 128]⟩ .f32)
    (a3 : FVec Ideal ⟨1, ![128]⟩ .f32) (a4 : FVec Ideal ⟨2, ![2048, 128]⟩ .f32) (a5 : FVec Ideal ⟨1, ![128]⟩ .f32) (a6 : FVec Ideal ⟨2, ![6144, 128]⟩ .f32)
    (a7 : FVec Ideal ⟨1, ![128]⟩ .f32) (a8 : FVec Ideal ⟨2, ![4096, 128]⟩ .f32)
    (a9 : FVec Ideal ⟨2, ![2048, 6144]⟩ .f32) (a10 : FVec Ideal ⟨2, ![6144, 4096]⟩ .f32)
    (a11 : FVec Ideal ⟨2, ![128, 128]⟩ .f32) (a12 : FVec Ideal ⟨1, ![128]⟩ .f32) (a13 : FVec Ideal ⟨2, ![128, 128]⟩ .f32) (a14 : FVec Ideal ⟨1, ![128]⟩ .f32)
    (a15 : FVec Ideal ⟨2, ![128, 128]⟩ .f32) (a16 : FVec Ideal ⟨1, ![128]⟩ .f32)
    (a17 a18 a19 : FVec Ideal ⟨4, ![2, 3, 128, 128]⟩ .f32) (a20 a21 a22 a23 : FVec Ideal ⟨3, ![2, 128, 128]⟩ .f32) (P : Par) : Prop where
  X0 : Is a0 P.X0
  X1 : Is a1 P.X1
  X2 : Is a2 P.X2
  l0 : Is1 a3 P.l0
  U0 : Is a4 P.U0
  l1 : Is1 a5 P.l1
  U1 : Is a6 P.U1
  l2 : Is1 a7 P.l2
  U2 : Is a8 P.U2
  B1 : Is a9 P.B1
  B2 : Is a10 P.B2
  I0 : Is a11 P.I0
  c0 : Is1 a12 P.c0
  I1 : Is a13 P.I1
  c1 : Is1 a14 P.c1
  I2 : Is a15 P.I2
  c2 : Is1 a16 P.c2
  S0 : Is4 a17 P.S0
  S1 : Is4 a18 P.S1
  S2 : Is4 a19 P.S2
  W01 : Is3 a20 P.W01
  W10 : Is3 a21 P.W10
  W12 : Is3 a22 P.W12
  W21 : Is3 a23 P.W21

end Cert.RealMat
-- ==== Proof.KernelPacked.lean ====
/-
  The packed arrays that the preparation leaves hold the arguments: each rectangle that the main call reads is one argument, or one
  matrix of a stack, or one exponential filter.
-/
module

public import proofs.«01_k».proof.Proof.KernelReal
public import proofs.«01_k».proof.Proof.RealLaws
public import proofs.«01_k».proof.Proof.KernelIdealRun

@[expose] public section

noncomputable section

namespace Cert.KernelIdeal.Main

open Cert.KernelIdeal Cert.KernelIdeal.Gen Cert.RealMat
open Idealize.ShloMosaic hiding ix1 ix2 ix3 ix4 eq_ix2
open Idealize.ShloMosaic.TcCoe
open Idealize.ShloMosaic.ValueIdx

/-- The arrays that the preparation reads hold the parameters. -/
structure PHolds (p : PIn Ideal) (P : Par) : Prop where
  x0 : Is (φ := .f32) p.x0 P.X0
  u0 : Is (φ := .f32) p.u0 P.U0
  l0 : Is (φ := .f32) p.l0 (rows 1 P.l0)
  wi0 : Is (φ := .f32) p.wi0 P.I0
  ws0 : Is4 (φ := .f32) p.ws0 P.S0
  b0 : Is (φ := .f32) p.b0 (rows 1 P.c0)
  x1 : Is (φ := .f32) p.x1 P.X1
  u1 : Is (φ := .f32) p.u1 P.U1
  l1 : Is (φ := .f32) p.l1 (rows 1 P.l1)
  wi1 : Is (φ := .f32) p.wi1 P.I1
  ws1 : Is4 (φ := .f32) p.ws1 P.S1
  b1 : Is (φ := .f32) p.b1 (rows 1 P.c1)
  x2 : Is (φ := .f32) p.x2 P.X2
  u2 : Is (φ := .f32) p.u2 P.U2
  l2 : Is (φ := .f32) p.l2 (rows 1 P.l2)
  wi2 : Is (φ := .f32) p.wi2 P.I2
  ws2 : Is4 (φ := .f32) p.ws2 P.S2
  b2 : Is (φ := .f32) p.b2 (rows 1 P.c2)
  w01 : Is3 (φ := .f32) p.w01 P.W01
  w10 : Is3 (φ := .f32) p.w10 P.W10
  w12 : Is3 (φ := .f32) p.w12 P.W12
  w21 : Is3 (φ := .f32) p.w21 P.W21

/-- The row of ones. -/
theorem ones_is : Is (φ := .f32) (k0_pay1 (F := Ideal)) (rows 1 fun _ => 1) := fun _ _ => by
  show Ideal.ofBits .f32 0x3F800000#32 = _
  rw [Ideal.ofBits_one_f32]; rfl

/-- A spectrum down the rows, constant along the columns. -/
theorem column_is {x : Vec Ideal S1x128 .f32} {l : Fin 128 → ℝ} (hx : Is (φ := .f32) x (rows 1 l)) : Is (φ := .f32) (k0_pay2 x) (Matrix.of fun i _ => l i) := by
  unfold k0_pay2
  dsimp only
  refine (Is.tn dot_S1x128_S1x128_S128x128_0_0_1_1_n_n dot_S1x128_S1x128_S128x128_0_0_1_1_n_n_wf rfl (prec := none) Is.zero (Is.cast shapeCasts_S1x128_S1x128 hx) ones_is).of_eq ?_
  ext i j
  rw [Matrix.mul_apply, Fin.sum_univ_one]
  show l i * 1 = l i
  rw [mul_one]

/-- The filter of order one. -/
theorem filter1_is {v : FVec Ideal S128x128 .f32} {l : Fin 128 → ℝ} (hv : Is (φ := .f32) v (Matrix.of fun i _ => l i)) :
    Is (φ := .f32) (exp (subf (broadcast S128x128 (Scalar.ofBits (F := Ideal) .f32 0x00000000#32)) v)) (filt (-1) l) :=
  (Is.exp (Is.sub (Is.splat (r := 0) Ideal.ofBits_zero_f32) hv)).of_eq (by
    ext i j
    show Real.exp (0 - l i) = Real.exp (-1 * l i)
    congr 1; ring)

/-- The filter of order two. -/
theorem filter2_is {v : FVec Ideal S128x128 .f32} {l : Fin 128 → ℝ} (hv : Is (φ := .f32) v (Matrix.of fun i _ => l i)) :
    Is (φ := .f32) (exp (mulf (broadcast S128x128 (Scalar.ofBits (F := Ideal) .f32 0xC0000000#32)) v)) (filt (-2) l) :=
  (Is.exp (Is.mul (Is.splat ofBits_neg_two) hv)).of_eq rfl

variable {I : In Ideal} {p : PIn Ideal} {P : Par}

/-- The four packed arrays as the preparation leaves them hold what the main call reads. -/
theorem holds_of (h : PHolds p P) {yx yu : Vec Ideal S12288x128 .bf16} {ys : Vec Ideal S792x128 .f32} {yw : Vec Ideal S3712x128 .bf16}
    (hx : I.xp = xpOut p yx) (hu : I.up = upOut p yu) (hs : I.sp = spOut p ys) (hw : I.wp = wpOut p yw)
    (h1 : Is (φ := .f32) I.B1 P.B1) (h2 : Is (φ := .f32) I.B2 P.B2) : Holds I P where
  x0 := by
    rw [hx]
    exact Is.skip (by omega) (Is.skip (by omega) (Is.here (Is.trunc bitsLt_bf16_f32 h.x0)))
  u0 := by
    rw [hu]
    exact Is.skip (by omega) (Is.skip (by omega) (Is.here (Is.trunc bitsLt_bf16_f32 h.u0)))
  c0 := by
    rw [hs]
    exact Is.skip (by omega) (Is.skip (by omega) (Is.here (Is.cast shapeCasts_S1x128_S1x128 h.b0)))
  s01 := by
    rw [hs]
    exact Is.skip (by omega) (Is.skip (by omega) (Is.skip (by omega) (Is.skip (by omega) (Is.skip (by omega) (Is.skip (by omega) (Is.skip (by omega) (Is.skip (by omega) (Is.here (filter1_is (column_is h.l0))))))))))
  s02 := by
    rw [hs]
    exact Is.skip (by omega) (Is.skip (by omega) (Is.skip (by omega) (Is.skip (by omega) (Is.skip (by omega) (Is.skip (by omega) (Is.skip (by omega) (Is.here (filter2_is (column_is h.l0)))))))))
  i0 := by
    rw [hw]
    exact Is.skip (by omega) (Is.skip (by omega) (Is.skip (by omega) (Is.skip (by omega) (Is.skip (by omega) (Is.skip (by omega) (Is.skip (by omega) (Is.skip (by omega) (Is.skip (by omega) (Is.here (Is.trunc bitsLt_bf16_f32 h.wi0))))))))))
  w000 := by
    rw [hw]
    exact Is.skip (by omega) (Is.skip (by omega) (Is.skip (by omega) (Is.skip (by omega) (Is.skip (by omega) (Is.skip (by omega) (Is.inside (d := 0) (by omega) (by omega) fun i j => Is4.rows (φ := .bf16) h.ws0 shapeCasts_S2x3x128x128_S768x128 0 0 0 rfl i j _))))))
  w001 := by
    rw [hw]
    exact Is.skip (by omega) (Is.skip (by omega) (Is.skip (by omega) (Is.skip (by omega) (Is.skip (by omega) (Is.skip (by omega) (Is.inside (d := 128) (by omega) (by omega) fun i j => Is4.rows (φ := .bf16) h.ws0 shapeCasts_S2x3x128x128_S768x128 0 1 128 rfl i j _))))))
  w002 := by
    rw [hw]
    exact Is.skip (by omega) (Is.skip (by omega) (Is.skip (by omega) (Is.skip (by omega) (Is.skip (by omega) (Is.skip (by omega) (Is.inside (d := 256) (by omega) (by omega) fun i j => Is4.rows (φ := .bf16) h.ws0 shapeCasts_S2x3x128x128_S768x128 0 2 256 rfl i j _))))))
  w010 := by
    rw [hw]
    exact Is.skip (by omega) (Is.skip (by omega) (Is.skip (by omega) (Is.skip (by omega) (Is.skip (by omega) (Is.skip (by omega) (Is.inside (d := 384) (by omega) (by omega) fun i j => Is4.rows (φ := .bf16) h.ws0 shapeCasts_S2x3x128x128_S768x128 1 0 384 rfl i j _))))))
  w011 := by
    rw [hw]
    exact Is.skip (by omega) (Is.skip (by omega) (Is.skip (by omega) (Is.skip (by omega) (Is.skip (by omega) (Is.skip (by omega) (Is.inside (d := 512) (by omega) (by omega) fun i j => Is4.rows (φ := .bf16) h.ws0 shapeCasts_S2x3x128x128_S768x128 1 1 512 rfl i j _))))))
  w012 := by
    rw [hw]
    exact Is.skip (by omega) (Is.skip (by omega) (Is.skip (by omega) (Is.skip (by omega) (Is.skip (by omega) (Is.skip (by omega) (Is.inside (d := 640) (by omega) (by omega) fun i j => Is4.rows (φ := .bf16) h.ws0 shapeCasts_S2x3x128x128_S768x128 1 2 640 rfl i j _))))))
  x1 := by
    rw [hx]
    exact Is.skip (by omega) (Is.here (Is.trunc bitsLt_bf16_f32 h.x1))
  u1 := by
    rw [hu]
    exact Is.skip (by omega) (Is.here (Is.trunc bitsLt_bf16_f32 h.u1))
  c1 := by
    rw [hs]
    exact Is.skip (by omega) (Is.here (Is.cast shapeCasts_S1x128_S1x128 h.b1))
  s11 := by
    rw [hs]
    exact Is.skip (by omega) (Is.skip (by omega) (Is.skip (by omega) (Is.skip (by omega) (Is.skip (by omega) (Is.skip (by omega) (Is.here (filter1_is (column_is h.l1))))))))
  s12 := by
    rw [hs]
    exact Is.skip (by omega) (Is.skip (by omega) (Is.skip (by omega) (Is.skip (by omega) (Is.skip (by omega) (Is.here (filter2_is (column_is h.l1)))))))
  i1 := by
    rw [hw]
    exact Is.skip (by omega) (Is.skip (by omega) (Is.skip (by omega) (Is.skip (by omega) (Is.skip (by omega) (Is.skip (by omega) (Is.skip (by omega) (Is.skip (by omega) (Is.here (Is.trunc bitsLt_bf16_f32 h.wi1)))))))))
  w100 := by
    rw [hw]
    exact Is.skip (by omega) (Is.skip (by omega) (Is.skip (by omega) (Is.skip (by omega) (Is.skip (by omega) (Is.inside (d := 0) (by omega) (by omega) fun i j => Is4.rows (φ := .bf16) h.ws1 shapeCasts_S2x3x128x128_S768x128 0 0 0 rfl i j _)))))
  w101 := by
    rw [hw]
    exact Is.skip (by omega) (Is.skip (by omega) (Is.skip (by omega) (Is.skip (by omega) (Is.skip (by omega) (Is.inside (d := 128) (by omega) (by omega) fun i j => Is4.rows (φ := .bf16) h.ws1 shapeCasts_S2x3x128x128_S768x128 0 1 128 rfl i j _)))))
  w102 := by
    rw [hw]
    exact Is.skip (by omega) (Is.skip (by omega) (Is.skip (by omega) (Is.skip (by omega) (Is.skip (by omega) (Is.inside (d := 256) (by omega) (by omega) fun i j => Is4.rows (φ := .bf16) h.ws1 shapeCasts_S2x3x128x128_S768x128 0 2 256 rfl i j _)))))
  w110 := by
    rw [hw]
    exact Is.skip (by omega) (Is.skip (by omega) (Is.skip (by omega) (Is.skip (by omega) (Is.skip (by omega) (Is.inside (d := 384) (by omega) (by omega) fun i j => Is4.rows (φ := .bf16) h.ws1 shapeCasts_S2x3x128x128_S768x128 1 0 384 rfl i j _)))))
  w111 := by
    rw [hw]
    exact Is.skip (by omega) (Is.skip (by omega) (Is.skip (by omega) (Is.skip (by omega) (Is.skip (by omega) (Is.inside (d := 512) (by omega) (by omega) fun i j => Is4.rows (φ := .bf16) h.ws1 shapeCasts_S2x3x128x128_S768x128 1 1 512 rfl i j _)))))
  w112 := by
    rw [hw]
    exact Is.skip (by omega) (Is.skip (by omega) (Is.skip (by omega) (Is.skip (by omega) (Is.skip (by omega) (Is.inside (d := 640) (by omega) (by omega) fun i j => Is4.rows (φ := .bf16) h.ws1 shapeCasts_S2x3x128x128_S768x128 1 2 640 rfl i j _)))))
  x2 := by
    rw [hx]
    exact Is.here (Is.trunc bitsLt_bf16_f32 h.x2)
  u2 := by
    rw [hu]
    exact Is.here (Is.trunc bitsLt_bf16_f32 h.u2)
  c2 := by
    rw [hs]
    exact Is.here (Is.cast shapeCasts_S1x128_S1x128 h.b2)
  s21 := by
    rw [hs]
    exact Is.skip (by omega) (Is.skip (by omega) (Is.skip (by omega) (Is.skip (by omega) (Is.here (filter1_is (column_is h.l2))))))
  s22 := by
    rw [hs]
    exact Is.skip (by omega) (Is.skip (by omega) (Is.skip (by omega) (Is.here (filter2_is (column_is h.l2)))))
  i2 := by
    rw [hw]
    exact Is.skip (by omega) (Is.skip (by omega) (Is.skip (by omega) (Is.skip (by omega) (Is.skip (by omega) (Is.skip (by omega) (Is.skip (by omega) (Is.here (Is.trunc bitsLt_bf16_f32 h.wi2))))))))
  w200 := by
    rw [hw]
    exact Is.skip (by omega) (Is.skip (by omega) (Is.skip (by omega) (Is.skip (by omega) (Is.inside (d := 0) (by omega) (by omega) fun i j => Is4.rows (φ := .bf16) h.ws2 shapeCasts_S2x3x128x128_S768x128 0 0 0 rfl i j _))))
  w201 := by
    rw [hw]
    exact Is.skip (by omega) (Is.skip (by omega) (Is.skip (by omega) (Is.skip (by omega) (Is.inside (d := 128) (by omega) (by omega) fun i j => Is4.rows (φ := .bf16) h.ws2 shapeCasts_S2x3x128x128_S768x128 0 1 128 rfl i j _))))
  w202 := by
    rw [hw]
    exact Is.skip (by omega) (Is.skip (by omega) (Is.skip (by omega) (Is.skip (by omega) (Is.inside (d := 256) (by omega) (by omega) fun i j => Is4.rows (φ := .bf16) h.ws2 shapeCasts_S2x3x128x128_S768x128 0 2 256 rfl i j _))))
  w210 := by
    rw [hw]
    exact Is.skip (by omega) (Is.skip (by omega) (Is.skip (by omega) (Is.skip (by omega) (Is.inside (d := 384) (by omega) (by omega) fun i j => Is4.rows (φ := .bf16) h.ws2 shapeCasts_S2x3x128x128_S768x128 1 0 384 rfl i j _))))
  w211 := by
    rw [hw]
    exact Is.skip (by omega) (Is.skip (by omega) (Is.skip (by omega) (Is.skip (by omega) (Is.inside (d := 512) (by omega) (by omega) fun i j => Is4.rows (φ := .bf16) h.ws2 shapeCasts_S2x3x128x128_S768x128 1 1 512 rfl i j _))))
  w212 := by
    rw [hw]
    exact Is.skip (by omega) (Is.skip (by omega) (Is.skip (by omega) (Is.skip (by omega) (Is.inside (d := 640) (by omega) (by omega) fun i j => Is4.rows (φ := .bf16) h.ws2 shapeCasts_S2x3x128x128_S768x128 1 2 640 rfl i j _))))
  w01_0 := by
    rw [hw]
    exact Is.skip (by omega) (Is.skip (by omega) (Is.skip (by omega) (Is.inside (d := 0) (by omega) (by omega) fun i j => Is3.rows (φ := .bf16) h.w01 shapeCasts_S2x128x128_S256x128 0 0 rfl i j _)))
  w01_1 := by
    rw [hw]
    exact Is.skip (by omega) (Is.skip (by omega) (Is.skip (by omega) (Is.inside (d := 128) (by omega) (by omega) fun i j => Is3.rows (φ := .bf16) h.w01 shapeCasts_S2x128x128_S256x128 1 128 rfl i j _)))
  w10_0 := by
    rw [hw]
    exact Is.skip (by omega) (Is.skip (by omega) (Is.inside (d := 0) (by omega) (by omega) fun i j => Is3.rows (φ := .bf16) h.w10 shapeCasts_S2x128x128_S256x128 0 0 rfl i j _))
  w10_1 := by
    rw [hw]
    exact Is.skip (by omega) (Is.skip (by omega) (Is.inside (d := 128) (by omega) (by omega) fun i j => Is3.rows (φ := .bf16) h.w10 shapeCasts_S2x128x128_S256x128 1 128 rfl i j _))
  w12_0 := by
    rw [hw]
    exact Is.skip (by omega) (Is.inside (d := 0) (by omega) (by omega) fun i j => Is3.rows (φ := .bf16) h.w12 shapeCasts_S2x128x128_S256x128 0 0 rfl i j _)
  w12_1 := by
    rw [hw]
    exact Is.skip (by omega) (Is.inside (d := 128) (by omega) (by omega) fun i j => Is3.rows (φ := .bf16) h.w12 shapeCasts_S2x128x128_S256x128 1 128 rfl i j _)
  w21_0 := by
    rw [hw]
    exact Is.inside (d := 0) (by omega) (by omega) fun i j => Is3.rows (φ := .bf16) h.w21 shapeCasts_S2x128x128_S256x128 0 0 rfl i j _
  w21_1 := by
    rw [hw]
    exact Is.inside (d := 128) (by omega) (by omega) fun i j => Is3.rows (φ := .bf16) h.w21 shapeCasts_S2x128x128_S256x128 1 128 rfl i j _
  B1 := h1
  B2 := h2

/-- The arguments are as launched when the preparation starts. -/
theorem V1_arg (m : (ℓ : Loc nD τ sig) → Buf (Elt Ideal) ℓ) (c : Dev nD) (r : Ref sig .tc) (hr : r ∉ hostOps0_W) :
    V1 m c r = m ((c.tc : Thread nD τ).loc r) := (V1_of m c r hr).trans rfl

/-- What the host's reshaped row number 0 holds when the packing call starts. -/
theorem V1_v0 (m : (ℓ : Loc nD τ sig) → Buf (Elt Ideal) ℓ) (c : Dev nD) :
    (V1 m c main_v0 : FVec Ideal S1x128 .f32) = shapeCast S1x128 (m ((c.tc : Thread nD τ).loc main_arg3)) shapeCasts_S128_S1x128 := by
  unfold V1 hostOps0
  rfl

/-- What the host's reshaped row number 1 holds when the packing call starts. -/
theorem V1_v1 (m : (ℓ : Loc nD τ sig) → Buf (Elt Ideal) ℓ) (c : Dev nD) :
    (V1 m c main_v1 : FVec Ideal S1x128 .f32) = shapeCast S1x128 (m ((c.tc : Thread nD τ).loc main_arg5)) shapeCasts_S128_S1x128 := by
  unfold V1 hostOps0
  rfl

/-- What the host's reshaped row number 2 holds when the packing call starts. -/
theorem V1_v2 (m : (ℓ : Loc nD τ sig) → Buf (Elt Ideal) ℓ) (c : Dev nD) :
    (V1 m c main_v2 : FVec Ideal S1x128 .f32) = shapeCast S1x128 (m ((c.tc : Thread nD τ).loc main_arg7)) shapeCasts_S128_S1x128 := by
  unfold V1 hostOps0
  rfl

/-- What the host's reshaped row number 3 holds when the packing call starts. -/
theorem V1_v3 (m : (ℓ : Loc nD τ sig) → Buf (Elt Ideal) ℓ) (c : Dev nD) :
    (V1 m c main_v3 : FVec Ideal S1x128 .f32) = shapeCast S1x128 (m ((c.tc : Thread nD τ).loc main_arg12)) shapeCasts_S128_S1x128 := by
  unfold V1 hostOps0
  rfl

/-- What the host's reshaped row number 4 holds when the packing call starts. -/
theorem V1_v4 (m : (ℓ : Loc nD τ sig) → Buf (Elt Ideal) ℓ) (c : Dev nD) :
    (V1 m c main_v4 : FVec Ideal S1x128 .f32) = shapeCast S1x128 (m ((c.tc : Thread nD τ).loc main_arg14)) shapeCasts_S128_S1x128 := by
  unfold V1 hostOps0
  rfl

/-- What the host's reshaped row number 5 holds when the packing call starts. -/
theorem V1_v5 (m : (ℓ : Loc nD τ sig) → Buf (Elt Ideal) ℓ) (c : Dev nD) :
    (V1 m c main_v5 : FVec Ideal S1x128 .f32) = shapeCast S1x128 (m ((c.tc : Thread nD τ).loc main_arg16)) shapeCasts_S128_S1x128 := by
  unfold V1 hostOps0
  rfl

set_option maxHeartbeats 4000000 in
/-- What the preparation reads holds the parameters. -/
theorem pholds (m : (ℓ : Loc nD τ sig) → Buf (Elt Ideal) ℓ) (c : Dev nD)
    (g : Given (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) P) : PHolds (pinp (V1 m c)) P where
  x0 := Is.at (V1_arg m c main_arg0 (by decide)) (g.X0)
  u0 := Is.at (V1_arg m c main_arg4 (by decide)) (g.U0)
  l0 := Is.at (V1_v0 m c) (Is1.cast g.l0 shapeCasts_S128_S1x128)
  wi0 := Is.at (V1_arg m c main_arg11 (by decide)) (g.I0)
  ws0 := Is4.at (V1_arg m c main_arg17 (by decide)) (g.S0)
  b0 := Is.at (V1_v3 m c) (Is1.cast g.c0 shapeCasts_S128_S1x128)
  x1 := Is.at (V1_arg m c main_arg1 (by decide)) (g.X1)
  u1 := Is.at (V1_arg m c main_arg6 (by decide)) (g.U1)
  l1 := Is.at (V1_v1 m c) (Is1.cast g.l1 shapeCasts_S128_S1x128)
  wi1 := Is.at (V1_arg m c main_arg13 (by decide)) (g.I1)
  ws1 := Is4.at (V1_arg m c main_arg18 (by decide)) (g.S1)
  b1 := Is.at (V1_v4 m c) (Is1.cast g.c1 shapeCasts_S128_S1x128)
  x2 := Is.at (V1_arg m c main_arg2 (by decide)) (g.X2)
  u2 := Is.at (V1_arg m c main_arg8 (by decide)) (g.U2)
  l2 := Is.at (V1_v2 m c) (Is1.cast g.l2 shapeCasts_S128_S1x128)
  wi2 := Is.at (V1_arg m c main_arg15 (by decide)) (g.I2)
  ws2 := Is4.at (V1_arg m c main_arg19 (by decide)) (g.S2)
  b2 := Is.at (V1_v5 m c) (Is1.cast g.c2 shapeCasts_S128_S1x128)
  w01 := Is3.at (V1_arg m c main_arg20 (by decide)) (g.W01)
  w10 := Is3.at (V1_arg m c main_arg21 (by decide)) (g.W10)
  w12 := Is3.at (V1_arg m c main_arg22 (by decide)) (g.W12)
  w21 := Is3.at (V1_arg m c main_arg23 (by decide)) (g.W21)

/-- What the preparation leaves from the arguments, the spectra and biases reshaped before it. -/
theorem holds_left (m : (ℓ : Loc nD τ sig) → Buf (Elt Ideal) ℓ) (c : Dev nD) {W : Valuation τ sig (Elt Ideal)} (hL : Left (V1 m c) W)
    (g : Given (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) P) : Holds (inp W) P := by
  obtain ⟨hk, ⟨yx, hx⟩, ⟨yu, hu⟩, ⟨ys, hs⟩, ⟨yw, hw⟩⟩ := hL
  refine holds_of (p := pinp (V1 m c)) (pholds m c g) hx hu hs hw ?_ ?_
  · have e : W main_arg9 = _ := (hk main_arg9 (by decide)).trans (V1_arg m c main_arg9 (by decide))
    show Is (φ := .f32) (W main_arg9) _
    rw [e]; exact g.B1
  · have e : W main_arg10 = _ := (hk main_arg10 (by decide)).trans (V1_arg m c main_arg10 (by decide))
    show Is (φ := .f32) (W main_arg10) _
    rw [e]; exact g.B2

end Cert.KernelIdeal.Main

end
-- ==== Proof.ReferenceReal.lean ====
/-
  The reference's results hold the network over the reals.
-/
module

public import proofs.«01_k».proof.Proof.Gen.ReferenceIdeal
public import proofs.«01_k».proof.Proof.Gen.ReferenceIdeal.Run
public import proofs.«01_k».proof.Proof.RealLaws

@[expose] public section

noncomputable section

namespace Cert.ReferenceIdeal.Value

open Cert.ReferenceIdeal Cert.ReferenceIdeal.Gen Cert.RealMat
open Idealize.ShloMosaic hiding ix1 ix2 ix3 ix4 eq_ix2
open Idealize.ShloMosaic.ValueIdx
open Idealize.ShloMosaic.TcCoe Idealize.SL.Sem Idealize.ShloMosaic.StableHlo

variable {V : Valuation τ sig (Elt Ideal)} {P : Par}

/-- The arguments hold the parameters. -/
abbrev ArgsHold (V : Valuation τ sig (Elt Ideal)) (P : Par) : Prop :=
  Given (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) P

/-- The projected features of rank 0. -/
theorem proj0_is (g : ArgsHold V P) : Is (φ := .f32) (res_main_v3 V) (proj P).h0 := by
  unfold res_main_v3
  exact Is.add (Is.dot _ rfl g.X0 g.I0) (Is1.bias g.c0 bcast_S128_S1x128_1 bcast_S1x128_S2048x128_0_1)

/-- The projected features of rank 1. -/
theorem proj1_is (g : ArgsHold V P) : Is (φ := .f32) (res_main_v7 V) (proj P).h1 := by
  unfold res_main_v7
  exact Is.add (Is.dot _ rfl g.X1 g.I1) (Is1.bias g.c1 bcast_S128_S1x128_1 bcast_S1x128_S6144x128_0_1)

/-- The projected features of rank 2. -/
theorem proj2_is (g : ArgsHold V P) : Is (φ := .f32) (res_main_v11 V) (proj P).h2 := by
  unfold res_main_v11
  exact Is.add (Is.dot _ rfl g.X2 g.I2) (Is1.bias g.c2 bcast_S128_S1x128_1 bcast_S1x128_S4096x128_0_1)

/-- The three weights of rank 0, layer 0. -/
theorem stack00_is (g : ArgsHold V P) : Is3 (φ := .f32) (res_main_v13 V) (P.S0 0) := by
  unfold res_main_v13
  exact Is4.stack g.S0 0 rfl slices_S2x3x128x128_S1x3x128x128_0_0_0_0 shapeCasts_S1x3x128x128_S3x128x128

/-- The three weights of rank 1, layer 0. -/
theorem stack01_is (g : ArgsHold V P) : Is3 (φ := .f32) (res_main_v56 V) (P.S1 0) := by
  unfold res_main_v56
  exact Is4.stack g.S1 0 rfl slices_S2x3x128x128_S1x3x128x128_0_0_0_0 shapeCasts_S1x3x128x128_S3x128x128

/-- The three weights of rank 2, layer 0. -/
theorem stack02_is (g : ArgsHold V P) : Is3 (φ := .f32) (res_main_v105 V) (P.S2 0) := by
  unfold res_main_v105
  exact Is4.stack g.S2 0 rfl slices_S2x3x128x128_S1x3x128x128_0_0_0_0 shapeCasts_S1x3x128x128_S3x128x128

/-- The three weights of rank 0, layer 1. -/
theorem stack10_is (g : ArgsHold V P) : Is3 (φ := .f32) (res_main_v149 V) (P.S0 1) := by
  unfold res_main_v149
  exact Is4.stack g.S0 1 rfl slices_S2x3x128x128_S1x3x128x128_1_0_0_0 shapeCasts_S1x3x128x128_S3x128x128

/-- The three weights of rank 1, layer 1. -/
theorem stack11_is (g : ArgsHold V P) : Is3 (φ := .f32) (res_main_v192 V) (P.S1 1) := by
  unfold res_main_v192
  exact Is4.stack g.S1 1 rfl slices_S2x3x128x128_S1x3x128x128_1_0_0_0 shapeCasts_S1x3x128x128_S3x128x128

/-- The three weights of rank 2, layer 1. -/
theorem stack12_is (g : ArgsHold V P) : Is3 (φ := .f32) (res_main_v241 V) (P.S2 1) := by
  unfold res_main_v241
  exact Is4.stack g.S2 1 rfl slices_S2x3x128x128_S1x3x128x128_1_0_0_0 shapeCasts_S1x3x128x128_S3x128x128

/-- The features of rank 0 in the spectral domain, layer 0. -/
theorem spectral00_is (g : ArgsHold V P) : Is (φ := .f32) (res_main_v15 V) (P.U0.transpose * (proj P).h0) := by
  unfold res_main_v15
  exact Is.dot _ rfl (Is.transpose transposes_S2048x128_S128x2048_1_0 g.U0) (proj0_is g)

/-- The features of rank 1 in the spectral domain, layer 0. -/
theorem spectral01_is (g : ArgsHold V P) : Is (φ := .f32) (res_main_v58 V) (P.U1.transpose * (proj P).h1) := by
  unfold res_main_v58
  exact Is.dot _ rfl (Is.transpose transposes_S6144x128_S128x6144_1_0 g.U1) (proj1_is g)

/-- The features of rank 2 in the spectral domain, layer 0. -/
theorem spectral02_is (g : ArgsHold V P) : Is (φ := .f32) (res_main_v107 V) (P.U2.transpose * (proj P).h2) := by
  unfold res_main_v107
  exact Is.dot _ rfl (Is.transpose transposes_S4096x128_S128x4096_1_0 g.U2) (proj2_is g)

/-- The first layer of rank 0. -/
theorem layer0_is (g : ArgsHold V P) : Is (φ := .f32) (res_main_v54 V) (layer P 0 (proj P)).h0 := by
  unfold res_main_v54
  exact Is.add (Is.specHost g.U0 (spectral00_is g) (stack00_is g) g.l0 dot_S2048x128_S128x128_S2048x128_1_0_0_1_n_n rfl bcast_S_S2048x128 bcast_S_S128 bcast_S128_S128x1_0 bcast_S128x1_S128x128_0_1
    slices_S3x128x128_S1x128x128_0_0_0 slices_S3x128x128_S1x128x128_1_0_0 slices_S3x128x128_S1x128x128_2_0_0 shapeCasts_S1x128x128_S128x128)
    (Is.dot _ rfl (Is.dot _ rfl g.B1 (proj1_is g)) (Is3.mat g.W01 0 rfl slices_S2x128x128_S1x128x128_0_0_0 shapeCasts_S1x128x128_S128x128))

/-- The first layer of rank 1. -/
theorem layer1_is (g : ArgsHold V P) : Is (φ := .f32) (res_main_v103 V) (layer P 0 (proj P)).h1 := by
  unfold res_main_v103
  exact Is.add (Is.add (Is.specHost g.U1 (spectral01_is g) (stack01_is g) g.l1 dot_S6144x128_S128x128_S6144x128_1_0_0_1_n_n rfl bcast_S_S6144x128 bcast_S_S128 bcast_S128_S128x1_0 bcast_S128x1_S128x128_0_1
    slices_S3x128x128_S1x128x128_0_0_0 slices_S3x128x128_S1x128x128_1_0_0 slices_S3x128x128_S1x128x128_2_0_0 shapeCasts_S1x128x128_S128x128)
    (Is.dot _ rfl (Is.dot _ rfl (Is.transpose transposes_S2048x6144_S6144x2048_1_0 g.B1) (proj0_is g)) (Is3.mat g.W10 0 rfl slices_S2x128x128_S1x128x128_0_0_0 shapeCasts_S1x128x128_S128x128)))
    (Is.dot _ rfl (Is.dot _ rfl g.B2 (proj2_is g)) (Is3.mat g.W12 0 rfl slices_S2x128x128_S1x128x128_0_0_0 shapeCasts_S1x128x128_S128x128))

/-- The first layer of rank 2. -/
theorem layer2_is (g : ArgsHold V P) : Is (φ := .f32) (res_main_v147 V) (layer P 0 (proj P)).h2 := by
  unfold res_main_v147
  exact Is.add (Is.specHost g.U2 (spectral02_is g) (stack02_is g) g.l2 dot_S4096x128_S128x128_S4096x128_1_0_0_1_n_n rfl bcast_S_S4096x128 bcast_S_S128 bcast_S128_S128x1_0 bcast_S128x1_S128x128_0_1
    slices_S3x128x128_S1x128x128_0_0_0 slices_S3x128x128_S1x128x128_1_0_0 slices_S3x128x128_S1x128x128_2_0_0 shapeCasts_S1x128x128_S128x128)
    (Is.dot _ rfl (Is.dot _ rfl (Is.transpose transposes_S6144x4096_S4096x6144_1_0 g.B2) (proj1_is g)) (Is3.mat g.W21 0 rfl slices_S2x128x128_S1x128x128_0_0_0 shapeCasts_S1x128x128_S128x128))

/-- The features of rank 0 in the spectral domain, layer 1. -/
theorem spectral10_is (g : ArgsHold V P) : Is (φ := .f32) (res_main_v151 V) (P.U0.transpose * (layer P 0 (proj P)).h0) := by
  unfold res_main_v151
  exact Is.dot _ rfl (Is.transpose transposes_S2048x128_S128x2048_1_0 g.U0) (layer0_is g)

/-- The features of rank 1 in the spectral domain, layer 1. -/
theorem spectral11_is (g : ArgsHold V P) : Is (φ := .f32) (res_main_v194 V) (P.U1.transpose * (layer P 0 (proj P)).h1) := by
  unfold res_main_v194
  exact Is.dot _ rfl (Is.transpose transposes_S6144x128_S128x6144_1_0 g.U1) (layer1_is g)

/-- The features of rank 2 in the spectral domain, layer 1. -/
theorem spectral12_is (g : ArgsHold V P) : Is (φ := .f32) (res_main_v243 V) (P.U2.transpose * (layer P 0 (proj P)).h2) := by
  unfold res_main_v243
  exact Is.dot _ rfl (Is.transpose transposes_S4096x128_S128x4096_1_0 g.U2) (layer2_is g)

/-- The run: where the arguments hold the parameters the results hold the second layer, and every argument is kept. -/
theorem run_is (m : (ℓ : Loc nD τ sig) → Buf (Elt Ideal) ℓ) (ρ : Dev nD → PrngReg) :
    θ_run (defs (F := Ideal)) (onTc (τ := τ) (main (F := Ideal))) ⟨m, fun _ => 0, ρ⟩ fun r => ∀ (c : Dev nD) (P : Par), ArgsHold (launchContents m c) P →
      Is (φ := .f32) (r.2.mem ((c.tc : Thread nD τ).loc main_v190)) (layer P 1 (layer P 0 (proj P))).h0
      ∧ Is (φ := .f32) (r.2.mem ((c.tc : Thread nD τ).loc main_v239)) (layer P 1 (layer P 0 (proj P))).h1
      ∧ Is (φ := .f32) (r.2.mem ((c.tc : Thread nD τ).loc main_v283)) (layer P 1 (layer P 0 (proj P))).h2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c P g => by
    obtain ⟨h0, h1, h2, ha⟩ := h c
    refine ⟨Is.at h0 ?_, Is.at h1 ?_, Is.at h2 ?_, ha⟩
    · exact Is.add (Is.specHost g.U0 (spectral10_is g) (stack10_is g) g.l0 dot_S2048x128_S128x128_S2048x128_1_0_0_1_n_n rfl bcast_S_S2048x128 bcast_S_S128 bcast_S128_S128x1_0 bcast_S128x1_S128x128_0_1
        slices_S3x128x128_S1x128x128_0_0_0 slices_S3x128x128_S1x128x128_1_0_0 slices_S3x128x128_S1x128x128_2_0_0 shapeCasts_S1x128x128_S128x128)
        (Is.dot _ rfl (Is.dot _ rfl g.B1 (layer1_is g)) (Is3.mat g.W01 1 rfl slices_S2x128x128_S1x128x128_1_0_0 shapeCasts_S1x128x128_S128x128))
    · exact Is.add (Is.add (Is.specHost g.U1 (spectral11_is g) (stack11_is g) g.l1 dot_S6144x128_S128x128_S6144x128_1_0_0_1_n_n rfl bcast_S_S6144x128 bcast_S_S128 bcast_S128_S128x1_0 bcast_S128x1_S128x128_0_1
        slices_S3x128x128_S1x128x128_0_0_0 slices_S3x128x128_S1x128x128_1_0_0 slices_S3x128x128_S1x128x128_2_0_0 shapeCasts_S1x128x128_S128x128)
        (Is.dot _ rfl (Is.dot _ rfl (Is.transpose transposes_S2048x6144_S6144x2048_1_0 g.B1) (layer0_is g)) (Is3.mat g.W10 1 rfl slices_S2x128x128_S1x128x128_1_0_0 shapeCasts_S1x128x128_S128x128)))
        (Is.dot _ rfl (Is.dot _ rfl g.B2 (layer2_is g)) (Is3.mat g.W12 1 rfl slices_S2x128x128_S1x128x128_1_0_0 shapeCasts_S1x128x128_S128x128))
    · exact Is.add (Is.specHost g.U2 (spectral12_is g) (stack12_is g) g.l2 dot_S4096x128_S128x128_S4096x128_1_0_0_1_n_n rfl bcast_S_S4096x128 bcast_S_S128 bcast_S128_S128x1_0 bcast_S128x1_S128x128_0_1
        slices_S3x128x128_S1x128x128_0_0_0 slices_S3x128x128_S1x128x128_1_0_0 slices_S3x128x128_S1x128x128_2_0_0 shapeCasts_S1x128x128_S128x128)
        (Is.dot _ rfl (Is.dot _ rfl (Is.transpose transposes_S6144x4096_S4096x6144_1_0 g.B2) (layer1_is g)) (Is3.mat g.W21 1 rfl slices_S2x128x128_S1x128x128_1_0_0 shapeCasts_S1x128x128_S128x128))) (run m ρ)

end Cert.ReferenceIdeal.Value

end
-- ==== Proof.Finite.lean ====
/-
  The precondition over the extended reals: an entry that is zero when taken from itself is a real number, so arguments of which the
  precondition holds are arrays of reals.
-/
module

public import proofs.«01_k».proof.Pre_finite
public import proofs.«01_k».proof.Proof.RealLaws
public import Idealize.ShloMosaic.Lib.ReduceAll
public import Idealize.ShloMosaic.Lib.Affine

@[expose] public section

noncomputable section

namespace Cert.Pre_finite

open Idealize.ShloMosaic hiding ix1 ix2 ix3 ix4 eq_ix2
open Idealize.ShloMosaic.ValueIdx

/-- The side conditions of the precondition. -/
instance facts : Facts where
  bcast_S_S2048x128 := by decide
  reducesTo_S2048x128_S_d0_1 := by decide
  h_S_ := by decide
  bcast_S_S6144x128 := by decide
  reducesTo_S6144x128_S_d0_1 := by decide
  bcast_S_S4096x128 := by decide
  reducesTo_S4096x128_S_d0_1 := by decide
  bcast_S_S128 := by decide
  reducesTo_S128_S_d0 := by decide
  bcast_S_S2048x6144 := by decide
  reducesTo_S2048x6144_S_d0_1 := by decide
  bcast_S_S6144x4096 := by decide
  reducesTo_S6144x4096_S_d0_1 := by decide
  bcast_S_S128x128 := by decide
  reducesTo_S128x128_S_d0_1 := by decide
  bcast_S_S2x3x128x128 := by decide
  reducesTo_S2x3x128x128_S_d0_1_2_3 := by decide
  bcast_S_S2x128x128 := by decide
  reducesTo_S2x128x128_S_d0_1_2 := by decide

/-- An extended real that is zero when taken from itself is a real number. -/
theorem real_of_sub_self {x : EReal} (h : x - x = 0) : x = ((x.toReal : ℝ) : EReal) := by
  induction x with
  | bot => exact absurd h (by simp)
  | top => exact absurd h (by simp)
  | coe r => rfl

/-- One conjunct of the precondition: every entry is a real number. -/
theorem real_of {s : Shape} {axes : List (Fin s.rank)} (x : FVec Ideal s .f32) (hb : S_.BroadcastsInDim s ![]) (h : s.ReducesTo axes S_) (hu : 0 < S_.numel) (j : S_.Idx)
    (e : Host.reduce IntOp.andi (cmpf .oeq (subf x x) (broadcastInDim s ![] hb (constant (F := Ideal) S_ .f32 0x00000000#32))) (constantI S_ 1 1#1) h hu j = 1#1) (i : s.Idx) :
    x i = (((x i).toReal : ℝ) : EReal) := by
  haveI : Subsingleton S_.Idx := ⟨fun a b => funext fun q => q.elim0⟩
  have h1 := Host.reduce_andi_all _ _ h hu j e i
  refine real_of_sub_self ?_
  have h2 : FloatOps.cmpf (F := Ideal) .oeq (x i - x i) (Ideal.ofBits .f32 0x00000000#32) = 1#1 := h1
  rw [Ideal.ofBits_zero_f32] at h2
  by_contra hne
  have h3 : Ideal.cmp .oeq (x i - x i) 0 = 1#1 := h2
  simp [Ideal.cmp, hne] at h3

/-- Of arguments of which the precondition holds every entry is a real number. -/
theorem reals (a0 : FVec Ideal S2048x128 .f32) (a1 : FVec Ideal S6144x128 .f32) (a2 : FVec Ideal S4096x128 .f32) (a3 : FVec Ideal S128 .f32) (a4 : FVec Ideal S2048x128 .f32) (a5 : FVec Ideal S128 .f32) (a6 : FVec Ideal S6144x128 .f32) (a7 : FVec Ideal S128 .f32) (a8 : FVec Ideal S4096x128 .f32) (a9 : FVec Ideal S2048x6144 .f32) (a10 : FVec Ideal S6144x4096 .f32) (a11 : FVec Ideal S128x128 .f32) (a12 : FVec Ideal S128 .f32) (a13 : FVec Ideal S128x128 .f32) (a14 : FVec Ideal S128 .f32) (a15 : FVec Ideal S128x128 .f32) (a16 : FVec Ideal S128 .f32) (a17 : FVec Ideal S2x3x128x128 .f32) (a18 : FVec Ideal S2x3x128x128 .f32) (a19 : FVec Ideal S2x3x128x128 .f32) (a20 : FVec Ideal S2x128x128 .f32) (a21 : FVec Ideal S2x128x128 .f32) (a22 : FVec Ideal S2x128x128 .f32) (a23 : FVec Ideal S2x128x128 .f32)
    (h : fn (F := Ideal) a0 a1 a2 a3 a4 a5 a6 a7 a8 a9 a10 a11 a12 a13 a14 a15 a16 a17 a18 a19 a20 a21 a22 a23 = fun _ => 1#1) :
    (∀ i, a0 i = (((a0 i).toReal : ℝ) : EReal)) ∧ (∀ i, a1 i = (((a1 i).toReal : ℝ) : EReal)) ∧ (∀ i, a2 i = (((a2 i).toReal : ℝ) : EReal)) ∧ (∀ i, a3 i = (((a3 i).toReal : ℝ) : EReal)) ∧ (∀ i, a4 i = (((a4 i).toReal : ℝ) : EReal)) ∧ (∀ i, a5 i = (((a5 i).toReal : ℝ) : EReal)) ∧ (∀ i, a6 i = (((a6 i).toReal : ℝ) : EReal)) ∧ (∀ i, a7 i = (((a7 i).toReal : ℝ) : EReal)) ∧ (∀ i, a8 i = (((a8 i).toReal : ℝ) : EReal)) ∧ (∀ i, a9 i = (((a9 i).toReal : ℝ) : EReal)) ∧ (∀ i, a10 i = (((a10 i).toReal : ℝ) : EReal)) ∧ (∀ i, a11 i = (((a11 i).toReal : ℝ) : EReal)) ∧ (∀ i, a12 i = (((a12 i).toReal : ℝ) : EReal)) ∧ (∀ i, a13 i = (((a13 i).toReal : ℝ) : EReal)) ∧ (∀ i, a14 i = (((a14 i).toReal : ℝ) : EReal)) ∧ (∀ i, a15 i = (((a15 i).toReal : ℝ) : EReal)) ∧ (∀ i, a16 i = (((a16 i).toReal : ℝ) : EReal)) ∧ (∀ i, a17 i = (((a17 i).toReal : ℝ) : EReal)) ∧ (∀ i, a18 i = (((a18 i).toReal : ℝ) : EReal)) ∧ (∀ i, a19 i = (((a19 i).toReal : ℝ) : EReal)) ∧ (∀ i, a20 i = (((a20 i).toReal : ℝ) : EReal)) ∧ (∀ i, a21 i = (((a21 i).toReal : ℝ) : EReal)) ∧ (∀ i, a22 i = (((a22 i).toReal : ℝ) : EReal)) ∧ (∀ i, a23 i = (((a23 i).toReal : ℝ) : EReal)) := by
  have e := congrFun h ValueIdx.ix0
  unfold fn fn_part1 fn_part2 fn_part3 fn_part4 fn_part5 fn_part6 at e
  dsimp only at e
  obtain ⟨e, e23⟩ := IntOp.andi_eq_one.1 e
  obtain ⟨e, e22⟩ := IntOp.andi_eq_one.1 e
  obtain ⟨e, e21⟩ := IntOp.andi_eq_one.1 e
  obtain ⟨e, e20⟩ := IntOp.andi_eq_one.1 e
  obtain ⟨e, e19⟩ := IntOp.andi_eq_one.1 e
  obtain ⟨e, e18⟩ := IntOp.andi_eq_one.1 e
  obtain ⟨e, e17⟩ := IntOp.andi_eq_one.1 e
  obtain ⟨e, e16⟩ := IntOp.andi_eq_one.1 e
  obtain ⟨e, e15⟩ := IntOp.andi_eq_one.1 e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  exact ⟨real_of _ _ _ _ _ e, real_of _ _ _ _ _ e1, real_of _ _ _ _ _ e2, real_of _ _ _ _ _ e3, real_of _ _ _ _ _ e4, real_of _ _ _ _ _ e5, real_of _ _ _ _ _ e6, real_of _ _ _ _ _ e7, real_of _ _ _ _ _ e8, real_of _ _ _ _ _ e9, real_of _ _ _ _ _ e10, real_of _ _ _ _ _ e11, real_of _ _ _ _ _ e12, real_of _ _ _ _ _ e13, real_of _ _ _ _ _ e14, real_of _ _ _ _ _ e15, real_of _ _ _ _ _ e16, real_of _ _ _ _ _ e17, real_of _ _ _ _ _ e18, real_of _ _ _ _ _ e19, real_of _ _ _ _ _ e20, real_of _ _ _ _ _ e21, real_of _ _ _ _ _ e22, real_of _ _ _ _ _ e23⟩

end Cert.Pre_finite

end
-- ==== Proof.Given.lean ====
/-
  The parameters read off arguments every entry of which is finite.
-/
module

public import proofs.«01_k».proof.Proof.Finite
public import proofs.«01_k».proof.Proof.RealLaws

@[expose] public section

noncomputable section

namespace Cert.RealMat

open Idealize.ShloMosaic hiding ix1 ix2 ix3 ix4 eq_ix2
open Idealize.ShloMosaic.ValueIdx

/-- The real numbers that the arguments' entries stand for. -/
def par (a0 : FVec Ideal ⟨2, ![2048, 128]⟩ .f32)
    (a1 : FVec Ideal ⟨2, ![6144, 128]⟩ .f32)
    (a2 : FVec Ideal ⟨2, ![4096, 128]⟩ .f32)
    (a3 : FVec Ideal ⟨1, ![128]⟩ .f32)
    (a4 : FVec Ideal ⟨2, ![2048, 128]⟩ .f32)
    (a5 : FVec Ideal ⟨1, ![128]⟩ .f32)
    (a6 : FVec Ideal ⟨2, ![6144, 128]⟩ .f32)
    (a7 : FVec Ideal ⟨1, ![128]⟩ .f32)
    (a8 : FVec Ideal ⟨2, ![4096, 128]⟩ .f32)
    (a9 : FVec Ideal ⟨2, ![2048, 6144]⟩ .f32)
    (a10 : FVec Ideal ⟨2, ![6144, 4096]⟩ .f32)
    (a11 : FVec Ideal ⟨2, ![128, 128]⟩ .f32)
    (a12 : FVec Ideal ⟨1, ![128]⟩ .f32)
    (a13 : FVec Ideal ⟨2, ![128, 128]⟩ .f32)
    (a14 : FVec Ideal ⟨1, ![128]⟩ .f32)
    (a15 : FVec Ideal ⟨2, ![128, 128]⟩ .f32)
    (a16 : FVec Ideal ⟨1, ![128]⟩ .f32)
    (a17 : FVec Ideal ⟨4, ![2, 3, 128, 128]⟩ .f32)
    (a18 : FVec Ideal ⟨4, ![2, 3, 128, 128]⟩ .f32)
    (a19 : FVec Ideal ⟨4, ![2, 3, 128, 128]⟩ .f32)
    (a20 : FVec Ideal ⟨3, ![2, 128, 128]⟩ .f32)
    (a21 : FVec Ideal ⟨3, ![2, 128, 128]⟩ .f32)
    (a22 : FVec Ideal ⟨3, ![2, 128, 128]⟩ .f32)
    (a23 : FVec Ideal ⟨3, ![2, 128, 128]⟩ .f32) : Par where
  X0 := Matrix.of fun i j => (a0 (ix2 i j)).toReal
  X1 := Matrix.of fun i j => (a1 (ix2 i j)).toReal
  X2 := Matrix.of fun i j => (a2 (ix2 i j)).toReal
  l0 := fun i => (a3 (ix1 i)).toReal
  U0 := Matrix.of fun i j => (a4 (ix2 i j)).toReal
  l1 := fun i => (a5 (ix1 i)).toReal
  U1 := Matrix.of fun i j => (a6 (ix2 i j)).toReal
  l2 := fun i => (a7 (ix1 i)).toReal
  U2 := Matrix.of fun i j => (a8 (ix2 i j)).toReal
  B1 := Matrix.of fun i j => (a9 (ix2 i j)).toReal
  B2 := Matrix.of fun i j => (a10 (ix2 i j)).toReal
  I0 := Matrix.of fun i j => (a11 (ix2 i j)).toReal
  c0 := fun i => (a12 (ix1 i)).toReal
  I1 := Matrix.of fun i j => (a13 (ix2 i j)).toReal
  c1 := fun i => (a14 (ix1 i)).toReal
  I2 := Matrix.of fun i j => (a15 (ix2 i j)).toReal
  c2 := fun i => (a16 (ix1 i)).toReal
  S0 := fun l q => Matrix.of fun i j => (a17 (ix4 l q i j)).toReal
  S1 := fun l q => Matrix.of fun i j => (a18 (ix4 l q i j)).toReal
  S2 := fun l q => Matrix.of fun i j => (a19 (ix4 l q i j)).toReal
  W01 := fun l => Matrix.of fun i j => (a20 (ix3 l i j)).toReal
  W10 := fun l => Matrix.of fun i j => (a21 (ix3 l i j)).toReal
  W12 := fun l => Matrix.of fun i j => (a22 (ix3 l i j)).toReal
  W21 := fun l => Matrix.of fun i j => (a23 (ix3 l i j)).toReal

/-- Finite arguments hold their parameters. -/
theorem given (a0 : FVec Ideal ⟨2, ![2048, 128]⟩ .f32)
    (a1 : FVec Ideal ⟨2, ![6144, 128]⟩ .f32)
    (a2 : FVec Ideal ⟨2, ![4096, 128]⟩ .f32)
    (a3 : FVec Ideal ⟨1, ![128]⟩ .f32)
    (a4 : FVec Ideal ⟨2, ![2048, 128]⟩ .f32)
    (a5 : FVec Ideal ⟨1, ![128]⟩ .f32)
    (a6 : FVec Ideal ⟨2, ![6144, 128]⟩ .f32)
    (a7 : FVec Ideal ⟨1, ![128]⟩ .f32)
    (a8 : FVec Ideal ⟨2, ![4096, 128]⟩ .f32)
    (a9 : FVec Ideal ⟨2, ![2048, 6144]⟩ .f32)
    (a10 : FVec Ideal ⟨2, ![6144, 4096]⟩ .f32)
    (a11 : FVec Ideal ⟨2, ![128, 128]⟩ .f32)
    (a12 : FVec Ideal ⟨1, ![128]⟩ .f32)
    (a13 : FVec Ideal ⟨2, ![128, 128]⟩ .f32)
    (a14 : FVec Ideal ⟨1, ![128]⟩ .f32)
    (a15 : FVec Ideal ⟨2, ![128, 128]⟩ .f32)
    (a16 : FVec Ideal ⟨1, ![128]⟩ .f32)
    (a17 : FVec Ideal ⟨4, ![2, 3, 128, 128]⟩ .f32)
    (a18 : FVec Ideal ⟨4, ![2, 3, 128, 128]⟩ .f32)
    (a19 : FVec Ideal ⟨4, ![2, 3, 128, 128]⟩ .f32)
    (a20 : FVec Ideal ⟨3, ![2, 128, 128]⟩ .f32)
    (a21 : FVec Ideal ⟨3, ![2, 128, 128]⟩ .f32)
    (a22 : FVec Ideal ⟨3, ![2, 128, 128]⟩ .f32)
    (a23 : FVec Ideal ⟨3, ![2, 128, 128]⟩ .f32)
    (h : Cert.Pre_finite.fn (F := Ideal) a0 a1 a2 a3 a4 a5 a6 a7 a8 a9 a10 a11 a12 a13 a14 a15 a16 a17 a18 a19 a20 a21 a22 a23 = fun _ => 1#1) :
    Given a0 a1 a2 a3 a4 a5 a6 a7 a8 a9 a10 a11 a12 a13 a14 a15 a16 a17 a18 a19 a20 a21 a22 a23 (par a0 a1 a2 a3 a4 a5 a6 a7 a8 a9 a10 a11 a12 a13 a14 a15 a16 a17 a18 a19 a20 a21 a22 a23) := by
  obtain ⟨h0, h1, h2, h3, h4, h5, h6, h7, h8, h9, h10, h11, h12, h13, h14, h15, h16, h17, h18, h19, h20, h21, h22, h23⟩ := Cert.Pre_finite.reals a0 a1 a2 a3 a4 a5 a6 a7 a8 a9 a10 a11 a12 a13 a14 a15 a16 a17 a18 a19 a20 a21 a22 a23 h
  exact ⟨fun i j => h0 _, fun i j => h1 _, fun i j => h2 _, fun i => h3 _, fun i j => h4 _, fun i => h5 _, fun i j => h6 _, fun i => h7 _, fun i j => h8 _, fun i j => h9 _, fun i j => h10 _, fun i j => h11 _, fun i => h12 _, fun i j => h13 _, fun i => h14 _, fun i j => h15 _, fun i => h16 _, fun l q i j => h17 _, fun l q i j => h18 _, fun l q i j => h19 _, fun l i j => h20 _, fun l i j => h21 _, fun l i j => h22 _, fun l i j => h23 _⟩

/-- Arguments equal to ones that hold the parameters hold them too. -/
theorem Given.congr {P : Par} {a0 b0 : FVec Ideal ⟨2, ![2048, 128]⟩ .f32} (e0 : b0 = a0)
    {a1 b1 : FVec Ideal ⟨2, ![6144, 128]⟩ .f32} (e1 : b1 = a1)
    {a2 b2 : FVec Ideal ⟨2, ![4096, 128]⟩ .f32} (e2 : b2 = a2)
    {a3 b3 : FVec Ideal ⟨1, ![128]⟩ .f32} (e3 : b3 = a3)
    {a4 b4 : FVec Ideal ⟨2, ![2048, 128]⟩ .f32} (e4 : b4 = a4)
    {a5 b5 : FVec Ideal ⟨1, ![128]⟩ .f32} (e5 : b5 = a5)
    {a6 b6 : FVec Ideal ⟨2, ![6144, 128]⟩ .f32} (e6 : b6 = a6)
    {a7 b7 : FVec Ideal ⟨1, ![128]⟩ .f32} (e7 : b7 = a7)
    {a8 b8 : FVec Ideal ⟨2, ![4096, 128]⟩ .f32} (e8 : b8 = a8)
    {a9 b9 : FVec Ideal ⟨2, ![2048, 6144]⟩ .f32} (e9 : b9 = a9)
    {a10 b10 : FVec Ideal ⟨2, ![6144, 4096]⟩ .f32} (e10 : b10 = a10)
    {a11 b11 : FVec Ideal ⟨2, ![128, 128]⟩ .f32} (e11 : b11 = a11)
    {a12 b12 : FVec Ideal ⟨1, ![128]⟩ .f32} (e12 : b12 = a12)
    {a13 b13 : FVec Ideal ⟨2, ![128, 128]⟩ .f32} (e13 : b13 = a13)
    {a14 b14 : FVec Ideal ⟨1, ![128]⟩ .f32} (e14 : b14 = a14)
    {a15 b15 : FVec Ideal ⟨2, ![128, 128]⟩ .f32} (e15 : b15 = a15)
    {a16 b16 : FVec Ideal ⟨1, ![128]⟩ .f32} (e16 : b16 = a16)
    {a17 b17 : FVec Ideal ⟨4, ![2, 3, 128, 128]⟩ .f32} (e17 : b17 = a17)
    {a18 b18 : FVec Ideal ⟨4, ![2, 3, 128, 128]⟩ .f32} (e18 : b18 = a18)
    {a19 b19 : FVec Ideal ⟨4, ![2, 3, 128, 128]⟩ .f32} (e19 : b19 = a19)
    {a20 b20 : FVec Ideal ⟨3, ![2, 128, 128]⟩ .f32} (e20 : b20 = a20)
    {a21 b21 : FVec Ideal ⟨3, ![2, 128, 128]⟩ .f32} (e21 : b21 = a21)
    {a22 b22 : FVec Ideal ⟨3, ![2, 128, 128]⟩ .f32} (e22 : b22 = a22)
    {a23 b23 : FVec Ideal ⟨3, ![2, 128, 128]⟩ .f32} (e23 : b23 = a23)
    (g : Given a0 a1 a2 a3 a4 a5 a6 a7 a8 a9 a10 a11 a12 a13 a14 a15 a16 a17 a18 a19 a20 a21 a22 a23 P) : Given b0 b1 b2 b3 b4 b5 b6 b7 b8 b9 b10 b11 b12 b13 b14 b15 b16 b17 b18 b19 b20 b21 b22 b23 P := by
  subst e0 e1 e2 e3 e4 e5 e6 e7 e8 e9 e10 e11 e12 e13 e14 e15 e16 e17 e18 e19 e20 e21 e22 e23
  exact g

/-- The array that holds a matrix. -/
def hold {n m : ℕ} (M : Mat n m) : FVec Ideal ⟨2, ![n, m]⟩ .f32 := fun i => ((M (i 0) (i 1) : ℝ) : EReal)

/-- An array that holds a matrix is the one array that does. -/
theorem Is.eq_hold {n m : ℕ} {x : FVec Ideal ⟨2, ![n, m]⟩ .f32} {M : Mat n m} (h : Is x M) : x = hold M :=
  Is.ext h (fun _ _ => rfl) rfl

end Cert.RealMat

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.KernelReal
public import proofs.«01_k».proof.Proof.KernelPacked
public import proofs.«01_k».proof.Proof.ReferenceReal
public import proofs.«01_k».proof.Proof.Given
public import Idealize.ShloMosaic.Adequacy
public import Idealize.ShloMosaic.Init

@[expose] public section

noncomputable section

namespace Cert.Proof

open Idealize.ShloMosaic Idealize.SL.Sem Cert.RealMat

/-- The deployed kernel's run keeps every argument and ends with every counter at zero. -/
theorem frame_kernel : Cert.quiescent_Kernel := fun m ρ _ =>
  (θ_run Cert.Kernel.defs _ _).mono (fun _ h => ⟨fun c => Cert.Kernel.Main.all_args fun r hr => (h.1 c).1 r hr, h.2⟩)
    (Cert.Kernel.Main.run (F := Bits) m ρ)

/-- The same of the kernel over the extended reals. -/
theorem frame_kernelIdeal : Cert.quiescent_KernelIdeal := fun m ρ _ =>
  (θ_run Cert.KernelIdeal.defs _ _).mono (fun _ h => ⟨fun c => Cert.KernelIdeal.Main.all_args fun r hr => (h.1 c).1 r hr, h.2⟩)
    (Cert.KernelIdeal.Main.run (F := Ideal) m ρ)

/-- The reference is a straight-line host program that declares no semaphore. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The parameters that the launch memory of a device holds. -/
def params (m : (ℓ : Loc Cert.KernelIdeal.nD Cert.KernelIdeal.τ Cert.KernelIdeal.sig) → Buf (Elt Ideal) ℓ) (c : Dev Cert.KernelIdeal.nD) : Par :=
  par (m ((c.tc : Thread Cert.KernelIdeal.nD Cert.KernelIdeal.τ).loc Cert.KernelIdeal.main_arg0)) (m ((c.tc : Thread Cert.KernelIdeal.nD Cert.KernelIdeal.τ).loc Cert.KernelIdeal.main_arg1))
     (m ((c.tc : Thread Cert.KernelIdeal.nD Cert.KernelIdeal.τ).loc Cert.KernelIdeal.main_arg2)) (m ((c.tc : Thread Cert.KernelIdeal.nD Cert.KernelIdeal.τ).loc Cert.KernelIdeal.main_arg3))
     (m ((c.tc : Thread Cert.KernelIdeal.nD Cert.KernelIdeal.τ).loc Cert.KernelIdeal.main_arg4)) (m ((c.tc : Thread Cert.KernelIdeal.nD Cert.KernelIdeal.τ).loc Cert.KernelIdeal.main_arg5))
     (m ((c.tc : Thread Cert.KernelIdeal.nD Cert.KernelIdeal.τ).loc Cert.KernelIdeal.main_arg6)) (m ((c.tc : Thread Cert.KernelIdeal.nD Cert.KernelIdeal.τ).loc Cert.KernelIdeal.main_arg7))
     (m ((c.tc : Thread Cert.KernelIdeal.nD Cert.KernelIdeal.τ).loc Cert.KernelIdeal.main_arg8)) (m ((c.tc : Thread Cert.KernelIdeal.nD Cert.KernelIdeal.τ).loc Cert.KernelIdeal.main_arg9))
     (m ((c.tc : Thread Cert.KernelIdeal.nD Cert.KernelIdeal.τ).loc Cert.KernelIdeal.main_arg10)) (m ((c.tc : Thread Cert.KernelIdeal.nD Cert.KernelIdeal.τ).loc Cert.KernelIdeal.main_arg11))
     (m ((c.tc : Thread Cert.KernelIdeal.nD Cert.KernelIdeal.τ).loc Cert.KernelIdeal.main_arg12)) (m ((c.tc : Thread Cert.KernelIdeal.nD Cert.KernelIdeal.τ).loc Cert.KernelIdeal.main_arg13))
     (m ((c.tc : Thread Cert.KernelIdeal.nD Cert.KernelIdeal.τ).loc Cert.KernelIdeal.main_arg14)) (m ((c.tc : Thread Cert.KernelIdeal.nD Cert.KernelIdeal.τ).loc Cert.KernelIdeal.main_arg15))
     (m ((c.tc : Thread Cert.KernelIdeal.nD Cert.KernelIdeal.τ).loc Cert.KernelIdeal.main_arg16)) (m ((c.tc : Thread Cert.KernelIdeal.nD Cert.KernelIdeal.τ).loc Cert.KernelIdeal.main_arg17))
     (m ((c.tc : Thread Cert.KernelIdeal.nD Cert.KernelIdeal.τ).loc Cert.KernelIdeal.main_arg18)) (m ((c.tc : Thread Cert.KernelIdeal.nD Cert.KernelIdeal.τ).loc Cert.KernelIdeal.main_arg19))
     (m ((c.tc : Thread Cert.KernelIdeal.nD Cert.KernelIdeal.τ).loc Cert.KernelIdeal.main_arg20)) (m ((c.tc : Thread Cert.KernelIdeal.nD Cert.KernelIdeal.τ).loc Cert.KernelIdeal.main_arg21))
     (m ((c.tc : Thread Cert.KernelIdeal.nD Cert.KernelIdeal.τ).loc Cert.KernelIdeal.main_arg22)) (m ((c.tc : Thread Cert.KernelIdeal.nD Cert.KernelIdeal.τ).loc Cert.KernelIdeal.main_arg23))

/-- The network's second layer, of the parameters of a device. -/
def net (m : (ℓ : Loc Cert.KernelIdeal.nD Cert.KernelIdeal.τ Cert.KernelIdeal.sig) → Buf (Elt Ideal) ℓ) (c : Dev Cert.KernelIdeal.nD) : Feats :=
  layer (params m c) 1 (layer (params m c) 0 (proj (params m c)))

/-- From finite arguments the kernel and the reference both end with the network's three feature matrices. -/
theorem algebraic : Cert.algebraic_KernelIdeal_ReferenceIdeal_pre_finite := by
  intro m ρ m' ρ' hpre hagree
  have G := fun c => given _ _ _ _ _ _ _ _ _ _ _ _ _ _ _ _ _ _ _ _ _ _ _ _ (hpre c)
  refine ⟨fun c => hold (net m c).h0, fun c => hold (net m c).h1, fun c => hold (net m c).h2, ?_, ?_⟩
  · refine (θ_run Cert.KernelIdeal.defs _ _).mono (fun r h c => ?_) (Cert.KernelIdeal.Main.run (F := Ideal) m ρ)
    obtain ⟨ha, W, hL, h0, h1, h2⟩ := h.1 c
    have hI := Cert.KernelIdeal.Main.holds_left m c hL (G c)
    exact ⟨h0.trans (Cert.KernelIdeal.Main.result0_is hI).eq_hold, h1.trans (Cert.KernelIdeal.Main.result1_is hI).eq_hold,
      h2.trans (Cert.KernelIdeal.Main.result2_is hI).eq_hold, Cert.KernelIdeal.Main.all_args fun r hr => ha r hr⟩
  · refine (θ_run Cert.ReferenceIdeal.defs _ _).mono (fun r h c => ?_) (Cert.ReferenceIdeal.Value.run_is m' ρ')
    obtain ⟨e0, e1, e2, e3, e4, e5, e6, e7, e8, e9, e10, e11, e12, e13, e14, e15, e16, e17, e18, e19, e20, e21, e22, e23⟩ := hagree c
    obtain ⟨h0, h1, h2, ha⟩ := h c (params m c) (Given.congr e0 e1 e2 e3 e4 e5 e6 e7 e8 e9 e10 e11 e12 e13 e14 e15 e16 e17 e18 e19 e20 e21 e22 e23 (G c))
    exact ⟨h0.eq_hold, h1.eq_hold, h2.eq_hold, ha⟩

theorem claim : Cert.Claim := ⟨Cert.Kernel.Gen.facts, Cert.KernelIdeal.Gen.facts, Cert.ReferenceIdeal.Gen.facts, Cert.Pre_finite.facts,
  frame_kernel, frame_kernelIdeal, fun m ρ _ => frame_kernelIdeal m ρ trivial, frame_referenceIdeal,
  fun m ρ _ => frame_referenceIdeal m ρ trivial, trivial, algebraic⟩

end Cert.Proof

end
